-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x2048 : Shape := ⟨3, ![1, 2048, 2048]⟩
abbrev S1x2048x128 : Shape := ⟨3, ![1, 2048, 128]⟩
abbrev S2048x2048 : Shape := ⟨2, ![2048, 2048]⟩
abbrev S2048x1024 : Shape := ⟨2, ![2048, 1024]⟩
abbrev S128 : Shape := ⟨1, ![128]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x128 : S_.BroadcastsInDim S1x2048x128 (![] : Fin 0 → Fin S1x2048x128.rank)
  reducesTo_S1x2048x128_S_d0_1_2 : S1x2048x128.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S2048x1024 .f32) (main_arg7 : FVec F S128 .f32) (main_arg8 : FVec F S128 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x2048x2048 .f32) (main_arg1 : FVec F S1x2048x128 .f32) (main_arg2 : FVec F S1x2048x128 .f32) (main_arg3 : FVec F S2048x2048 .f32) (main_arg4 : FVec F S2048x1024 .f32) (main_arg5 : FVec F S2048x1024 .f32) (main_arg6 : FVec F S2048x2048 .f32) (main_arg7 : FVec F S128 .f32) (main_arg8 : FVec F S128 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x128 .f32 := Host.absf main_arg1
  let main_cst_0 : FVec F S_ .f32 := constant S_ .f32 0x7F800000#32
  let main_v5 : FVec F S1x2048x128 .f32 := broadcastInDim S1x2048x128 ![] bcast_S_S1x2048x128 main_cst_0
  let main_v6 : IVec S1x2048x128 1 := cmpf .olt main_v4 main_v5
  let main_c_1 : IVec S_ 1 := constantI S_ 1 1#1
  let main_v7 : IVec S_ 1 := (fun x v => Host.reduce IntOp.andi x v reducesTo_S1x2048x128_S_d0_1_2 h_S_) main_v6 main_c_1
  let main_v8 : IVec S_ 1 := andi main_v3 main_v7
  let main_v9 : FVec F S1x2048x128 .f32 := Host.absf main_arg2
  let main_cst_2 : FVec F S_ .f32 := constant S_ .f32 0x7F800000#32
  let main_v10 : FVec F S1x2048x128 .f32 := broadcastInDim S1x2048x128 ![] bcast_S_S1x2048x128 main_cst_2
  let main_v11 : IVec S1x2048x128 1 := cmpf .olt main_v9 main_v10
  let main_c_3 : IVec S_ 1 := constantI S_ 1 1#1
  let main_v12 : IVec S_ 1 := (fun x v => Host.reduce IntOp.andi x v reducesTo_S1x2048x128_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg7 main_arg8 main_v13 main_v16
-- ==== Kernel.lean ====
abbrev S1x2048x2048 : Shape := ⟨3, ![1, 2048, 2048]⟩
abbrev S1x2048x128 : Shape := ⟨3, ![1, 2048, 128]⟩
abbrev S2048x2048 : Shape := ⟨2, ![2048, 2048]⟩
abbrev S2048x1024 : Shape := ⟨2, ![2048, 1024]⟩
abbrev S128 : Shape := ⟨1, ![128]⟩
abbrev S2048x128 : Shape := ⟨2, ![2048, 128]⟩
abbrev S1x128 : Shape := ⟨2, ![1, 128]⟩
abbrev S2048x4096 : Shape := ⟨2, ![2048, 4096]⟩
abbrev S256x2048 : Shape := ⟨2, ![256, 2048]⟩
abbrev S256x128 : Shape := ⟨2, ![256, 128]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S256x64 : Shape := ⟨2, ![256, 64]⟩
abbrev S512x512 : Shape := ⟨2, ![512, 512]⟩
abbrev S2048x256 : Shape := ⟨2, ![2048, 256]⟩
abbrev S4x512x512 : Shape := ⟨3, ![4, 512, 512]⟩
abbrev S8x512 : Shape := ⟨2, ![8, 512]⟩
abbrev S512x128 : Shape := ⟨2, ![512, 128]⟩
abbrev S512x32 : Shape := ⟨2, ![512, 32]⟩
abbrev S512x256 : Shape := ⟨2, ![512, 256]⟩
abbrev S1x512x512 : Shape := ⟨3, ![1, 512, 512]⟩
abbrev S512 : Shape := ⟨1, ![512]⟩
abbrev S512x1 : Shape := ⟨2, ![512, 1]⟩
abbrev S8x32 : Shape := ⟨2, ![8, 32]⟩
abbrev S16x32 : Shape := ⟨2, ![16, 32]⟩
abbrev S16x1 : Shape := ⟨2, ![16, 1]⟩
abbrev S16x31 : Shape := ⟨2, ![16, 31]⟩
abbrev S16x2 : Shape := ⟨2, ![16, 2]⟩
abbrev S16x30 : Shape := ⟨2, ![16, 30]⟩
abbrev S16x3 : Shape := ⟨2, ![16, 3]⟩
abbrev S16x29 : Shape := ⟨2, ![16, 29]⟩
abbrev S16x4 : Shape := ⟨2, ![16, 4]⟩
abbrev S16x28 : Shape := ⟨2, ![16, 28]⟩
abbrev S16x5 : Shape := ⟨2, ![16, 5]⟩
abbrev S16x27 : Shape := ⟨2, ![16, 27]⟩
abbrev S16x6 : Shape := ⟨2, ![16, 6]⟩
abbrev S16x26 : Shape := ⟨2, ![16, 26]⟩
abbrev S16x7 : Shape := ⟨2, ![16, 7]⟩
abbrev S16x25 : Shape := ⟨2, ![16, 25]⟩
abbrev S16x8 : Shape := ⟨2, ![16, 8]⟩
abbrev S16x24 : Shape := ⟨2, ![16, 24]⟩
abbrev S16x9 : Shape := ⟨2, ![16, 9]⟩
abbrev S16x23 : Shape := ⟨2, ![16, 23]⟩
abbrev S16x10 : Shape := ⟨2, ![16, 10]⟩
abbrev S16x22 : Shape := ⟨2, ![16, 22]⟩
abbrev S16x11 : Shape := ⟨2, ![16, 11]⟩
abbrev S16x21 : Shape := ⟨2, ![16, 21]⟩
abbrev S16x12 : Shape := ⟨2, ![16, 12]⟩
abbrev S16x20 : Shape := ⟨2, ![16, 20]⟩
abbrev S16x13 : Shape := ⟨2, ![16, 13]⟩
abbrev S16x19 : Shape := ⟨2, ![16, 19]⟩
abbrev S16x14 : Shape := ⟨2, ![16, 14]⟩
abbrev S16x18 : Shape := ⟨2, ![16, 18]⟩
abbrev S16x15 : Shape := ⟨2, ![16, 15]⟩
abbrev S16x17 : Shape := ⟨2, ![16, 17]⟩
abbrev S16x16 : Shape := ⟨2, ![16, 16]⟩
abbrev S8x1x32 : Shape := ⟨3, ![8, 1, 32]⟩
abbrev S8x64x32 : Shape := ⟨3, ![8, 64, 32]⟩
abbrev S32x512 : Shape := ⟨2, ![32, 512]⟩
abbrev S8x1x512 : Shape := ⟨3, ![8, 1, 512]⟩
abbrev S8x64x512 : Shape := ⟨3, ![8, 64, 512]⟩
abbrev S512x2048 : Shape := ⟨2, ![512, 2048]⟩

abbrev nBuf : Space → Nat
  | .hbm => 18
  | .vmem => 30
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S128, .f32⟩
  | .hbm, ⟨8, _⟩ => ⟨S128, .f32⟩
  | .hbm, ⟨9, _⟩ => ⟨S2048x2048, .f32⟩
  | .hbm, ⟨10, _⟩ => ⟨S2048x128, .f32⟩
  | .hbm, ⟨11, _⟩ => ⟨S2048x128, .f32⟩
  | .hbm, ⟨12, _⟩ => ⟨S1x128, .f32⟩
  | .hbm, ⟨13, _⟩ => ⟨S1x128, .f32⟩
  | .hbm, ⟨14, _⟩ => ⟨S2048x4096, .f32⟩
  | .hbm, ⟨15, _⟩ => ⟨S2048x2048, .f32⟩
  | .hbm, ⟨16, _⟩ => ⟨S2048x2048, .f32⟩
  | .hbm, ⟨17, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S2048x1024, .f32⟩
  | .local _ .vmem, ⟨4, _⟩ => ⟨S2048x1024, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S256x4096, .f32⟩
  | .local _ .vmem, ⟨12, _⟩ => ⟨S256x4096, .f32⟩
  | .local _ .vmem, ⟨13, _⟩ => ⟨S512x512, .f32⟩
  | .local _ .vmem, ⟨14, _⟩ => ⟨S512x512, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S512x512, .f32⟩
  | .local _ .vmem, ⟨20, _⟩ => ⟨S512x512, .f32⟩
  | .local _ .vmem, ⟨21, _⟩ => ⟨S4x512x512, .f32⟩
  | .local _ .vmem, ⟨22, _⟩ => ⟨S4x512x512, .f32⟩
  | .local _ .vmem, ⟨23, _⟩ => ⟨S4x512x512, .f32⟩
  | .local _ .vmem, ⟨24, _⟩ => ⟨S4x512x512, .f32⟩
  | .local _ .vmem, ⟨25, _⟩ => ⟨S512x2048, .f32⟩
  | .local _ .vmem, ⟨26, _⟩ => ⟨S512x2048, .f32⟩
  | .local _ .vmem, ⟨27, _⟩ => ⟨S2048x2048, .f32⟩
  | .local _ .vmem, ⟨28, _⟩ => ⟨S512x2048, .f32⟩
  | .local _ .vmem, ⟨29, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 4], ![false, false]⟩

@[reducible] def k1_t1_loop (i : grid1.Coords) : Scf.Loop 32 :=
  let c0_i32_8 : BitVec 32 := 0#32
  let arg1 : BitVec 32 := BitVec.ofNat 32 (i 1).val
  let v42 : BitVec 32 := Scalar.subi arg1 c0_i32_8
  let c1_i32_9 : BitVec 32 := 1#32
  let v44 : BitVec 32 := Scalar.divsi v42 c1_i32_9
  let v45 : BitVec 32 := Scalar.muli v44 c1_i32_9
  let v46 : BitVec 32 := Scalar.addi c0_i32_8 v45
  let c1_i32_10 : BitVec 32 := 1#32
  ⟨c0_i32_8, v46, c1_i32_10⟩
def k1_off1 (i : grid1.Coords) (k1_t1 : Fin (k1_t1_loop i).trips) : Fin 2 → Nat :=
  let c0_i32_8 : BitVec 32 := 0#32
  let c1_i32_10 : BitVec 32 := 1#32
  let arg10 : BitVec 32 := Scf.iv c0_i32_8 c1_i32_10 k1_t1
  let c512_i32_90 : BitVec 32 := 512#32
  let v661 : BitVec 32 := Scalar.muli arg10 c512_i32_90
  let v662 : Index := Scalar.indexCast v661
  let c0_91 : Index := 0#32
  ![v662.toNat, 0]
def k1_off2 (i : grid1.Coords) (k1_t1 : Fin (k1_t1_loop i).trips) : Fin 3 → Nat :=
  let c0_i32_8 : BitVec 32 := 0#32
  let c1_i32_10 : BitVec 32 := 1#32
  let arg10 : BitVec 32 := Scf.iv c0_i32_8 c1_i32_10 k1_t1
  let v703 : Index := Scalar.indexCast arg10
  let c0_102 : Index := 0#32
  let c0_103 : Index := 0#32
  ![v703.toNat, 0, 0]
@[reducible] def k1_t2_loop (i : grid1.Coords) : Scf.Loop 32 :=
  let c0_i32_8 : BitVec 32 := 0#32
  let arg1 : BitVec 32 := BitVec.ofNat 32 (i 1).val
  let v42 : BitVec 32 := Scalar.subi arg1 c0_i32_8
  let c1_i32_9 : BitVec 32 := 1#32
  let v44 : BitVec 32 := Scalar.divsi v42 c1_i32_9
  let v45 : BitVec 32 := Scalar.muli v44 c1_i32_9
  let v46 : BitVec 32 := Scalar.addi c0_i32_8 v45
  let v43 : BitVec 32 := Scalar.addi c0_i32_8 v42
  let c1_i32_11 : BitVec 32 := 1#32
  ⟨v46, v43, c1_i32_11⟩
def k1_off3 (i : grid1.Coords) (k1_t2 : Fin (k1_t2_loop i).trips) : Fin 2 → Nat :=
  let c0_i32_8 : BitVec 32 := 0#32
  let arg1 : BitVec 32 := BitVec.ofNat 32 (i 1).val
  let v42 : BitVec 32 := Scalar.subi arg1 c0_i32_8
  let c1_i32_9 : BitVec 32 := 1#32
  let v44 : BitVec 32 := Scalar.divsi v42 c1_i32_9
  let v45 : BitVec 32 := Scalar.muli v44 c1_i32_9
  let v46 : BitVec 32 := Scalar.addi c0_i32_8 v45
  let c1_i32_11 : BitVec 32 := 1#32
  let arg10 : BitVec 32 := Scf.iv v46 c1_i32_11 k1_t2
  let c512_i32_90 : BitVec 32 := 512#32
  let v661 : BitVec 32 := Scalar.muli arg10 c512_i32_90
  let v662 : Index := Scalar.indexCast v661
  let c0_91 : Index := 0#32
  ![v662.toNat, 0]
def k1_off4 (i : grid1.Coords) (k1_t2 : Fin (k1_t2_loop i).trips) : Fin 3 → Nat :=
  let c0_i32_8 : BitVec 32 := 0#32
  let arg1 : BitVec 32 := BitVec.ofNat 32 (i 1).val
  let v42 : BitVec 32 := Scalar.subi arg1 c0_i32_8
  let c1_i32_9 : BitVec 32 := 1#32
  let v44 : BitVec 32 := Scalar.divsi v42 c1_i32_9
  let v45 : BitVec 32 := Scalar.muli v44 c1_i32_9
  let v46 : BitVec 32 := Scalar.addi c0_i32_8 v45
  let c1_i32_11 : BitVec 32 := 1#32
  let arg10 : BitVec 32 := Scf.iv v46 c1_i32_11 k1_t2
  let v703 : Index := Scalar.indexCast arg10
  let c0_102 : Index := 0#32
  let c0_103 : Index := 0#32
  ![v703.toNat, 0, 0]
def k1_off5 (i : grid1.Coords) : Fin 2 → Nat :=
  let arg1 : BitVec 32 := BitVec.ofNat 32 (i 1).val
  let c512_i32 : BitVec 32 := 512#32
  let v49 : BitVec 32 := Scalar.muli arg1 c512_i32
  let v50 : Index := Scalar.indexCast v49
  let c0_12 : Index := 0#32
  ![v50.toNat, 0]
def k1_off6 (i : grid1.Coords) : Fin 3 → Nat :=
  let arg1 : BitVec 32 := BitVec.ofNat 32 (i 1).val
  let v93 : Index := Scalar.indexCast arg1
  let c0_24 : Index := 0#32
  let c0_25 : Index := 0#32
  ![v93.toNat, 0, 0]
@[reducible] def k1_t3_loop (i : grid1.Coords) : Scf.Loop 32 :=
  let c0_i32_84 : BitVec 32 := 0#32
  let arg1 : BitVec 32 := BitVec.ofNat 32 (i 1).val
  let c1_i32_83 : BitVec 32 := 1#32
  let v643 : BitVec 32 := Scalar.addi arg1 c1_i32_83
  let v644 : BitVec 32 := Scalar.subi v643 c0_i32_84
  let c1_i32_85 : BitVec 32 := 1#32
  let v646 : BitVec 32 := Scalar.divsi v644 c1_i32_85
  let v647 : BitVec 32 := Scalar.muli v646 c1_i32_85
  let v648 : BitVec 32 := Scalar.addi c0_i32_84 v647
  let c1_i32_86 : BitVec 32 := 1#32
  ⟨c0_i32_84, v648, c1_i32_86⟩
def k1_off7 (i : grid1.Coords) (k1_t3 : Fin (k1_t3_loop i).trips) : Fin 2 → Nat :=
  let c0_i32_84 : BitVec 32 := 0#32
  let c1_i32_86 : BitVec 32 := 1#32
  let arg10 : BitVec 32 := Scf.iv c0_i32_84 c1_i32_86 k1_t3
  let c512_i32_90 : BitVec 32 := 512#32
  let v661 : BitVec 32 := Scalar.muli arg10 c512_i32_90
  let v662 : Index := Scalar.indexCast v661
  let c0_91 : Index := 0#32
  ![v662.toNat, 0]
def k1_off8 (i : grid1.Coords) (k1_t3 : Fin (k1_t3_loop i).trips) : Fin 3 → Nat :=
  let c0_i32_84 : BitVec 32 := 0#32
  let c1_i32_86 : BitVec 32 := 1#32
  let arg10 : BitVec 32 := Scf.iv c0_i32_84 c1_i32_86 k1_t3
  let v706 : Index := Scalar.indexCast arg10
  let c0_102 : Index := 0#32
  let c0_103 : Index := 0#32
  ![v706.toNat, 0, 0]
@[reducible] def k1_t4_loop (i : grid1.Coords) : Scf.Loop 32 :=
  let c0_i32_84 : BitVec 32 := 0#32
  let arg1 : BitVec 32 := BitVec.ofNat 32 (i 1).val
  let c1_i32_83 : BitVec 32 := 1#32
  let v643 : BitVec 32 := Scalar.addi arg1 c1_i32_83
  let v644 : BitVec 32 := Scalar.subi v643 c0_i32_84
  let c1_i32_85 : BitVec 32 := 1#32
  let v646 : BitVec 32 := Scalar.divsi v644 c1_i32_85
  let v647 : BitVec 32 := Scalar.muli v646 c1_i32_85
  let v648 : BitVec 32 := Scalar.addi c0_i32_84 v647
  let v645 : BitVec 32 := Scalar.addi c0_i32_84 v644
  let c1_i32_87 : BitVec 32 := 1#32
  ⟨v648, v645, c1_i32_87⟩
def k1_off9 (i : grid1.Coords) (k1_t4 : Fin (k1_t4_loop i).trips) : Fin 2 → Nat :=
  let c0_i32_84 : BitVec 32 := 0#32
  let arg1 : BitVec 32 := BitVec.ofNat 32 (i 1).val
  let c1_i32_83 : BitVec 32 := 1#32
  let v643 : BitVec 32 := Scalar.addi arg1 c1_i32_83
  let v644 : BitVec 32 := Scalar.subi v643 c0_i32_84
  let c1_i32_85 : BitVec 32 := 1#32
  let v646 : BitVec 32 := Scalar.divsi v644 c1_i32_85
  let v647 : BitVec 32 := Scalar.muli v646 c1_i32_85
  let v648 : BitVec 32 := Scalar.addi c0_i32_84 v647
  let c1_i32_87 : BitVec 32 := 1#32
  let arg10 : BitVec 32 := Scf.iv v648 c1_i32_87 k1_t4
  let c512_i32_90 : BitVec 32 := 512#32
  let v661 : BitVec 32 := Scalar.muli arg10 c512_i32_90
  let v662 : Index := Scalar.indexCast v661
  let c0_91 : Index := 0#32
  ![v662.toNat, 0]
def k1_off10 (i : grid1.Coords) (k1_t4 : Fin (k1_t4_loop i).trips) : Fin 3 → Nat :=
  let c0_i32_84 : BitVec 32 := 0#32
  let arg1 : BitVec 32 := BitVec.ofNat 32 (i 1).val
  let c1_i32_83 : BitVec 32 := 1#32
  let v643 : BitVec 32 := Scalar.addi arg1 c1_i32_83
  let v644 : BitVec 32 := Scalar.subi v643 c0_i32_84
  let c1_i32_85 : BitVec 32 := 1#32
  let v646 : BitVec 32 := Scalar.divsi v644 c1_i32_85
  let v647 : BitVec 32 := Scalar.muli v646 c1_i32_85
  let v648 : BitVec 32 := Scalar.addi c0_i32_84 v647
  let c1_i32_87 : BitVec 32 := 1#32
  let arg10 : BitVec 32 := Scf.iv v648 c1_i32_87 k1_t4
  let v706 : Index := Scalar.indexCast arg10
  let c0_102 : Index := 0#32
  let c0_103 : Index := 0#32
  ![v706.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S1x2048x2048 : Shape := ⟨3, ![1, 2048, 2048]⟩
abbrev S1x2048x128 : Shape := ⟨3, ![1, 2048, 128]⟩
abbrev S2048x2048 : Shape := ⟨2, ![2048, 2048]⟩
abbrev S2048x1024 : Shape := ⟨2, ![2048, 1024]⟩
abbrev S128 : Shape := ⟨1, ![128]⟩
abbrev S1x2048x16x128 : Shape := ⟨4, ![1, 2048, 16, 128]⟩
abbrev S1x2048x1024 : Shape := ⟨3, ![1, 2048, 1024]⟩
abbrev S1x2048x8x128 : Shape := ⟨4, ![1, 2048, 8, 128]⟩
abbrev S_ : Shape := ⟨0, ![]⟩
abbrev S1x2048x16 : Shape := ⟨3, ![1, 2048, 16]⟩
abbrev S1x2048x16x1 : Shape := ⟨4, ![1, 2048, 16, 1]⟩
abbrev S1x1x1x128 : Shape := ⟨4, ![1, 1, 1, 128]⟩
abbrev S1x2048x8 : Shape := ⟨3, ![1, 2048, 8]⟩
abbrev S1x2048x8x1 : Shape := ⟨4, ![1, 2048, 8, 1]⟩
abbrev S1x2048x1x128 : Shape := ⟨4, ![1, 2048, 1, 128]⟩
abbrev S1x2048x16x64 : Shape := ⟨4, ![1, 2048, 16, 64]⟩
abbrev S1x2048x8x64 : Shape := ⟨4, ![1, 2048, 8, 64]⟩
abbrev S1x16x2048x128 : Shape := ⟨4, ![1, 16, 2048, 128]⟩
abbrev S1x8x2048x128 : Shape := ⟨4, ![1, 8, 2048, 128]⟩
abbrev S1x8x2x2048x128 : Shape := ⟨5, ![1, 8, 2, 2048, 128]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x16x32x64x32x64 : Shape := ⟨6, ![1, 16, 32, 64, 32, 64]⟩
abbrev S1x16x32x32 : Shape := ⟨4, ![1, 16, 32, 32]⟩
abbrev S1x8x2x32x32 : Shape := ⟨5, ![1, 8, 2, 32, 32]⟩
abbrev S1x8x32x32 : Shape := ⟨4, ![1, 8, 32, 32]⟩
abbrev S32x32 : Shape := ⟨2, ![32, 32]⟩
abbrev S1x8x32x16 : Shape := ⟨4, ![1, 8, 32, 16]⟩
abbrev S1 : Shape := ⟨1, ![1]⟩
abbrev S1x1x1x1 : Shape := ⟨4, ![1, 1, 1, 1]⟩
abbrev S8 : Shape := ⟨1, ![8]⟩
abbrev S1x8x1x1 : Shape := ⟨4, ![1, 8, 1, 1]⟩
abbrev S32 : Shape := ⟨1, ![32]⟩
abbrev S1x1x32x1 : Shape := ⟨4, ![1, 1, 32, 1]⟩
abbrev S1x8x32x16x1 : Shape := ⟨5, ![1, 8, 32, 16, 1]⟩
abbrev S1x8x32x16x4 : Shape := ⟨5, ![1, 8, 32, 16, 4]⟩
abbrev S32x1 : Shape := ⟨2, ![32, 1]⟩
abbrev S1x32 : Shape := ⟨2, ![1, 32]⟩
abbrev S1x1x32x32 : Shape := ⟨4, ![1, 1, 32, 32]⟩
abbrev S1x16x32x64x32 : Shape := ⟨5, ![1, 16, 32, 64, 32]⟩
abbrev S1x16x2048x32 : Shape := ⟨4, ![1, 16, 2048, 32]⟩
abbrev S1x16x2048x32x64 : Shape := ⟨5, ![1, 16, 2048, 32, 64]⟩
abbrev S1x1x2048x2048 : Shape := ⟨4, ![1, 1, 2048, 2048]⟩

abbrev nBuf : Space → Nat
  | .hbm => 235
  | .vmem => 0
  | .smem => 0
  | _ => 0

abbrev hbmTy0_0 (i : Nat) : BufTy := match i % 128 with
  | 0 => ⟨S1x2048x2048, .f32⟩
  | 1 => ⟨S1x2048x128, .f32⟩
  | 2 => ⟨S1x2048x128, .f32⟩
  | 3 => ⟨S2048x2048, .f32⟩
  | 4 => ⟨S2048x1024, .f32⟩
  | 5 => ⟨S2048x1024, .f32⟩
  | 6 => ⟨S2048x2048, .f32⟩
  | 7 => ⟨S128, .f32⟩
  | 8 => ⟨S128, .f32⟩
  | 9 => ⟨S1x2048x2048, .f32⟩
  | 10 => ⟨S1x2048x16x128, .f32⟩
  | 11 => ⟨S1x2048x1024, .f32⟩
  | 12 => ⟨S1x2048x8x128, .f32⟩
  | 13 => ⟨S1x2048x1024, .f32⟩
  | 14 => ⟨S1x2048x8x128, .f32⟩
  | 15 => ⟨S1x2048x16x128, .f32⟩
  | 16 => ⟨S_, .f32⟩
  | 17 => ⟨S1x2048x16, .f32⟩
  | 18 => ⟨S1x2048x16x1, .f32⟩
  | 19 => ⟨S_, .f32⟩
  | 20 => ⟨S1x2048x16x1, .f32⟩
  | 21 => ⟨S1x2048x16x1, .f32⟩
  | 22 => ⟨S_, .f32⟩
  | 23 => ⟨S1x2048x16x1, .f32⟩
  | 24 => ⟨S1x2048x16x1, .f32⟩
  | 25 => ⟨S1x2048x16x1, .f32⟩
  | 26 => ⟨S1x2048x16x128, .f32⟩
  | 27 => ⟨S1x2048x16x128, .f32⟩
  | 28 => ⟨S1x1x1x128, .f32⟩
  | 29 => ⟨S1x2048x16x128, .f32⟩
  | 30 => ⟨S1x2048x16x128, .f32⟩
  | 31 => ⟨S1x2048x8x128, .f32⟩
  | 32 => ⟨S_, .f32⟩
  | 33 => ⟨S1x2048x8, .f32⟩
  | 34 => ⟨S1x2048x8x1, .f32⟩
  | 35 => ⟨S_, .f32⟩
  | 36 => ⟨S1x2048x8x1, .f32⟩
  | 37 => ⟨S1x2048x8x1, .f32⟩
  | 38 => ⟨S_, .f32⟩
  | 39 => ⟨S1x2048x8x1, .f32⟩
  | 40 => ⟨S1x2048x8x1, .f32⟩
  | 41 => ⟨S1x2048x8x1, .f32⟩
  | 42 => ⟨S1x2048x8x128, .f32⟩
  | 43 => ⟨S1x2048x8x128, .f32⟩
  | 44 => ⟨S1x1x1x128, .f32⟩
  | 45 => ⟨S1x2048x8x128, .f32⟩
  | 46 => ⟨S1x2048x8x128, .f32⟩
  | 47 => ⟨S1x2048x1x128, .f32⟩
  | 48 => ⟨S1x2048x1x128, .f32⟩
  | 49 => ⟨S1x2048x16x128, .f32⟩
  | 50 => ⟨S1x2048x16x128, .f32⟩
  | 51 => ⟨S1x2048x16x64, .f32⟩
  | 52 => ⟨S1x2048x16x64, .f32⟩
  | 53 => ⟨S1x2048x16x64, .f32⟩
  | 54 => ⟨S1x2048x16x128, .f32⟩
  | 55 => ⟨S1x2048x16x128, .f32⟩
  | 56 => ⟨S1x2048x16x128, .f32⟩
  | 57 => ⟨S1x2048x16x128, .f32⟩
  | 58 => ⟨S1x2048x8x128, .f32⟩
  | 59 => ⟨S1x2048x8x128, .f32⟩
  | 60 => ⟨S1x2048x8x64, .f32⟩
  | 61 => ⟨S1x2048x8x64, .f32⟩
  | 62 => ⟨S1x2048x8x64, .f32⟩
  | 63 => ⟨S1x2048x8x128, .f32⟩
  | 64 => ⟨S1x2048x8x128, .f32⟩
  | 65 => ⟨S1x2048x8x128, .f32⟩
  | 66 => ⟨S1x2048x8x128, .f32⟩
  | 67 => ⟨S1x16x2048x128, .f32⟩
  | 68 => ⟨S1x8x2048x128, .f32⟩
  | 69 => ⟨S1x8x2048x128, .f32⟩
  | 70 => ⟨S1x8x2x2048x128, .f32⟩
  | 71 => ⟨S1x16x2048x128, .f32⟩
  | 72 => ⟨S1x8x2x2048x128, .f32⟩
  | 73 => ⟨S1x16x2048x128, .f32⟩
  | 74 => ⟨S1x16x2048x2048, .f32⟩
  | 75 => ⟨S_, .f32⟩
  | 76 => ⟨S1x16x2048x2048, .f32⟩
  | 77 => ⟨S1x16x2048x2048, .f32⟩
  | 78 => ⟨S_, .i1⟩
  | 79 => ⟨S2048x2048, .i1⟩
  | 80 => ⟨S2048x2048, .i32⟩
  | 81 => ⟨S_, .i32⟩
  | 82 => ⟨S2048x2048, .i32⟩
  | 83 => ⟨S2048x2048, .i32⟩
  | 84 => ⟨S2048x2048, .i32⟩
  | 85 => ⟨S2048x2048, .i1⟩
  | 86 => ⟨S_, .i1⟩
  | 87 => ⟨S2048x2048, .i1⟩
  | 88 => ⟨S2048x2048, .i1⟩
  | 89 => ⟨S_, .f32⟩
  | 90 => ⟨S_, .f32⟩
  | 91 => ⟨S1x16x2048x2048, .i1⟩
  | 92 => ⟨S1x16x2048x2048, .f32⟩
  | 93 => ⟨S1x16x2048x2048, .f32⟩
  | 94 => ⟨S_, .f32⟩
  | 95 => ⟨S1x16x2048, .f32⟩
  | 96 => ⟨S_, .f32⟩
  | 97 => ⟨S1x16x2048, .f32⟩
  | 98 => ⟨S1x16x2048, .f32⟩
  | 99 => ⟨S1x16x2048x1, .f32⟩
  | 100 => ⟨S1x16x2048x2048, .f32⟩
  | 101 => ⟨S1x16x2048x2048, .f32⟩
  | 102 => ⟨S1x16x2048x2048, .f32⟩
  | 103 => ⟨S_, .f32⟩
  | 104 => ⟨S1x16x2048, .f32⟩
  | 105 => ⟨S1x16x2048x1, .f32⟩
  | 106 => ⟨S1x16x2048x2048, .f32⟩
  | 107 => ⟨S1x16x2048x2048, .f32⟩
  | 108 => ⟨S1x16x32x64x32x64, .f32⟩
  | 109 => ⟨S_, .f32⟩
  | 110 => ⟨S1x16x32x32, .f32⟩
  | 111 => ⟨S1x8x2x32x32, .f32⟩
  | 112 => ⟨S_, .f32⟩
  | 113 => ⟨S1x8x32x32, .f32⟩
  | 114 => ⟨S_, .i1⟩
  | 115 => ⟨S32x32, .i1⟩
  | 116 => ⟨S32x32, .i32⟩
  | 117 => ⟨S_, .i32⟩
  | 118 => ⟨S32x32, .i32⟩
  | 119 => ⟨S32x32, .i32⟩
  | 120 => ⟨S32x32, .i32⟩
  | 121 => ⟨S32x32, .i1⟩
  | 122 => ⟨S_, .i1⟩
  | 123 => ⟨S32x32, .i1⟩
  | 124 => ⟨S32x32, .i1⟩
  | 125 => ⟨S_, .f32⟩
  | 126 => ⟨S_, .f32⟩
  | 127 => ⟨S1x8x32x32, .i1⟩
  | _ => ⟨S1x2048x2048, .f32⟩

abbrev hbmTy0_1 (i : Nat) : BufTy := match i % 128 with
  | 0 => ⟨S1x8x32x32, .f32⟩
  | 1 => ⟨S1x8x32x32, .f32⟩
  | 2 => ⟨S1x8x32x16, .f32⟩
  | 3 => ⟨S1x8x32x16, .i32⟩
  | 4 => ⟨S_, .i1⟩
  | 5 => ⟨S1x8x32x32, .i1⟩
  | 6 => ⟨S1, .i32⟩
  | 7 => ⟨S1x1x1x1, .i32⟩
  | 8 => ⟨S8, .i32⟩
  | 9 => ⟨S1x8x1x1, .i32⟩
  | 10 => ⟨S32, .i32⟩
  | 11 => ⟨S1x1x32x1, .i32⟩
  | 12 => ⟨S_, .i32⟩
  | 13 => ⟨S1x1x1x1, .i32⟩
  | 14 => ⟨S1x1x1x1, .i1⟩
  | 15 => ⟨S_, .i32⟩
  | 16 => ⟨S1x1x1x1, .i32⟩
  | 17 => ⟨S1x1x1x1, .i32⟩
  | 18 => ⟨S1x1x1x1, .i32⟩
  | 19 => ⟨S_, .i32⟩
  | 20 => ⟨S1x8x1x1, .i32⟩
  | 21 => ⟨S1x8x1x1, .i1⟩
  | 22 => ⟨S_, .i32⟩
  | 23 => ⟨S1x8x1x1, .i32⟩
  | 24 => ⟨S1x8x1x1, .i32⟩
  | 25 => ⟨S1x8x1x1, .i32⟩
  | 26 => ⟨S_, .i32⟩
  | 27 => ⟨S1x1x32x1, .i32⟩
  | 28 => ⟨S1x1x32x1, .i1⟩
  | 29 => ⟨S_, .i32⟩
  | 30 => ⟨S1x1x32x1, .i32⟩
  | 31 => ⟨S1x1x32x1, .i32⟩
  | 32 => ⟨S1x1x32x1, .i32⟩
  | 33 => ⟨S_, .i32⟩
  | 34 => ⟨S1x8x32x16, .i32⟩
  | 35 => ⟨S1x8x32x16, .i1⟩
  | 36 => ⟨S_, .i32⟩
  | 37 => ⟨S1x8x32x16, .i32⟩
  | 38 => ⟨S1x8x32x16, .i32⟩
  | 39 => ⟨S1x8x32x16, .i32⟩
  | 40 => ⟨S1x8x32x16, .i32⟩
  | 41 => ⟨S1x8x32x16, .i32⟩
  | 42 => ⟨S1x8x32x16, .i32⟩
  | 43 => ⟨S1x8x32x16x1, .i32⟩
  | 44 => ⟨S1x8x32x16x1, .i32⟩
  | 45 => ⟨S1x8x32x16x1, .i32⟩
  | 46 => ⟨S1x8x32x16x1, .i32⟩
  | 47 => ⟨S1x8x32x16x4, .i32⟩
  | 48 => ⟨S_, .i1⟩
  | 49 => ⟨S1x8x32x16, .i1⟩
  | 50 => ⟨S1x8x32x32, .i1⟩
  | 51 => ⟨S32, .i32⟩
  | 52 => ⟨S32x1, .i32⟩
  | 53 => ⟨S32, .i32⟩
  | 54 => ⟨S1x32, .i32⟩
  | 55 => ⟨S32x32, .i32⟩
  | 56 => ⟨S32x32, .i32⟩
  | 57 => ⟨S32x32, .i32⟩
  | 58 => ⟨S_, .i32⟩
  | 59 => ⟨S32x32, .i32⟩
  | 60 => ⟨S32x32, .i1⟩
  | 61 => ⟨S32x32, .i32⟩
  | 62 => ⟨S32x32, .i32⟩
  | 63 => ⟨S32x32, .i1⟩
  | 64 => ⟨S32x32, .i1⟩
  | 65 => ⟨S_, .i32⟩
  | 66 => ⟨S1x32, .i32⟩
  | 67 => ⟨S1x32, .i1⟩
  | 68 => ⟨S32x32, .i1⟩
  | 69 => ⟨S32x32, .i1⟩
  | 70 => ⟨S1x1x32x32, .i1⟩
  | 71 => ⟨S1x8x32x32, .i1⟩
  | 72 => ⟨S1x8x32x32, .i1⟩
  | 73 => ⟨S1x1x32x32, .i1⟩
  | 74 => ⟨S1x8x32x32, .i1⟩
  | 75 => ⟨S1x8x32x32, .i1⟩
  | 76 => ⟨S1x8x2x32x32, .i1⟩
  | 77 => ⟨S1x16x32x32, .i1⟩
  | 78 => ⟨S1x16x32x64x32, .i1⟩
  | 79 => ⟨S1x16x2048x32, .i1⟩
  | 80 => ⟨S1x16x2048x32x64, .i1⟩
  | 81 => ⟨S1x16x2048x2048, .i1⟩
  | 82 => ⟨S1x1x2048x2048, .i1⟩
  | 83 => ⟨S1x16x2048x2048, .i1⟩
  | 84 => ⟨S1x16x2048x2048, .i1⟩
  | 85 => ⟨S_, .f32⟩
  | 86 => ⟨S_, .f32⟩
  | 87 => ⟨S1x16x2048x2048, .f32⟩
  | 88 => ⟨S1x16x2048x2048, .f32⟩
  | 89 => ⟨S_, .f32⟩
  | 90 => ⟨S1x16x2048, .f32⟩
  | 91 => ⟨S_, .f32⟩
  | 92 => ⟨S1x16x2048, .f32⟩
  | 93 => ⟨S1x16x2048, .f32⟩
  | 94 => ⟨S1x16x2048x1, .f32⟩
  | 95 => ⟨S1x16x2048x2048, .f32⟩
  | 96 => ⟨S1x16x2048x2048, .f32⟩
  | 97 => ⟨S1x16x2048x2048, .f32⟩
  | 98 => ⟨S_, .f32⟩
  | 99 => ⟨S1x16x2048, .f32⟩
  | 100 => ⟨S1x16x2048x1, .f32⟩
  | 101 => ⟨S1x16x2048x2048, .f32⟩
  | 102 => ⟨S1x16x2048x2048, .f32⟩
  | 103 => ⟨S1x16x2048x128, .f32⟩
  | 104 => ⟨S1x2048x16x128, .f32⟩
  | 105 => ⟨S1x2048x2048, .f32⟩
  | 106 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_c : Ref sig .tc := ⟨.hbm, 78, rfl⟩
abbrev main_v62 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v63 : Ref sig .tc := ⟨.hbm, 88, rfl⟩
abbrev main_cst_6 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_10 : Ref sig .tc := ⟨.hbm, 109, rfl⟩
abbrev main_v77 : Ref sig .tc := ⟨.hbm, 110, rfl⟩
abbrev main_v78 : Ref sig .tc := ⟨.hbm, 111, rfl⟩
abbrev main_cst_11 : Ref sig .tc := ⟨.hbm, 112, rfl⟩
abbrev main_v79 : Ref sig .tc := ⟨.hbm, 113, rfl⟩
abbrev main_c_12 : Ref sig .tc := ⟨.hbm, 114, rfl⟩
abbrev main_v80 : Ref sig .tc := ⟨.hbm, 115, rfl⟩
abbrev main_call2_v0 : Ref sig .tc := ⟨.hbm, 116, rfl⟩
abbrev main_call2_c : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_c_0 : Ref sig .tc := ⟨.hbm, 122, rfl⟩
abbrev main_call2_v5 : Ref sig .tc := ⟨.hbm, 123, rfl⟩
abbrev main_v81 : Ref sig .tc := ⟨.hbm, 124, rfl⟩
abbrev main_cst_13 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v82 : Ref sig .tc := ⟨.hbm, 129, rfl⟩
abbrev main_values : Ref sig .tc := ⟨.hbm, 130, rfl⟩
abbrev main_indices : Ref sig .tc := ⟨.hbm, 131, rfl⟩
abbrev main_c_14 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_15 : Ref sig .tc := ⟨.hbm, 140, rfl⟩
abbrev main_v90 : Ref sig .tc := ⟨.hbm, 141, rfl⟩
abbrev main_v91 : Ref sig .tc := ⟨.hbm, 142, rfl⟩
abbrev main_c_16 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_17 : Ref sig .tc := ⟨.hbm, 147, rfl⟩
abbrev main_v95 : Ref sig .tc := ⟨.hbm, 148, rfl⟩
abbrev main_v96 : Ref sig .tc := ⟨.hbm, 149, rfl⟩
abbrev main_c_18 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_19 : Ref sig .tc := ⟨.hbm, 154, rfl⟩
abbrev main_v100 : Ref sig .tc := ⟨.hbm, 155, rfl⟩
abbrev main_v101 : Ref sig .tc := ⟨.hbm, 156, rfl⟩
abbrev main_c_20 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_21 : Ref sig .tc := ⟨.hbm, 161, rfl⟩
abbrev main_v105 : Ref sig .tc := ⟨.hbm, 162, rfl⟩
abbrev main_v106 : Ref sig .tc := ⟨.hbm, 163, rfl⟩
abbrev main_c_22 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_23 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_24 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_c_25 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_26 : Ref sig .tc := ⟨.hbm, 213, rfl⟩
abbrev main_call4_v0 : Ref sig .tc := ⟨.hbm, 214, rfl⟩
abbrev main_call4_v1 : Ref sig .tc := ⟨.hbm, 215, rfl⟩
abbrev main_v152 : Ref sig .tc := ⟨.hbm, 216, rfl⟩
abbrev main_cst_27 : Ref sig .tc := ⟨.hbm, 217, rfl⟩
abbrev main_v153 : Ref sig .tc := ⟨.hbm, 218, rfl⟩
abbrev main_cst_28 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_29 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩

abbrev nD : Nat := 1
abbrev τ : Topo := Topo.v7x

variable {F : FTy → Type} [FloatOps F]
-- ==== Proof.KI.Qkv.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

/-! The projection call: its blocks, its body's triple and what it leaves. -/

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x2048 := Rect.unit (s := S256x2048) ![0, 0] S256x2048.size inb_S256x2048_S256x2048_0_0
abbrev r0_1 : Rect S2048x2048 := Rect.unit (s := S2048x2048) ![0, 0] S2048x2048.size inb_S2048x2048_S2048x2048_0_0
abbrev r0_2 : Rect S2048x1024 := Rect.unit (s := S2048x1024) ![0, 0] S2048x1024.size inb_S2048x1024_S2048x1024_0_0
abbrev r0_3 : Rect S256x128 := Rect.unit (s := S256x128) ![0, 0] S256x128.size inb_S256x128_S256x128_0_0
abbrev r0_4 : Rect S1x128 := Rect.unit (s := S1x128) ![0, 0] S1x128.size inb_S1x128_S1x128_0_0
abbrev r0_5 : Rect S256x4096 := Rect.unit (s := S256x4096) ![0, 0] S256x4096.size inb_S256x4096_S256x4096_0_0

def k0_pay56 (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) : FVec F S256x2048 .f32 :=
  k0_pay5 (View.ld x0 r0_0) (View.ld x1 r0_1) -- `v3`
def k0_pay57 (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) : FVec F S256x1024 .f32 :=
  k0_pay6 (View.ld x0 r0_0) (View.ld x2 r0_2) -- `v5`
def k0_pay58 (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) : FVec F S256x128 .f32 :=
  k0_pay8 (View.ld x4 r0_3) -- `v9`
def k0_pay59 (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) : FVec F S256x128 .f32 :=
  k0_pay9 (View.ld x5 r0_3) -- `v11`
def k0_pay60 (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) : FVec F S1x128 .f32 :=
  k0_pay10 (View.ld x6 r0_4) -- `v13`
def k0_pay61 (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) : FVec F S1x128 .f32 :=
  k0_pay11 (View.ld x7 r0_4) -- `v15`

def out0_8 (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) : Vec F S256x4096 .f32 :=
  View.canon [⟨r0_5, k0_pay3 (k0_pay7 (View.ld x0 r0_0) (View.ld x3 r0_2)) (k0_pay15 (k0_pay13 (View.ld x0 r0_0) (View.ld x1 r0_1) (View.ld x4 r0_3) (View.ld x6 r0_4)) (k0_pay14 (View.ld x0 r0_0) (View.ld x1 r0_1) (View.ld x5 r0_3) (View.ld x6 r0_4))) (k0_pay16 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay17 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay20 (k0_pay58 x0 x1 x2 x3 x4 x5 x6 x7) (k0_pay59 x0 x1 x2 x3 x4 x5 x6 x7) (k0_pay60 x0 x1 x2 x3 x4 x5 x6 x7) (k0_pay18 (k0_pay56 x0 x1 x2 x3 x4 x5 x6 x7)) (k0_pay19 (k0_pay56 x0 x1 x2 x3 x4 x5 x6 x7)) (Scalar.ofBits .f32 0x358637BD#32)) (k0_pay21 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay25 (k0_pay58 x0 x1 x2 x3 x4 x5 x6 x7) (k0_pay59 x0 x1 x2 x3 x4 x5 x6 x7) (k0_pay22 (k0_pay56 x0 x1 x2 x3 x4 x5 x6 x7) (k0_pay60 x0 x1 x2 x3 x4 x5 x6 x7)) (k0_pay23 (k0_pay56 x0 x1 x2 x3 x4 x5 x6 x7) (k0_pay60 x0 x1 x2 x3 x4 x5 x6 x7)) (k0_pay24 (F := F))) (k0_pay26 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay27 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay30 (k0_pay58 x0 x1 x2 x3 x4 x5 x6 x7) (k0_pay59 x0 x1 x2 x3 x4 x5 x6 x7) (k0_pay60 x0 x1 x2 x3 x4 x5 x6 x7) (k0_pay28 (k0_pay56 x0 x1 x2 x3 x4 x5 x6 x7)) (k0_pay29 (k0_pay56 x0 x1 x2 x3 x4 x5 x6 x7))) (k0_pay31 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay33 (k0_pay58 x0 x1 x2 x3 x4 x5 x6 x7) (k0_pay59 x0 x1 x2 x3 x4 x5 x6 x7) (k0_pay60 x0 x1 x2 x3 x4 x5 x6 x7) (k0_pay32 (k0_pay56 x0 x1 x2 x3 x4 x5 x6 x7))) (k0_pay34 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay38 (k0_pay36 (k0_pay56 x0 x1 x2 x3 x4 x5 x6 x7) (k0_pay58 x0 x1 x2 x3 x4 x5 x6 x7) (k0_pay60 x0 x1 x2 x3 x4 x5 x6 x7)) (k0_pay37 (k0_pay56 x0 x1 x2 x3 x4 x5 x6 x7) (k0_pay59 x0 x1 x2 x3 x4 x5 x6 x7) (k0_pay60 x0 x1 x2 x3 x4 x5 x6 x7))) (k0_pay39 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay40 (k0_pay56 x0 x1 x2 x3 x4 x5 x6 x7) (k0_pay58 x0 x1 x2 x3 x4 x5 x6 x7) (k0_pay59 x0 x1 x2 x3 x4 x5 x6 x7) (k0_pay60 x0 x1 x2 x3 x4 x5 x6 x7)) (k0_pay43 (k0_pay58 x0 x1 x2 x3 x4 x5 x6 x7) (k0_pay59 x0 x1 x2 x3 x4 x5 x6 x7) (k0_pay60 x0 x1 x2 x3 x4 x5 x6 x7) (k0_pay41 (k0_pay56 x0 x1 x2 x3 x4 x5 x6 x7)) (k0_pay42 (k0_pay56 x0 x1 x2 x3 x4 x5 x6 x7)) (Scalar.ofBits .f32 0x358637BD#32)) (k0_pay44 (k0_pay57 x0 x1 x2 x3 x4 x5 x6 x7) (k0_pay58 x0 x1 x2 x3 x4 x5 x6 x7) (k0_pay59 x0 x1 x2 x3 x4 x5 x6 x7) (k0_pay61 x0 x1 x2 x3 x4 x5 x6 x7)) (k0_pay48 (k0_pay58 x0 x1 x2 x3 x4 x5 x6 x7) (k0_pay59 x0 x1 x2 x3 x4 x5 x6 x7) (k0_pay45 (k0_pay57 x0 x1 x2 x3 x4 x5 x6 x7) (k0_pay61 x0 x1 x2 x3 x4 x5 x6 x7)) (k0_pay46 (k0_pay57 x0 x1 x2 x3 x4 x5 x6 x7) (k0_pay61 x0 x1 x2 x3 x4 x5 x6 x7)) (k0_pay47 (F := F))) (k0_pay49 (k0_pay57 x0 x1 x2 x3 x4 x5 x6 x7) (k0_pay58 x0 x1 x2 x3 x4 x5 x6 x7) (k0_pay59 x0 x1 x2 x3 x4 x5 x6 x7) (k0_pay61 x0 x1 x2 x3 x4 x5 x6 x7)) (k0_pay50 (k0_pay57 x0 x1 x2 x3 x4 x5 x6 x7) (k0_pay58 x0 x1 x2 x3 x4 x5 x6 x7) (k0_pay59 x0 x1 x2 x3 x4 x5 x6 x7) (k0_pay61 x0 x1 x2 x3 x4 x5 x6 x7)) (k0_pay53 (k0_pay58 x0 x1 x2 x3 x4 x5 x6 x7) (k0_pay59 x0 x1 x2 x3 x4 x5 x6 x7) (k0_pay61 x0 x1 x2 x3 x4 x5 x6 x7) (k0_pay51 (k0_pay57 x0 x1 x2 x3 x4 x5 x6 x7)) (k0_pay52 (k0_pay57 x0 x1 x2 x3 x4 x5 x6 x7))) (k0_pay54 (k0_pay57 x0 x1 x2 x3 x4 x5 x6 x7) (k0_pay58 x0 x1 x2 x3 x4 x5 x6 x7) (k0_pay59 x0 x1 x2 x3 x4 x5 x6 x7) (k0_pay61 x0 x1 x2 x3 x4 x5 x6 x7)) (k0_pay1 (k0_pay58 x0 x1 x2 x3 x4 x5 x6 x7) (k0_pay59 x0 x1 x2 x3 x4 x5 x6 x7) (k0_pay61 x0 x1 x2 x3 x4 x5 x6 x7) (k0_pay55 (k0_pay57 x0 x1 x2 x3 x4 x5 x6 x7))) (k0_pay2 (k0_pay57 x0 x1 x2 x3 x4 x5 x6 x7) (k0_pay58 x0 x1 x2 x3 x4 x5 x6 x7) (k0_pay59 x0 x1 x2 x3 x4 x5 x6 x7) (k0_pay61 x0 x1 x2 x3 x4 x5 x6 x7))⟩]

theorem cover0_8 (p0 : Vec F S256x4096 .f32) (y : S256x4096.Idx) :
    ∃ pc ∈ ([⟨r0_5, p0⟩] : List (View.Piece (Elt F) S256x4096 .f32)), y ∈ pc.1.set :=
  View.cover_of_tiled [⟨r0_5, p0⟩] S256x4096.size (by rfl) y

set_option maxHeartbeats 1000000 in
theorem sound_kernel0 (c : Dev nD) (E : Set ℕ) (i : grid0.Coords) (arg1 : Memref sig .tc .vmem S256x2048 .f32) (harg1 : arg1.IsWhole) (arg2 : Memref sig .tc .vmem S2048x2048 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x4096 .f32) (harg9 : arg9.IsWhole)
    (x0 : Vec F S256x2048 .f32) (x1 : Vec F S2048x2048 .f32) (x2 : Vec F S2048x1024 .f32) (x3 : Vec F S2048x1024 .f32) (x4 : Vec F S256x128 .f32) (x5 : Vec F S256x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (cover0_8 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KI.SeerDefs.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! The values of one grid point of the attention call, as functions of the three input blocks. -/

/-- The four running accumulators of a chunk loop: one per query head. -/
abbrev Acc4 (F : FTy → Type) := FVec F S512x32 .f32 × FVec F S512x32 .f32 × FVec F S512x32 .f32 × FVec F S512x32 .f32
abbrev Out4 (F : FTy → Type) := FVec F S512x128 .f32 × FVec F S512x128 .f32 × FVec F S512x128 .f32 × FVec F S512x128 .f32

def qh0 (x0 : Vec F S512x512 .f32) : FVec F S512x128 .f32 :=
  k1_pay44 (View.ld x0 (Rect.unit (s := S512x512) ![0, 0] S512x128.size inb_S512x512_S512x128_0_0))
def qh1 (x0 : Vec F S512x512 .f32) : FVec F S512x128 .f32 :=
  k1_pay45 (View.ld x0 (Rect.unit (s := S512x512) ![0, 128] S512x128.size inb_S512x512_S512x128_0_128))
def qh2 (x0 : Vec F S512x512 .f32) : FVec F S512x128 .f32 :=
  k1_pay46 (View.ld x0 (Rect.unit (s := S512x512) ![0, 256] S512x128.size inb_S512x512_S512x128_0_256))
def qh3 (x0 : Vec F S512x512 .f32) : FVec F S512x128 .f32 :=
  k1_pay47 (View.ld x0 (Rect.unit (s := S512x512) ![0, 384] S512x128.size inb_S512x512_S512x128_0_384))

/-- Key chunk `k` below the diagonal. -/
def kch (i : grid1.Coords) (x1 : Vec F S2048x256 .f32) (k : Fin (k1_t1_loop i).trips) : Vec F S512x256 .f32 :=
  View.ld x1 (Rect.unit (s := S2048x256) (k1_off1 i k) S512x256.size (k1_off1_inb i k))
/-- The diagonal key chunk. -/
def kdg (i : grid1.Coords) (x1 : Vec F S2048x256 .f32) : Vec F S512x256 .f32 :=
  View.ld x1 (Rect.unit (s := S2048x256) (k1_off5 i) S512x256.size (k1_off5_inb i))
/-- Value chunk `k`. -/
def vch (i : grid1.Coords) (x2 : Vec F S2048x256 .f32) (k : Fin (k1_t3_loop i).trips) : Vec F S512x256 .f32 :=
  View.ld x2 (Rect.unit (s := S2048x256) (k1_off7 i k) S512x256.size (k1_off7_inb i k))

/-- What one trip of the first loop adds to the block sums. -/
def stepA (i : grid1.Coords) (q0 q1 q2 q3 : FVec F S512x128 .f32) (x1 : Vec F S2048x256 .f32) (k : Fin (k1_t1_loop i).trips)
    (a : Acc4 F) : Acc4 F :=
  (k1_pay14 a.1 (k1_pay11 i 0#32 1#32 k) (k1_pay12 q0 (kch i x1 k)),
   k1_pay17 q1 a.2.1 (k1_pay10 (kch i x1 k)) (k1_pay11 i 0#32 1#32 k),
   k1_pay20 q2 a.2.2.1 (k1_pay10 (kch i x1 k)) (k1_pay11 i 0#32 1#32 k),
   k1_pay51 q3 a.2.2.2 (k1_pay10 (kch i x1 k)) (k1_pay11 i 0#32 1#32 k))

/-- The block sums after `n` chunks. -/
def accA (i : grid1.Coords) (q0 q1 q2 q3 : FVec F S512x128 .f32) (x1 : Vec F S2048x256 .f32) (a : Acc4 F) : ℕ → Acc4 F
  | 0 => a
  | n + 1 => if h : n < (k1_t1_loop i).trips then stepA i q0 q1 q2 q3 x1 ⟨n, h⟩ (accA i q0 q1 q2 q3 x1 a n) else accA i q0 q1 q2 q3 x1 a n

/-- Chunk `n` of the exponentials, head by head: the stored ones below the diagonal, the masked one on it. -/
def ech0 (i : grid1.Coords) (q0 : FVec F S512x128 .f32) (x1 : Vec F S2048x256 .f32) (n : ℕ) : FVec F S1x512x512 .f32 :=
  if h : n < (k1_t1_loop i).trips then k1_pay13 (k1_pay12 q0 (kch i x1 ⟨n, h⟩))
  else k1_pay59 k1_pay42 q0 (k1_pay57 (kdg i x1)) (constant S512x512 .f32 0x00000000#32)
def ech1 (i : grid1.Coords) (q1 : FVec F S512x128 .f32) (x1 : Vec F S2048x256 .f32) (n : ℕ) : FVec F S1x512x512 .f32 :=
  if h : n < (k1_t1_loop i).trips then k1_pay16 q1 (k1_pay10 (kch i x1 ⟨n, h⟩))
  else k1_pay62 k1_pay42 q1 (k1_pay55 (kdg i x1))
def ech2 (i : grid1.Coords) (q2 : FVec F S512x128 .f32) (x1 : Vec F S2048x256 .f32) (n : ℕ) : FVec F S1x512x512 .f32 :=
  if h : n < (k1_t1_loop i).trips then k1_pay19 q2 (k1_pay10 (kch i x1 ⟨n, h⟩))
  else k1_pay67 k1_pay42 (k1_pay64 q2 (k1_pay55 (kdg i x1))) k1_pay65
def ech3 (i : grid1.Coords) (q3 : FVec F S512x128 .f32) (x1 : Vec F S2048x256 .f32) (n : ℕ) : FVec F S1x512x512 .f32 :=
  if h : n < (k1_t1_loop i).trips then k1_pay50 q3 (k1_pay10 (kch i x1 ⟨n, h⟩))
  else k1_pay70 k1_pay42 q3 (k1_pay55 (kdg i x1))

/-- The grid's second coordinate as the kernel holds it. -/
abbrev ib1 (i : grid1.Coords) : BitVec 32 := BitVec.ofNat 32 (i 1).val

/-- The full block sums, head by head. -/
def aa0 (i : grid1.Coords) (x0 : Vec F S512x512 .f32) (x1 : Vec F S2048x256 .f32) (A : Acc4 F) : FVec F S512x32 .f32 :=
  k1_pay60 k1_pay42 (qh0 x0) A.1 (k1_pay56 (ib1 i)) (k1_pay57 (kdg i x1)) (constant S512x512 .f32 0x00000000#32)
def aa1 (i : grid1.Coords) (x0 : Vec F S512x512 .f32) (x1 : Vec F S2048x256 .f32) (A : Acc4 F) : FVec F S512x32 .f32 :=
  k1_pay63 k1_pay42 (qh1 x0) A.2.1 (k1_pay55 (kdg i x1)) (k1_pay56 (ib1 i))
def aa2 (i : grid1.Coords) (x0 : Vec F S512x512 .f32) (x1 : Vec F S2048x256 .f32) (A : Acc4 F) : FVec F S512x32 .f32 :=
  k1_pay68 k1_pay42 A.2.2.1 (k1_pay56 (ib1 i)) (k1_pay64 (qh2 x0) (k1_pay55 (kdg i x1))) k1_pay65
def aa3 (i : grid1.Coords) (x0 : Vec F S512x512 .f32) (x1 : Vec F S2048x256 .f32) (A : Acc4 F) : FVec F S512x32 .f32 :=
  k1_pay71 k1_pay42 (qh3 x0) A.2.2.2 (k1_pay55 (kdg i x1)) (k1_pay56 (ib1 i))

/-- The pooled block scores of the two key heads. -/
def pool (i : grid1.Coords) (x0 : Vec F S512x512 .f32) (x1 : Vec F S2048x256 .f32) (A : Acc4 F) : FVec F S16x32 .f32 :=
  k1_pay76 (k1_pay43 (F := F)) (aa1 i x0 x1 A) (aa2 i x0 x1 A) (aa3 i x0 x1 A) (k1_pay72 (aa1 i x0 x1 A))
    (k1_pay73 k1_pay42 A.2.2.1 (k1_pay56 (ib1 i)) (k1_pay64 (qh2 x0) (k1_pay55 (kdg i x1))) k1_pay65)
    (k1_pay74 k1_pay42 (qh3 x0) A.2.2.2 (k1_pay55 (kdg i x1)) (k1_pay56 (ib1 i)))
    (k1_pay75 (aa0 i x0 x1 A))

abbrev w8 : BitVec 32 := Scalar.select (Scalar.cmpi .eq 8#32 0#32) 1#32 8#32
abbrev w9 (a : BitVec 32) : BitVec 32 := Scalar.muli a 8#32

/-- The query block number, the scores with the later blocks set to minus one, and the rank counts. -/
def qblk (a : BitVec 32) : IVec S16x32 32 := k1_pay80 (w9 a) w8 k1_pay77 k1_pay78 k1_pay79
def kblk : IVec S16x32 32 := iota .tc S16x32 32 [1] iota_S16x32_d1_w32
def caus (a : BitVec 32) (p : FVec F S16x32 .f32) : FVec F S16x32 .f32 := k1_pay81 p (w9 a) w8 k1_pay77 k1_pay78 k1_pay79
def cnt1 (a : BitVec 32) (p : FVec F S16x32 .f32) : FVec F S16x32 .f32 :=
  k1_pay88 kblk (caus a p) k1_pay82 k1_pay83 (k1_pay85 p (w9 a) w8 k1_pay77 k1_pay78 k1_pay79)
    (k1_pay86 p (w9 a) w8 k1_pay77 k1_pay78 k1_pay79)
def cnt2 (a : BitVec 32) (p : FVec F S16x32 .f32) : FVec F S16x32 .f32 :=
  k1_pay89 kblk (caus a p) k1_pay82 k1_pay83 (k1_pay87 (caus a p)) (cnt1 a p)
def cnt3 (a : BitVec 32) (p : FVec F S16x32 .f32) : FVec F S16x32 .f32 :=
  k1_pay92 kblk (caus a p) k1_pay82 k1_pay83 (cnt2 a p) (k1_pay90 (caus a p))
def cnt4 (a : BitVec 32) (p : FVec F S16x32 .f32) : FVec F S16x32 .f32 :=
  k1_pay95 kblk (caus a p) k1_pay82 k1_pay83 (cnt3 a p) (k1_pay93 (caus a p)) k1_pay94
def cnt5 (a : BitVec 32) (p : FVec F S16x32 .f32) : FVec F S16x32 .f32 :=
  k1_pay99 kblk (caus a p) k1_pay82 k1_pay83 (cnt4 a p) (k1_pay96 (caus a p)) (k1_pay97 (caus a p))
def cnt6 (a : BitVec 32) (p : FVec F S16x32 .f32) : FVec F S16x32 .f32 :=
  k1_pay102 kblk (caus a p) k1_pay82 k1_pay83 (cnt5 a p) (k1_pay100 kblk (caus a p) k1_pay82 k1_pay83)

/-- The kept blocks of the two key heads, as zeros and ones. -/
def bm0 (a : BitVec 32) (p : FVec F S16x32 .f32) : FVec F S8x32 .f32 :=
  k1_pay105 (qblk a) kblk k1_pay82 k1_pay83 (cnt6 a p) (k1_pay103 (caus a p))
def bm1 (a : BitVec 32) (p : FVec F S16x32 .f32) : FVec F S8x32 .f32 :=
  k1_pay106 (qblk a) kblk k1_pay82 k1_pay83 (cnt6 a p) (k1_pay103 (caus a p))

/-- The row sums over the kept blocks. -/
def ll0 (a : BitVec 32) (p : FVec F S16x32 .f32) (s : FVec F S512x32 .f32) : FVec F S512x1 .f32 :=
  k1_pay109 s (qblk a) kblk k1_pay82 k1_pay83 (cnt6 a p) (k1_pay103 (caus a p))
def ll1 (a : BitVec 32) (p : FVec F S16x32 .f32) (s : FVec F S512x32 .f32) : FVec F S512x1 .f32 :=
  k1_pay110 s (qblk a) kblk k1_pay82 k1_pay83 (cnt6 a p) (k1_pay103 (caus a p))
def ll2 (a : BitVec 32) (p : FVec F S16x32 .f32) (s : FVec F S512x32 .f32) : FVec F S512x1 .f32 :=
  k1_pay111 s (qblk a) kblk k1_pay82 k1_pay83 (cnt6 a p) (k1_pay103 (caus a p))
def ll3 (a : BitVec 32) (p : FVec F S16x32 .f32) (s : FVec F S512x32 .f32) : FVec F S512x1 .f32 :=
  k1_pay112 s (qblk a) kblk k1_pay82 k1_pay83 (cnt6 a p) (k1_pay103 (caus a p))

/-- One trip of the second loop. -/
def stepO (i : grid1.Coords) (b0 b1 : FVec F S8x32 .f32) (x2 : Vec F S2048x256 .f32) (e0 e1 e2 e3 : ℕ → FVec F S1x512x512 .f32)
    (k : Fin (k1_t3_loop i).trips) (o : Out4 F) : Out4 F :=
  (k1_pay1 o.1 (k1_pay34 i b0 0#32 1#32 k) (k1_pay36 (vch i x2 k)) (e0 k.val),
   k1_pay2 o.2.1 (k1_pay32 (vch i x2 k)) (k1_pay34 i b0 0#32 1#32 k) (e1 k.val),
   k1_pay3 o.2.2.1 (k1_pay32 (vch i x2 k)) (k1_pay35 i b1 0#32 1#32 k) (e2 k.val),
   k1_pay4 o.2.2.2 (k1_pay32 (vch i x2 k)) (k1_pay35 i b1 0#32 1#32 k) (e3 k.val))

def accO (i : grid1.Coords) (b0 b1 : FVec F S8x32 .f32) (x2 : Vec F S2048x256 .f32) (e0 e1 e2 e3 : ℕ → FVec F S1x512x512 .f32)
    (o : Out4 F) : ℕ → Out4 F
  | 0 => o
  | n + 1 => if h : n < (k1_t3_loop i).trips then stepO i b0 b1 x2 e0 e1 e2 e3 ⟨n, h⟩ (accO i b0 b1 x2 e0 e1 e2 e3 o n)
      else accO i b0 b1 x2 e0 e1 e2 e3 o n

/-- The output block from the block sums `A` below the diagonal and the weighted sums `o`. -/
def seerF (i : grid1.Coords) (x0 : Vec F S512x512 .f32) (x1 : Vec F S2048x256 .f32) (A : Acc4 F) (o : Out4 F) : FVec F S512x512 .f32 :=
  k1_pay9 (ll0 (ib1 i) (pool i x0 x1 A) (aa0 i x0 x1 A)) (ll1 (ib1 i) (pool i x0 x1 A) (aa1 i x0 x1 A))
    (ll2 (ib1 i) (pool i x0 x1 A) (aa2 i x0 x1 A)) (ll3 (ib1 i) (pool i x0 x1 A) (aa3 i x0 x1 A)) o.1 o.2.1 o.2.2.1 o.2.2.2

/-- The block sums before the diagonal chunk. -/
def accQ (i : grid1.Coords) (x0 : Vec F S512x512 .f32) (x1 : Vec F S2048x256 .f32) : Acc4 F :=
  accA i (qh0 x0) (qh1 x0) (qh2 x0) (qh3 x0) x1 (k1_pay48, k1_pay48, k1_pay48, k1_pay48) (k1_t1_loop i).trips

/-- The sums of exponentials times values over the kept blocks. -/
def outO (i : grid1.Coords) (x0 : Vec F S512x512 .f32) (x1 x2 : Vec F S2048x256 .f32) : Out4 F :=
  accO i (bm0 (ib1 i) (pool i x0 x1 (accQ i x0 x1))) (bm1 (ib1 i) (pool i x0 x1 (accQ i x0 x1))) x2 (ech0 i (qh0 x0) x1)
    (ech1 i (qh1 x0) x1) (ech2 i (qh2 x0) x1) (ech3 i (qh3 x0) x1) (k1_pay113, k1_pay113, k1_pay113, k1_pay113) (k1_t3_loop i).trips

/-- The output block of one grid point. -/
def seerOut (i : grid1.Coords) (x0 : Vec F S512x512 .f32) (x1 x2 : Vec F S2048x256 .f32) : FVec F S512x512 .f32 :=
  seerF i x0 x1 (accQ i x0 x1) (outO i x0 x1 x2)

/-! The trip counts and the slots. -/

theorem trips1 : ∀ i : grid1.Coords, (k1_t1_loop i).trips = (i 1).val := by decide +kernel
theorem trips2 : ∀ i : grid1.Coords, (k1_t2_loop i).trips = 0 := by decide +kernel
theorem trips3 : ∀ i : grid1.Coords, (k1_t3_loop i).trips = (i 1).val + 1 := by decide +kernel
theorem trips4 : ∀ i : grid1.Coords, (k1_t4_loop i).trips = 0 := by decide +kernel
theorem off1_eq : ∀ (i : grid1.Coords) (k : Fin (k1_t1_loop i).trips), k1_off1 i k = ![512 * k.val, 0] := by decide +kernel
theorem off2_eq : ∀ (i : grid1.Coords) (k : Fin (k1_t1_loop i).trips), k1_off2 i k = ![k.val, 0, 0] := by decide +kernel
theorem off5_eq : ∀ (i : grid1.Coords), k1_off5 i = ![512 * (i 1).val, 0] := by decide +kernel
theorem off6_eq : ∀ (i : grid1.Coords), k1_off6 i = ![(i 1).val, 0, 0] := by decide +kernel
theorem off7_eq : ∀ (i : grid1.Coords) (k : Fin (k1_t3_loop i).trips), k1_off7 i k = ![512 * k.val, 0] := by decide +kernel
theorem off8_eq : ∀ (i : grid1.Coords) (k : Fin (k1_t3_loop i).trips), k1_off8 i k = ![k.val, 0, 0] := by decide +kernel

end Cert.KernelIdeal.Own

end
-- ==== Proof.KI.Seer.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.SeerDefs
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev scM1_0 : Memref sig .tc .vmem S4x512x512 .f32 := Memref.whole cc1_scratch0
abbrev scM1_1 : Memref sig .tc .vmem S4x512x512 .f32 := Memref.whole cc1_scratch1
abbrev scM1_2 : Memref sig .tc .vmem S4x512x512 .f32 := Memref.whole cc1_scratch2
abbrev scM1_3 : Memref sig .tc .vmem S4x512x512 .f32 := Memref.whole cc1_scratch3

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM1_0, scM1_1, scM1_2, scM1_3, owns_whole]; try rfl

/-! Lists of slot stores, newest first. -/

/-- A list whose store `k` is made at slot `k`, read at a slot below its length, gives that slot's payload. -/
theorem slots_read {m : Memref sig .tc .vmem S4x512x512 .f32} (f : m.view.ty.Contents (Elt F)) (N : ℕ)
    (L : ℕ → List (View.Piece (Elt F) S4x512x512 .f32)) (o : Fin N → Fin 3 → ℕ)
    (ho : ∀ k, o k = ![k.val, 0, 0]) (inb : ∀ k a, o k a + S1x512x512.size a ≤ S4x512x512.size a) (w : Fin N → FVec F S1x512x512 .f32)
    (hL : ∀ k : Fin N, L (k.val + 1) = (⟨Rect.unit (s := S4x512x512) (o k) S1x512x512.size (inb k), w k⟩ : View.Piece (Elt F) S4x512x512 .f32) :: L k.val) :
    ∀ n, n ≤ N → ∀ (k : Fin N), k.val < n → ∀ (x : S1x512x512.Idx) (y : S4x512x512.Idx), (∀ a, (y a).val = (![k.val, 0, 0] : Fin 3 → ℕ) a + (x a).val) →
      m.view.read (Elt F) (m.view.writes (Elt F) f (L n)) y = w k x := by
  intro n
  induction n with
  | zero => intro _ k hk; exact absurd hk (Nat.not_lt_zero _)
  | succ n ih =>
    intro hn k hk x y hy
    rw [hL ⟨n, hn⟩]
    by_cases h : k.val = n
    · obtain rfl : k = ⟨n, hn⟩ := Fin.ext h
      exact Idealize.ShloMosaic.View.read_writes_cons_unit_of_mem m.view f (inb _) (w ⟨n, hn⟩) (L n) y x (ho _) hy
    · rw [Idealize.ShloMosaic.View.read_writes_cons_unit_of_not_mem m.view f (inb _) (w ⟨n, hn⟩) (L n) y (ho _) 0 (by
        left; have h0 := hy 0; have hx : (x 0).val < 1 := (x 0).isLt
        simp only [Matrix.cons_val_zero] at h0 ⊢; omega)]
      exact ih (by omega) k (by omega) x y hy

/-- The list after the diagonal store, read at slot `n` of a trip of the second loop. -/
theorem slots_load {m : Memref sig .tc .vmem S4x512x512 .f32} (f : m.view.ty.Contents (Elt F)) (i : grid1.Coords)
    (L : ℕ → List (View.Piece (Elt F) S4x512x512 .f32)) (w : Fin (k1_t1_loop i).trips → FVec F S1x512x512 .f32) (d : FVec F S1x512x512 .f32)
    (hL : ∀ k : Fin (k1_t1_loop i).trips, L (k.val + 1) = (⟨Rect.unit (s := S4x512x512) (k1_off2 i k) S1x512x512.size (k1_off2_inb i k), w k⟩ : View.Piece (Elt F) S4x512x512 .f32) :: L k.val)
    (k : Fin (k1_t3_loop i).trips) :
    m.view.readAt (Elt F) (Rect.unit (s := S4x512x512) (k1_off8 i k) S1x512x512.size (k1_off8_inb i k)).toLoadRect
      (m.view.writes (Elt F) f ((⟨Rect.unit (s := S4x512x512) (k1_off6 i) S1x512x512.size (k1_off6_inb i), d⟩ : View.Piece (Elt F) S4x512x512 .f32) :: L (k1_t1_loop i).trips))
      = if h : k.val < (k1_t1_loop i).trips then w ⟨k.val, h⟩ else d := by
  rw [View.readAt_eq_ld]
  funext x
  have hk : k.val < (i 1).val + 1 := lt_of_lt_of_eq k.isLt (trips3 i)
  generalize hy : (Rect.unit (s := S4x512x512) (k1_off8 i k) S1x512x512.size (k1_off8_inb i k)).emb x = y
  have hx : ∀ a, (y a).val = (![k.val, 0, 0] : Fin 3 → ℕ) a + (x a).val := fun a => by
    rw [← hy]
    show k1_off8 i k a + 1 * (x a).val = _
    rw [congrFun (off8_eq i k) a, Nat.one_mul]
  show m.view.read (Elt F) _ ((Rect.unit (s := S4x512x512) (k1_off8 i k) S1x512x512.size (k1_off8_inb i k)).emb x) = _
  rw [hy]
  by_cases h : k.val < (k1_t1_loop i).trips
  · rw [dif_pos h]
    refine (Idealize.ShloMosaic.View.read_writes_cons_unit_of_not_mem (size := S1x512x512.size) m.view f (k1_off6_inb i) d (L (k1_t1_loop i).trips) y (off6_eq i) 0 ?_).trans
      (slots_read f _ L (k1_off2 i) (off2_eq i) (k1_off2_inb i) w hL _ le_rfl ⟨k.val, h⟩ h x y hx)
    left
    have h0 : (y 0).val = k.val + (x 0).val := hx 0
    have hx0 : (x 0).val < 1 := (x 0).isLt
    have h' : k.val < (i 1).val := lt_of_lt_of_eq h (trips1 i)
    show (y 0).val < (i 1).val
    omega
  · rw [dif_neg h]
    have h' : ¬ k.val < (i 1).val := fun e => h (lt_of_lt_of_eq e (trips1 i).symm)
    have he : (i 1).val = k.val := by omega
    exact Idealize.ShloMosaic.View.read_writes_cons_unit_of_mem (size := S1x512x512.size) m.view f (k1_off6_inb i) d (L (k1_t1_loop i).trips) y x (off6_eq i) fun a => by
      rw [hx a, he]

/-- One store over the whole block, read back. -/
theorem whole_read {m : Memref sig .tc .vmem S512x512 .f32} (f : m.view.ty.Contents (Elt F)) (h) (w : FVec F S512x512 .f32) (L) :
    m.view.read (Elt F) (m.view.writes (Elt F) f ((⟨Rect.unit (s := S512x512) ![0, 0] S512x512.size h, w⟩ : View.Piece (Elt F) S512x512 .f32) :: L)) = w :=
  funext fun y => Idealize.ShloMosaic.View.read_writes_cons_unit_of_mem m.view f h w L y y rfl fun a => by
    have : ((![0, 0] : Fin 2 → ℕ) a) = 0 := by fin_cases a <;> rfl
    show _ = (![0, 0] : Fin 2 → ℕ) a + _
    rw [this, Nat.zero_add]

/-! The generated loop values are the ones of this module. -/

section Loops
variable (c : Dev nD) (i : grid1.Coords) (arg2 : Memref sig .tc .vmem S512x512 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S4x512x512 .f32) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x512x512 .f32) (harg9 : arg9.IsWhole)

theorem st1_fst (a1 : BitVec 32) (q0 q1 q2 q3 : FVec F S512x128 .f32) (z : FVec F S512x32 .f32) (X : arg3.view.ty.Contents (Elt F)) (a : Acc4 F) (n : ℕ) (hn : n ≤ (k1_t1_loop i).trips) :
    (st_k1_t1 (F := F) Variants.none c none i arg2 harg2 arg3 harg3 arg4 harg4 arg5 harg5 arg6 harg6 arg7 harg7 arg8 harg8 arg9 harg9 a1 q0 q1 q2 q3 z X a n).1
      = accA i q0 q1 q2 q3 (arg3.view.read (Elt F) X) a n := by
  induction n with
  | zero => rfl
  | succ n ih =>
    rw [st_k1_t1_succ Variants.none c none i arg2 harg2 arg3 harg3 arg4 harg4 arg5 harg5 arg6 harg6 arg7 harg7 arg8 harg8 arg9 harg9 a1 q0 q1 q2 q3 z X a ⟨n, hn⟩, accA, dif_pos (show n < (k1_t1_loop i).trips from hn), ← ih (by omega)]
    unfold tripR_k1_t1 trip_k1_t1
    dsimp only
    unfold stepA kch
    rfl

theorem st1_L6 (a1 : BitVec 32) (q0 q1 q2 q3 : FVec F S512x128 .f32) (z : FVec F S512x32 .f32) (X : arg3.view.ty.Contents (Elt F)) (a : Acc4 F) (k : Fin (k1_t1_loop i).trips) :
    (st_k1_t1 (F := F) Variants.none c none i arg2 harg2 arg3 harg3 arg4 harg4 arg5 harg5 arg6 harg6 arg7 harg7 arg8 harg8 arg9 harg9 a1 q0 q1 q2 q3 z X a (k.val + 1)).2.1
      = (⟨Rect.unit (s := S4x512x512) (k1_off2 i k) S1x512x512.size (k1_off2_inb i k), k1_pay13 (k1_pay12 q0 (kch i (arg3.view.read (Elt F) X) k))⟩ : View.Piece (Elt F) S4x512x512 .f32) ::
        (st_k1_t1 (F := F) Variants.none c none i arg2 harg2 arg3 harg3 arg4 harg4 arg5 harg5 arg6 harg6 arg7 harg7 arg8 harg8 arg9 harg9 a1 q0 q1 q2 q3 z X a k.val).2.1 := by
  rw [st_k1_t1_succ Variants.none c none i arg2 harg2 arg3 harg3 arg4 harg4 arg5 harg5 arg6 harg6 arg7 harg7 arg8 harg8 arg9 harg9 a1 q0 q1 q2 q3 z X a k]
  generalize st_k1_t1 (F := F) Variants.none c none i arg2 harg2 arg3 harg3 arg4 harg4 arg5 harg5 arg6 harg6 arg7 harg7 arg8 harg8 arg9 harg9 a1 q0 q1 q2 q3 z X a k.val = s
  unfold tripL_k1_t1 trip_k1_t1
  dsimp only
  unfold kch
  rfl
theorem st1_L7 (a1 : BitVec 32) (q0 q1 q2 q3 : FVec F S512x128 .f32) (z : FVec F S512x32 .f32) (X : arg3.view.ty.Contents (Elt F)) (a : Acc4 F) (k : Fin (k1_t1_loop i).trips) :
    (st_k1_t1 (F := F) Variants.none c none i arg2 harg2 arg3 harg3 arg4 harg4 arg5 harg5 arg6 harg6 arg7 harg7 arg8 harg8 arg9 harg9 a1 q0 q1 q2 q3 z X a (k.val + 1)).2.2.1
      = (⟨Rect.unit (s := S4x512x512) (k1_off2 i k) S1x512x512.size (k1_off2_inb i k), k1_pay16 q1 (k1_pay10 (kch i (arg3.view.read (Elt F) X) k))⟩ : View.Piece (Elt F) S4x512x512 .f32) ::
        (st_k1_t1 (F := F) Variants.none c none i arg2 harg2 arg3 harg3 arg4 harg4 arg5 harg5 arg6 harg6 arg7 harg7 arg8 harg8 arg9 harg9 a1 q0 q1 q2 q3 z X a k.val).2.2.1 := by
  rw [st_k1_t1_succ Variants.none c none i arg2 harg2 arg3 harg3 arg4 harg4 arg5 harg5 arg6 harg6 arg7 harg7 arg8 harg8 arg9 harg9 a1 q0 q1 q2 q3 z X a k]
  generalize st_k1_t1 (F := F) Variants.none c none i arg2 harg2 arg3 harg3 arg4 harg4 arg5 harg5 arg6 harg6 arg7 harg7 arg8 harg8 arg9 harg9 a1 q0 q1 q2 q3 z X a k.val = s
  unfold tripL_k1_t1 trip_k1_t1
  dsimp only
  unfold kch
  rfl
theorem st1_L8 (a1 : BitVec 32) (q0 q1 q2 q3 : FVec F S512x128 .f32) (z : FVec F S512x32 .f32) (X : arg3.view.ty.Contents (Elt F)) (a : Acc4 F) (k : Fin (k1_t1_loop i).trips) :
    (st_k1_t1 (F := F) Variants.none c none i arg2 harg2 arg3 harg3 arg4 harg4 arg5 harg5 arg6 harg6 arg7 harg7 arg8 harg8 arg9 harg9 a1 q0 q1 q2 q3 z X a (k.val + 1)).2.2.2.1
      = (⟨Rect.unit (s := S4x512x512) (k1_off2 i k) S1x512x512.size (k1_off2_inb i k), k1_pay19 q2 (k1_pay10 (kch i (arg3.view.read (Elt F) X) k))⟩ : View.Piece (Elt F) S4x512x512 .f32) ::
        (st_k1_t1 (F := F) Variants.none c none i arg2 harg2 arg3 harg3 arg4 harg4 arg5 harg5 arg6 harg6 arg7 harg7 arg8 harg8 arg9 harg9 a1 q0 q1 q2 q3 z X a k.val).2.2.2.1 := by
  rw [st_k1_t1_succ Variants.none c none i arg2 harg2 arg3 harg3 arg4 harg4 arg5 harg5 arg6 harg6 arg7 harg7 arg8 harg8 arg9 harg9 a1 q0 q1 q2 q3 z X a k]
  generalize st_k1_t1 (F := F) Variants.none c none i arg2 harg2 arg3 harg3 arg4 harg4 arg5 harg5 arg6 harg6 arg7 harg7 arg8 harg8 arg9 harg9 a1 q0 q1 q2 q3 z X a k.val = s
  unfold tripL_k1_t1 trip_k1_t1
  dsimp only
  unfold kch
  rfl
theorem st1_L9 (a1 : BitVec 32) (q0 q1 q2 q3 : FVec F S512x128 .f32) (z : FVec F S512x32 .f32) (X : arg3.view.ty.Contents (Elt F)) (a : Acc4 F) (k : Fin (k1_t1_loop i).trips) :
    (st_k1_t1 (F := F) Variants.none c none i arg2 harg2 arg3 harg3 arg4 harg4 arg5 harg5 arg6 harg6 arg7 harg7 arg8 harg8 arg9 harg9 a1 q0 q1 q2 q3 z X a (k.val + 1)).2.2.2.2
      = (⟨Rect.unit (s := S4x512x512) (k1_off2 i k) S1x512x512.size (k1_off2_inb i k), k1_pay50 q3 (k1_pay10 (kch i (arg3.view.read (Elt F) X) k))⟩ : View.Piece (Elt F) S4x512x512 .f32) ::
        (st_k1_t1 (F := F) Variants.none c none i arg2 harg2 arg3 harg3 arg4 harg4 arg5 harg5 arg6 harg6 arg7 harg7 arg8 harg8 arg9 harg9 a1 q0 q1 q2 q3 z X a k.val).2.2.2.2 := by
  rw [st_k1_t1_succ Variants.none c none i arg2 harg2 arg3 harg3 arg4 harg4 arg5 harg5 arg6 harg6 arg7 harg7 arg8 harg8 arg9 harg9 a1 q0 q1 q2 q3 z X a k]
  generalize st_k1_t1 (F := F) Variants.none c none i arg2 harg2 arg3 harg3 arg4 harg4 arg5 harg5 arg6 harg6 arg7 harg7 arg8 harg8 arg9 harg9 a1 q0 q1 q2 q3 z X a k.val = s
  unfold tripL_k1_t1 trip_k1_t1
  dsimp only
  unfold kch
  rfl
theorem st3_eq (b0 b1 : FVec F S8x32 .f32) (X : arg4.view.ty.Contents (Elt F)) (X6 : arg6.view.ty.Contents (Elt F)) (X7 : arg7.view.ty.Contents (Elt F))
    (X8 : arg8.view.ty.Contents (Elt F)) (X9 : arg9.view.ty.Contents (Elt F)) (e0 e1 e2 e3 : ℕ → FVec F S1x512x512 .f32)
    (h0 : ∀ k, arg6.view.readAt (Elt F) (Rect.unit (s := S4x512x512) (k1_off8 i k) S1x512x512.size (k1_off8_inb i k)).toLoadRect X6 = e0 k.val)
    (h1 : ∀ k, arg7.view.readAt (Elt F) (Rect.unit (s := S4x512x512) (k1_off8 i k) S1x512x512.size (k1_off8_inb i k)).toLoadRect X7 = e1 k.val)
    (h2 : ∀ k, arg8.view.readAt (Elt F) (Rect.unit (s := S4x512x512) (k1_off8 i k) S1x512x512.size (k1_off8_inb i k)).toLoadRect X8 = e2 k.val)
    (h3 : ∀ k, arg9.view.readAt (Elt F) (Rect.unit (s := S4x512x512) (k1_off8 i k) S1x512x512.size (k1_off8_inb i k)).toLoadRect X9 = e3 k.val)
    (o : Out4 F) (n : ℕ) (hn : n ≤ (k1_t3_loop i).trips) :
    st_k1_t3 (F := F) Variants.none c none i arg2 harg2 arg3 harg3 arg4 harg4 arg5 harg5 arg6 harg6 arg7 harg7 arg8 harg8 arg9 harg9 b0 b1 0#32 X X6 X7 X8 X9 o n
      = accO i b0 b1 (arg4.view.read (Elt F) X) e0 e1 e2 e3 o n := by
  induction n with
  | zero => rfl
  | succ n ih =>
    rw [st_k1_t3_succ Variants.none c none i arg2 harg2 arg3 harg3 arg4 harg4 arg5 harg5 arg6 harg6 arg7 harg7 arg8 harg8 arg9 harg9 b0 b1 0#32 X X6 X7 X8 X9 o ⟨n, hn⟩, accO, dif_pos (show n < (k1_t3_loop i).trips from hn), ← ih (by omega)]
    unfold tripR_k1_t3 trip_k1_t3
    dsimp only
    unfold stepO vch
    rw [← h0 ⟨n, hn⟩, ← h1 ⟨n, hn⟩, ← h2 ⟨n, hn⟩, ← h3 ⟨n, hn⟩]
    rfl

/-- The loops' final values in the kernel's own spelling: the fourth loop's start, over the first loop's and the third's. -/
def T1 (X0 : arg2.view.ty.Contents (Elt F)) (X1 : arg3.view.ty.Contents (Elt F)) (n : ℕ) :=
  st_k1_t1 (F := F) Variants.none c none i arg2 harg2 arg3 harg3 arg4 harg4 arg5 harg5 arg6 harg6 arg7 harg7 arg8 harg8 arg9 harg9 (ib1 i) (qh0 (arg2.view.read (Elt F) X0)) (qh1 (arg2.view.read (Elt F) X0)) (qh2 (arg2.view.read (Elt F) X0)) (qh3 (arg2.view.read (Elt F) X0)) k1_pay48 X1
    (k1_pay48, k1_pay48, k1_pay48, k1_pay48) n
abbrev v46 : BitVec 32 := Scalar.addi 0#32 (Scalar.muli (Scalar.divsi (Scalar.subi (ib1 i) 0#32) 1#32) 1#32)
abbrev v648 : BitVec 32 := Scalar.addi 0#32 (Scalar.muli (Scalar.divsi (Scalar.subi (Scalar.addi (ib1 i) 1#32) 0#32) 1#32) 1#32)
def T2 (X0 : arg2.view.ty.Contents (Elt F)) (X1 : arg3.view.ty.Contents (Elt F)) (n : ℕ) (A : Acc4 F) :=
  st_k1_t2 (F := F) Variants.none c none i arg2 harg2 arg3 harg3 arg4 harg4 arg5 harg5 arg6 harg6 arg7 harg7 arg8 harg8 arg9 harg9 (ib1 i) (qh0 (arg2.view.read (Elt F) X0)) (qh1 (arg2.view.read (Elt F) X0)) (qh2 (arg2.view.read (Elt F) X0)) (qh3 (arg2.view.read (Elt F) X0)) k1_pay48 (v46 i) X1
    (A.1, A.2.1, A.2.2.1, A.2.2.2) n
def X6 (X0 : arg2.view.ty.Contents (Elt F)) (X1 : arg3.view.ty.Contents (Elt F)) (f : arg6.view.ty.Contents (Elt F)) (L1 L2 : List (View.Piece (Elt F) S4x512x512 .f32)) : arg6.view.ty.Contents (Elt F) :=
  arg6.view.writes (Elt F) f ((⟨Rect.unit (s := S4x512x512) (k1_off6 i) S1x512x512.size (k1_off6_inb i), k1_pay59 k1_pay42 (qh0 (arg2.view.read (Elt F) X0)) (k1_pay57 (kdg i (arg3.view.read (Elt F) X1))) (constant S512x512 .f32 0x00000000#32)⟩ : View.Piece (Elt F) S4x512x512 .f32) :: (L2 ++ L1))
def X7 (X0 : arg2.view.ty.Contents (Elt F)) (X1 : arg3.view.ty.Contents (Elt F)) (f : arg7.view.ty.Contents (Elt F)) (L1 L2 : List (View.Piece (Elt F) S4x512x512 .f32)) : arg7.view.ty.Contents (Elt F) :=
  arg7.view.writes (Elt F) f ((⟨Rect.unit (s := S4x512x512) (k1_off6 i) S1x512x512.size (k1_off6_inb i), k1_pay62 k1_pay42 (qh1 (arg2.view.read (Elt F) X0)) (k1_pay55 (kdg i (arg3.view.read (Elt F) X1)))⟩ : View.Piece (Elt F) S4x512x512 .f32) :: (L2 ++ L1))
def X8 (X0 : arg2.view.ty.Contents (Elt F)) (X1 : arg3.view.ty.Contents (Elt F)) (f : arg8.view.ty.Contents (Elt F)) (L1 L2 : List (View.Piece (Elt F) S4x512x512 .f32)) : arg8.view.ty.Contents (Elt F) :=
  arg8.view.writes (Elt F) f ((⟨Rect.unit (s := S4x512x512) (k1_off6 i) S1x512x512.size (k1_off6_inb i), k1_pay67 k1_pay42 (k1_pay64 (qh2 (arg2.view.read (Elt F) X0)) (k1_pay55 (kdg i (arg3.view.read (Elt F) X1)))) k1_pay65⟩ : View.Piece (Elt F) S4x512x512 .f32) :: (L2 ++ L1))
def X9 (X0 : arg2.view.ty.Contents (Elt F)) (X1 : arg3.view.ty.Contents (Elt F)) (f : arg9.view.ty.Contents (Elt F)) (L1 L2 : List (View.Piece (Elt F) S4x512x512 .f32)) : arg9.view.ty.Contents (Elt F) :=
  arg9.view.writes (Elt F) f ((⟨Rect.unit (s := S4x512x512) (k1_off6 i) S1x512x512.size (k1_off6_inb i), k1_pay70 k1_pay42 (qh3 (arg2.view.read (Elt F) X0)) (k1_pay55 (kdg i (arg3.view.read (Elt F) X1)))⟩ : View.Piece (Elt F) S4x512x512 .f32) :: (L2 ++ L1))
def T3 (X0 : arg2.view.ty.Contents (Elt F)) (X1 : arg3.view.ty.Contents (Elt F)) (X2 : arg4.view.ty.Contents (Elt F)) (f6 : arg6.view.ty.Contents (Elt F)) (f7 : arg7.view.ty.Contents (Elt F)) (f8 : arg8.view.ty.Contents (Elt F)) (f9 : arg9.view.ty.Contents (Elt F)) (A : Acc4 F) (n : ℕ) :=
  st_k1_t3 (F := F) Variants.none c none i arg2 harg2 arg3 harg3 arg4 harg4 arg5 harg5 arg6 harg6 arg7 harg7 arg8 harg8 arg9 harg9 (bm0 (ib1 i) (pool i (arg2.view.read (Elt F) X0) (arg3.view.read (Elt F) X1) A)) (bm1 (ib1 i) (pool i (arg2.view.read (Elt F) X0) (arg3.view.read (Elt F) X1) A)) 0#32 X2 f6 f7 f8 f9
    (k1_pay113, k1_pay113, k1_pay113, k1_pay113) n
def T4 (X0 : arg2.view.ty.Contents (Elt F)) (X1 : arg3.view.ty.Contents (Elt F)) (X2 : arg4.view.ty.Contents (Elt F)) (f6 : arg6.view.ty.Contents (Elt F)) (f7 : arg7.view.ty.Contents (Elt F)) (f8 : arg8.view.ty.Contents (Elt F)) (f9 : arg9.view.ty.Contents (Elt F)) (A : Acc4 F) (o : Out4 F) (n : ℕ) :=
  st_k1_t4 (F := F) Variants.none c none i arg2 harg2 arg3 harg3 arg4 harg4 arg5 harg5 arg6 harg6 arg7 harg7 arg8 harg8 arg9 harg9 (bm0 (ib1 i) (pool i (arg2.view.read (Elt F) X0) (arg3.view.read (Elt F) X1) A)) (bm1 (ib1 i) (pool i (arg2.view.read (Elt F) X0) (arg3.view.read (Elt F) X1) A)) (v648 i) X2 f6 f7 f8 f9
    (o.1, o.2.1, o.2.2.1, o.2.2.2) n

theorem loops_eq (X0 : arg2.view.ty.Contents (Elt F)) (X1 : arg3.view.ty.Contents (Elt F)) (X2 : arg4.view.ty.Contents (Elt F)) (f6 : arg6.view.ty.Contents (Elt F)) (f7 : arg7.view.ty.Contents (Elt F)) (f8 : arg8.view.ty.Contents (Elt F)) (f9 : arg9.view.ty.Contents (Elt F))
    (x0 : Vec F S512x512 .f32) (x1 : Vec F S2048x256 .f32) (x2 : Vec F S2048x256 .f32)
    (h0 : arg2.view.read (Elt F) X0 = x0) (h1 : arg3.view.read (Elt F) X1 = x1) (h2 : arg4.view.read (Elt F) X2 = x2) :
    seerF i (arg2.view.read (Elt F) X0) (arg3.view.read (Elt F) X1) (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).1 (T4 c i arg2 harg2 arg3 harg3 arg4 harg4 arg5 harg5 arg6 harg6 arg7 harg7 arg8 harg8 arg9 harg9 X0 X1 X2 (X6 i arg2 arg3 arg6 X0 X1 f6 (T1 c i arg2 harg2 arg3 harg3 arg4 harg4 arg5 harg5 arg6 harg6 arg7 harg7 arg8 harg8 arg9 harg9 X0 X1 (k1_t1_loop i).trips).2.1 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.1) (X7 i arg2 arg3 arg7 X0 X1 f7 (T1 c i arg2 harg2 arg3 harg3 arg4 harg4 arg5 harg5 arg6 harg6 arg7 harg7 arg8 harg8 arg9 harg9 X0 X1 (k1_t1_loop i).trips).2.2.1 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.2.1) (X8 i arg2 arg3 arg8 X0 X1 f8 (T1 c i arg2 harg2 arg3 harg3 arg4 harg4 arg5 harg5 arg6 harg6 arg7 harg7 arg8 harg8 arg9 harg9 X0 X1 (k1_t1_loop i).trips).2.2.2.1 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.2.2.1) (X9 i arg2 arg3 arg9 X0 X1 f9 (T1 c i arg2 harg2 arg3 harg3 arg4 harg4 arg5 harg5 arg6 harg6 arg7 harg7 arg8 harg8 arg9 harg9 X0 X1 (k1_t1_loop i).trips).2.2.2.2 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.2.2.2) (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).1 (T3 c i arg2 harg2 arg3 harg3 arg4 harg4 arg5 harg5 arg6 harg6 arg7 harg7 arg8 harg8 arg9 harg9 X0 X1 X2 (X6 i arg2 arg3 arg6 X0 X1 f6 (T1 c i arg2 harg2 arg3 harg3 arg4 harg4 arg5 harg5 arg6 harg6 arg7 harg7 arg8 harg8 arg9 harg9 X0 X1 (k1_t1_loop i).trips).2.1 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.1) (X7 i arg2 arg3 arg7 X0 X1 f7 (T1 c i arg2 harg2 arg3 harg3 arg4 harg4 arg5 harg5 arg6 harg6 arg7 harg7 arg8 harg8 arg9 harg9 X0 X1 (k1_t1_loop i).trips).2.2.1 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.2.1) (X8 i arg2 arg3 arg8 X0 X1 f8 (T1 c i arg2 harg2 arg3 harg3 arg4 harg4 arg5 harg5 arg6 harg6 arg7 harg7 arg8 harg8 arg9 harg9 X0 X1 (k1_t1_loop i).trips).2.2.2.1 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.2.2.1) (X9 i arg2 arg3 arg9 X0 X1 f9 (T1 c i arg2 harg2 arg3 harg3 arg4 harg4 arg5 harg5 arg6 harg6 arg7 harg7 arg8 harg8 arg9 harg9 X0 X1 (k1_t1_loop i).trips).2.2.2.2 (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).2.2.2.2) (T2 c i arg2 harg2 arg3 harg3 arg4 harg4 arg5 harg5 arg6 harg6 arg7 harg7 arg8 harg8 arg9 harg9 X0 X1 (k1_t2_loop i).trips (T1 c i arg2 harg2 arg3 harg3 arg4 harg4 arg5 harg5 arg6 harg6 arg7 harg7 arg8 harg8 arg9 harg9 X0 X1 (k1_t1_loop i).trips).1).1 (k1_t3_loop i).trips) (k1_t4_loop i).trips) = seerOut i x0 x1 x2 := by
  have e2 : ∀ A, T2 c i arg2 harg2 arg3 harg3 arg4 harg4 arg5 harg5 arg6 harg6 arg7 harg7 arg8 harg8 arg9 harg9 X0 X1 (k1_t2_loop i).trips A = (A, [], [], [], []) := fun A => by rw [trips2]; rfl
  have e4 : ∀ g6 g7 g8 g9 A o, T4 c i arg2 harg2 arg3 harg3 arg4 harg4 arg5 harg5 arg6 harg6 arg7 harg7 arg8 harg8 arg9 harg9 X0 X1 X2 g6 g7 g8 g9 A o (k1_t4_loop i).trips = o := fun _ _ _ _ A o => by rw [trips4]; rfl
  have e1 : (T1 c i arg2 harg2 arg3 harg3 arg4 harg4 arg5 harg5 arg6 harg6 arg7 harg7 arg8 harg8 arg9 harg9 X0 X1 (k1_t1_loop i).trips).1 = accQ i x0 x1 := by
    unfold T1; rw [st1_fst _ _ _ _ _ _ _ _ _ _ _ _ _ _ _ _ _ _ _ _ _ _ _ _ _ _ _ le_rfl, h0, h1]; rfl
  have g6 : ∀ k : Fin (k1_t3_loop i).trips, arg6.view.readAt (Elt F) (Rect.unit (s := S4x512x512) (k1_off8 i k) S1x512x512.size (k1_off8_inb i k)).toLoadRect
      (X6 i arg2 arg3 arg6 X0 X1 f6 (T1 c i arg2 harg2 arg3 harg3 arg4 harg4 arg5 harg5 arg6 harg6 arg7 harg7 arg8 harg8 arg9 harg9 X0 X1 (k1_t1_loop i).trips).2.1 []) = ech0 i (qh0 x0) x1 k.val := fun k => by
    subst h0 h1
    exact slots_load f6 i (fun n => (T1 c i arg2 harg2 arg3 harg3 arg4 harg4 arg5 harg5 arg6 harg6 arg7 harg7 arg8 harg8 arg9 harg9 X0 X1 n).2.1) _ _ (fun k => st1_L6 c i arg2 harg2 arg3 harg3 arg4 harg4 arg5 harg5 arg6 harg6 arg7 harg7 arg8 harg8 arg9 harg9 _ _ _ _ _ _ X1 _ k) k
  have g7 : ∀ k : Fin (k1_t3_loop i).trips, arg7.view.readAt (Elt F) (Rect.unit (s := S4x512x512) (k1_off8 i k) S1x512x512.size (k1_off8_inb i k)).toLoadRect
      (X7 i arg2 arg3 arg7 X0 X1 f7 (T1 c i arg2 harg2 arg3 harg3 arg4 harg4 arg5 harg5 arg6 harg6 arg7 harg7 arg8 harg8 arg9 harg9 X0 X1 (k1_t1_loop i).trips).2.2.1 []) = ech1 i (qh1 x0) x1 k.val := fun k => by
    subst h0 h1
    exact slots_load f7 i (fun n => (T1 c i arg2 harg2 arg3 harg3 arg4 harg4 arg5 harg5 arg6 harg6 arg7 harg7 arg8 harg8 arg9 harg9 X0 X1 n).2.2.1) _ _ (fun k => st1_L7 c i arg2 harg2 arg3 harg3 arg4 harg4 arg5 harg5 arg6 harg6 arg7 harg7 arg8 harg8 arg9 harg9 _ _ _ _ _ _ X1 _ k) k
  have g8 : ∀ k : Fin (k1_t3_loop i).trips, arg8.view.readAt (Elt F) (Rect.unit (s := S4x512x512) (k1_off8 i k) S1x512x512.size (k1_off8_inb i k)).toLoadRect
      (X8 i arg2 arg3 arg8 X0 X1 f8 (T1 c i arg2 harg2 arg3 harg3 arg4 harg4 arg5 harg5 arg6 harg6 arg7 harg7 arg8 harg8 arg9 harg9 X0 X1 (k1_t1_loop i).trips).2.2.2.1 []) = ech2 i (qh2 x0) x1 k.val := fun k => by
    subst h0 h1
    exact slots_load f8 i (fun n => (T1 c i arg2 harg2 arg3 harg3 arg4 harg4 arg5 harg5 arg6 harg6 arg7 harg7 arg8 harg8 arg9 harg9 X0 X1 n).2.2.2.1) _ _ (fun k => st1_L8 c i arg2 harg2 arg3 harg3 arg4 harg4 arg5 harg5 arg6 harg6 arg7 harg7 arg8 harg8 arg9 harg9 _ _ _ _ _ _ X1 _ k) k
  have g9 : ∀ k : Fin (k1_t3_loop i).trips, arg9.view.readAt (Elt F) (Rect.unit (s := S4x512x512) (k1_off8 i k) S1x512x512.size (k1_off8_inb i k)).toLoadRect
      (X9 i arg2 arg3 arg9 X0 X1 f9 (T1 c i arg2 harg2 arg3 harg3 arg4 harg4 arg5 harg5 arg6 harg6 arg7 harg7 arg8 harg8 arg9 harg9 X0 X1 (k1_t1_loop i).trips).2.2.2.2 []) = ech3 i (qh3 x0) x1 k.val := fun k => by
    subst h0 h1
    exact slots_load f9 i (fun n => (T1 c i arg2 harg2 arg3 harg3 arg4 harg4 arg5 harg5 arg6 harg6 arg7 harg7 arg8 harg8 arg9 harg9 X0 X1 n).2.2.2.2) _ _ (fun k => st1_L9 c i arg2 harg2 arg3 harg3 arg4 harg4 arg5 harg5 arg6 harg6 arg7 harg7 arg8 harg8 arg9 harg9 _ _ _ _ _ _ X1 _ k) k
  rw [e4, e2]
  dsimp only
  rw [e1]
  unfold T3
  rw [st3_eq c i arg2 harg2 arg3 harg3 arg4 harg4 arg5 harg5 arg6 harg6 arg7 harg7 arg8 harg8 arg9 harg9 _ _ X2 _ _ _ _ (ech0 i (qh0 x0) x1) (ech1 i (qh1 x0) x1) (ech2 i (qh2 x0) x1) (ech3 i (qh3 x0) x1) g6 g7 g8 g9 _ _ le_rfl, h0, h1, h2]
  rfl

end Loops

set_option maxHeartbeats 600000 in
theorem sound_kernel1 (c : Dev nD) (i : grid1.Coords) (arg2 : Memref sig .tc .vmem S512x512 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S512x512 .f32) (harg5 : arg5.IsWhole) (arg6 : Memref sig .tc .vmem S4x512x512 .f32) (harg6 : arg6.IsWhole) (arg7 : Memref sig .tc .vmem S4x512x512 .f32) (harg7 : arg7.IsWhole) (arg8 : Memref sig .tc .vmem S4x512x512 .f32) (harg8 : arg8.IsWhole) (arg9 : Memref sig .tc .vmem S4x512x512 .f32) (harg9 : arg9.IsWhole)
    (x0 : Vec F S512x512 .f32) (x1 : Vec F S2048x256 .f32) (x2 : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare (seerOut i x0 x1 x2) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc1__seer_kernel i arg2 harg2 arg3 harg3 arg4 harg4 arg5 harg5 arg6 harg6 arg7 harg7 arg8 harg8 arg9 harg9) K := by
  simp only [cc1__seer_kernel_eq_skeleton]; unfold cc1__seer_kernel_skel
  simp only [k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (whole_read f3 _ _ _).trans ?_
    exact loops_eq c i arg2 harg2 arg3 harg3 arg4 harg4 arg5 harg5 arg6 harg6 arg7 harg7 arg8 harg8 arg9 harg9 _ _ _ fs0 fs1 fs2 fs3 x0 x1 x2 (harg2.read_unread x0) (harg3.read_unread x1) (harg4.read_unread x2)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (seerOut (grid1.coords t) (iblk1 V c 0 t) (iblk1 V c 1 t) (iblk1 V c 2 t))
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (seerOut (grid1.coords t) (iblk1 V c 0 t) (iblk1 V c 1 t) (iblk1 V c 2 t)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  iintro ⟨⟨⟨HR0, HR1, HR2, HR3, HR4, HR5, HR6, HR7, HR8, HR9, HR10, HR11, HR12, HS0, HS1, HS2, HS3, HR17, HR18, HR19, HR20, HR21⟩, Hg⟩, Ho, ⟨%d0, H0⟩, ⟨%d1, H1⟩, ⟨%d2, H2⟩, ⟨%d3, H3⟩⟩
  iapply (sound_kernel1 c (grid1.coords t) _ _ _ _ _ _ _ _ _ _ _ _ _ _ _ _ (iblk1 V c 0 t) (iblk1 V c 1 t) (iblk1 V c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HR0 HR1 HR2 HR3 HR4 HR5 HR6 HR7 HR8 HR9 HR10 HR11 HR12 HS0 HS1 HS2 HS3 HR17 HR18 HR19 HR20 HR21 Hg]
  · isplitl [HR0 HR1 HR2 HR3 HR4 HR5 HR6 HR7 HR8 HR9 HR10 HR11 HR12 HS0 HS1 HS2 HS3 HR17 HR18 HR19 HR20 HR21]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HS0]
      · iexact HS0
      isplitl [HS1]
      · iexact HS1
      isplitl [HS2]
      · iexact HS2
      isplitl [HS3]
      · iexact HS3
      isplitl [HR17]
      · iexact HR17
      isplitl [HR18]
      · iexact HR18
      isplitl [HR19]
      · iexact HR19
      isplitl [HR20]
      · iexact HR20
      iexact HR21
    iexact Hg
  isplitl [Ho]; · iexact Ho
  isplitl [H0]; · iexact H0
  isplitl [H1]; · iexact H1
  isplitl [H2]; · iexact H2
  iexact H3

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KI.Mm.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

/-! The output product's call: its blocks, its body's triple and what it leaves. -/

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x2048 := Rect.unit (s := S512x2048) ![0, 0] S512x2048.size inb_S512x2048_S512x2048_0_0
abbrev r2_1 : Rect S2048x2048 := Rect.unit (s := S2048x2048) ![0, 0] S2048x2048.size inb_S2048x2048_S2048x2048_0_0

def out2_2 (x0 : Vec F S512x2048 .f32) (x1 : Vec F S2048x2048 .f32) : Vec F S512x2048 .f32 :=
  View.canon [⟨r2_0, k2_pay1 (View.ld x0 r2_0) (View.ld x1 r2_1)⟩]

theorem cover2_2 (p0 : Vec F S512x2048 .f32) (y : S512x2048.Idx) :
    ∃ pc ∈ ([⟨r2_0, p0⟩] : List (View.Piece (Elt F) S512x2048 .f32)), y ∈ pc.1.set :=
  View.cover_of_tiled [⟨r2_0, p0⟩] S512x2048.size (by rfl) y

set_option maxHeartbeats 1000000 in
theorem sound_kernel2 (c : Dev nD) (E : Set ℕ) (i : grid2.Coords) (arg1 : Memref sig .tc .vmem S512x2048 .f32) (harg1 : arg1.IsWhole) (arg2 : Memref sig .tc .vmem S2048x2048 .f32) (harg2 : arg2.IsWhole) (arg3 : Memref sig .tc .vmem S512x2048 .f32) (harg3 : arg3.IsWhole)
    (x0 : Vec F S512x2048 .f32) (x1 : Vec F S2048x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.KI.Run.lean ====
module

public import proofs.«01_k».proof.Proof.KI.Qkv
public import proofs.«01_k».proof.Proof.KI.Seer
public import proofs.«01_k».proof.Proof.KI.Mm
public import Idealize.ShloMosaic.Lib.Pipeline.Regions
public import proofs.«01_k».proof.Proof.Gen.KernelIdeal.Launch

@[expose] public section

/-! The program's run: the contents at each boundary, the three calls, the launch. -/

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v8]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem run : θ_run defs (onTc (τ := τ) (main (F := F))) ⟨m, fun _ => 0, ρ⟩ (fun r => (∀ c : Dev nD,
      r.2.mem ((c.tc : Thread nD τ).loc main_v8) = W5 m ρ c (Proc.devRef .tc main_v8)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v8 (by decide)), (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩), funext fun g => hz g (.inr (no_unscoped g.2))⟩)

end Cert.KernelIdeal.Own

end
-- ==== Proof.V.Frames.lean ====
/- The frames of the three programs, the ideal pass's ledger, and the side conditions of the precondition. -/
module

public import proofs.«01_k».proof.Defs
public import proofs.«01_k».proof.Proof.K.Run
public import proofs.«01_k».proof.Proof.KI.Run
public import proofs.«01_k».proof.Proof.Gen.ReferenceIdeal.Run
public import Idealize.ShloMosaic.Lib.Quiescent

@[expose] public section

set_option maxRecDepth 16384

noncomputable section

namespace Cert.Own

open Idealize.ShloMosaic Idealize.SL.Sem

/-- The side conditions of the precondition's operations. -/
theorem preFacts : Cert.Pre_finite_scores.Facts where
  bcast_S_S1x2048x2048 := by decide
  reducesTo_S1x2048x2048_S_d0_1_2 := by decide
  h_S_ := by decide
  bcast_S_S1x2048x128 := by decide
  reducesTo_S1x2048x128_S_d0_1_2 := by decide
  bcast_S_S2048x2048 := by decide
  reducesTo_S2048x2048_S_d0_1 := by decide
  bcast_S_S2048x1024 := by decide
  reducesTo_S2048x1024_S_d0_1 := by decide
  bcast_S_S128 := by decide
  reducesTo_S128_S_d0 := by decide

attribute [local instance] preFacts Cert.Kernel.Gen.facts Cert.KernelIdeal.Gen.facts Cert.ReferenceIdeal.Gen.facts

theorem frame_kernel : Cert.quiescent_Kernel := fun m g _ =>
  (θ_run _ _ _).mono (fun _ h => ⟨fun c => (h.1 c).2, h.2⟩) (Cert.Kernel.Own.run m g)

theorem frame_ideal : Cert.quiescent_KernelIdeal := fun m g _ =>
  (θ_run _ _ _).mono (fun _ h => ⟨fun c => (h.1 c).2, h.2⟩) (Cert.KernelIdeal.Own.run m g)

theorem frame_ideal_pre : Cert.quiescent_KernelIdeal_pre_finite_scores := fun m g _ => frame_ideal m g trivial

theorem frame_reference : Cert.quiescent_ReferenceIdeal := fun m g _ =>
  (θ_run _ _ _).mono (fun r h => ⟨fun c => (h c).2, sem_eq_zero_of_no_sems (by decide) r.2⟩)
    (Cert.ReferenceIdeal.Value.run m g)

theorem frame_reference_pre : Cert.quiescent_ReferenceIdeal_pre_finite_scores := fun m g _ => frame_reference m g trivial

theorem ledger : Cert.preserves_Kernel_KernelIdeal :=
  IdealRules.named_const.statement Cert.KernelIdeal.κ "mask" .f32 0xF149F2CA#32 ⊥ rfl

end Cert.Own

end
-- ==== Proof.V.PayA.lean ====
/- The attention call, first pass: the exponentials of a chunk and their block sums. -/
module

public import proofs.«01_k».proof.Proof.KI.SeerDefs
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.SL.Sem

/-- The factor on the scores. -/
abbrev SCALE : EReal := Ideal.ofBits .f32 0x3DB504F3#32

/-- A word divided by 64 and floored, as the kernel spells it. -/
def fdiv64 (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

theorem fdiv64_fin : ∀ n : Fin 2048, fdiv64 (BitVec.ofNat 32 n.val) = BitVec.ofNat 32 (n.val / 64) := by decide +kernel

theorem fdiv64_eq (n : ℕ) (h : n < 2048) : fdiv64 (BitVec.ofNat 32 n) = BitVec.ofNat 32 (n / 64) := fdiv64_fin ⟨n, h⟩

theorem base_fin : ∀ k : Fin 4, Scalar.muli (Scf.iv 0#32 1#32 k.val) 512#32 = BitVec.ofNat 32 (512 * k.val) := by decide +kernel

theorem pos_eq (k : ℕ) (hk : k < 4) (l : ℕ) :
    IntOp.addi (Scalar.muli (Scf.iv 0#32 1#32 k) 512#32) (BitVec.ofNat 32 l) = BitVec.ofNat 32 (512 * k + l) := by
  rw [base_fin ⟨k, hk⟩]; exact (BitVec.ofNat_add ..).symm

/-- A comparison of two small numbers read as a zero or a one. -/
theorem ind_eq (a b : ℕ) (ha : a < 2048) (hb : b < 2048) :
    (FloatOps.sitofp (F := Ideal) FTy.f32 (BitVec.setWidth 32 (IntOp.cmpi CmpIPredicate.eq (BitVec.ofNat 32 a) (BitVec.ofNat 32 b))) : EReal)
      = if a = b then 1 else 0 := by
  have e : (BitVec.ofNat 32 a = BitVec.ofNat 32 b) ↔ a = b := by
    constructor
    · intro h
      have := congrArg BitVec.toNat h
      simp only [BitVec.toNat_ofNat] at this
      omega
    · rintro rfl; rfl
  have e2 : IntOp.cmpi CmpIPredicate.eq (BitVec.ofNat 32 a) (BitVec.ofNat 32 b) = BitVec.ofBool (decide (a = b)) := by
    simp only [IntOp.cmpi]
    congr 1
    exact Bool.eq_iff_iff.2 (by simp [e])
  rw [e2]
  by_cases h : a = b
  · simp [h, FloatOps.sitofp]
  · simp [h, FloatOps.sitofp]

theorem trip1_lt (i : grid1.Coords) (k : Fin (k1_t1_loop i).trips) : k.val < 4 := by
  have h := trips1 i; have := (i 1).isLt; have := k.isLt
  have h4 : (i 1).val < 4 := (i 1).isLt
  omega
theorem trip3_lt (i : grid1.Coords) (k : Fin (k1_t3_loop i).trips) : k.val < 4 := by
  have h := trips3 i; have := k.isLt
  have h4 : (i 1).val < 4 := (i 1).isLt
  omega

theorem pay11_at (i : grid1.Coords) (k : Fin (k1_t1_loop i).trips) (l : Fin 512) (b : Fin 32) :
    k1_pay11 (F := Ideal) i 0#32 1#32 k (ix2 l b) = if (512 * k.val + l.val) / 64 = b.val then (1 : EReal) else 0 := by
  have hk := trip1_lt i k
  have hl := l.isLt
  have hb := b.isLt
  pointwise [k1_pay11]
  rw [pos_eq k.val hk l.val]
  refine Eq.trans (congrArg (fun z => (FloatOps.sitofp (F := Ideal) FTy.f32 (BitVec.setWidth 32 (IntOp.cmpi CmpIPredicate.eq z (BitVec.ofNat 32 b.val))) : EReal)) (fdiv64_eq (512 * k.val + l.val) (by omega))) ?_
  exact ind_eq _ _ (by omega) (by omega)

theorem pay33_at (i : grid1.Coords) (k : Fin (k1_t3_loop i).trips) (l : Fin 512) (b : Fin 32) :
    k1_pay33 (F := Ideal) i 0#32 1#32 k (ix2 b l) = if b.val = (512 * k.val + l.val) / 64 then (1 : EReal) else 0 := by
  have hk := trip3_lt i k
  have hl := l.isLt
  have hb := b.isLt
  pointwise [k1_pay33]
  rw [pos_eq k.val hk l.val]
  refine Eq.trans (congrArg (fun z => (FloatOps.sitofp (F := Ideal) FTy.f32 (BitVec.setWidth 32 (IntOp.cmpi CmpIPredicate.eq (BitVec.ofNat 32 b.val) z)) : EReal)) (fdiv64_eq (512 * k.val + l.val) (by omega))) ?_
  exact ind_eq _ _ (by omega) (by omega)

theorem base1_fin : ∀ k : Fin 4, Scalar.muli (BitVec.ofNat 32 k.val) 512#32 = BitVec.ofNat 32 (512 * k.val) := by decide +kernel

theorem pay56_at (i : grid1.Coords) (l : Fin 512) (b : Fin 32) :
    k1_pay56 (F := Ideal) (ib1 i) (ix2 l b) = if (512 * (i 1).val + l.val) / 64 = b.val then (1 : EReal) else 0 := by
  have hk : (i 1).val < 4 := (i 1).isLt
  have hl := l.isLt
  have hb := b.isLt
  have e : IntOp.addi (Scalar.muli (ib1 i) 512#32) (BitVec.ofNat 32 l.val) = BitVec.ofNat 32 (512 * (i 1).val + l.val) := by
    rw [show Scalar.muli (ib1 i) 512#32 = _ from base1_fin ⟨(i 1).val, hk⟩]; exact (BitVec.ofNat_add ..).symm
  pointwise [k1_pay56]
  rw [e]
  refine Eq.trans (congrArg (fun z => (FloatOps.sitofp (F := Ideal) FTy.f32 (BitVec.setWidth 32 (IntOp.cmpi CmpIPredicate.eq z (BitVec.ofNat 32 b.val))) : EReal)) (fdiv64_eq (512 * (i 1).val + l.val) (by omega))) ?_
  exact ind_eq _ _ (by omega) (by omega)

theorem pay43_at (g : Fin 8) (l : Fin 512) :
    k1_pay43 (F := Ideal) (ix2 g l) = if l.val / 64 = g.val then (1 : EReal) else 0 := by
  have hl := l.isLt
  have hg := g.isLt
  pointwise [k1_pay43]
  refine Eq.trans (congrArg (fun z => (FloatOps.sitofp (F := Ideal) FTy.f32 (BitVec.setWidth 32 (IntOp.cmpi CmpIPredicate.eq z (BitVec.ofNat 32 g.val))) : EReal)) (fdiv64_eq l.val (by omega))) ?_
  exact ind_eq _ _ (by omega) (by omega)

theorem toInt_small (a : ℕ) (ha : a < 2048) : (BitVec.ofNat 32 a).toInt = (a : ℤ) := by
  rw [BitVec.toInt_eq_toNat_cond, BitVec.toNat_ofNat]
  simp only [Nat.mod_eq_of_lt (show a < 2 ^ 32 by omega)]
  rw [if_pos (by omega)]

theorem cmpi_sge (a b : ℕ) (ha : a < 2048) (hb : b < 2048) :
    IntOp.cmpi CmpIPredicate.sge (BitVec.ofNat 32 a) (BitVec.ofNat 32 b) = BitVec.ofBool (decide (b ≤ a)) := by
  simp only [IntOp.cmpi]
  congr 1
  simp only [BitVec.sle_eq_decide, toInt_small a ha, toInt_small b hb, Nat.cast_le]

theorem pay42_at (r l : Fin 512) : k1_pay42 (ix2 r l) = BitVec.ofBool (decide (l.val ≤ r.val)) := by
  have hr := r.isLt
  have hl := l.isLt
  pointwise [k1_pay42]
  exact cmpi_sge _ _ (by omega) (by omega)

theorem mask_val : (Named.named (F := Ideal) (φ := .f32) κ "mask" (0xF149F2CA#32) : EReal) = ⊥ := by
  rfl

/-- The exponential of a masked score. -/
theorem exp_mask (c : Prop) [Decidable c] (x : EReal) : Ideal.exp (if c then x else ⊥) = if c then Ideal.exp x else 0 := by
  by_cases h : c
  · simp only [h, if_true]
  · simp only [h, if_false]; rfl

theorem pay12_at (q : FVec Ideal S512x128 .f32) (x : Vec Ideal S512x256 .f32) (r l : Fin 512) :
    k1_pay12 (F := Ideal) q x (ix2 r l)
      = Ideal.exp ((∑ d : Fin 128, q (ix2 r d) * x (ix2 l ⟨d.val, by omega⟩)) * SCALE) := by
  pointwise [k1_pay12, k1_pay10]

theorem pay15_at (q : FVec Ideal S512x128 .f32) (x : Vec Ideal S512x256 .f32) (r l : Fin 512) :
    k1_pay15 (F := Ideal) q x (ix2 r l)
      = Ideal.exp ((∑ d : Fin 128, q (ix2 r d) * x (ix2 l ⟨d.val, by omega⟩)) * SCALE) := by
  pointwise [k1_pay15]

theorem pay18_at (q : FVec Ideal S512x128 .f32) (x : Vec Ideal S512x256 .f32) (r l : Fin 512) :
    k1_pay18 (F := Ideal) q x (ix2 r l)
      = Ideal.exp ((∑ d : Fin 128, q (ix2 r d) * x (ix2 l ⟨128 + d.val, by omega⟩)) * SCALE) := by
  pointwise [k1_pay18]

theorem pay49_at (q : FVec Ideal S512x128 .f32) (x : Vec Ideal S512x256 .f32) (r l : Fin 512) :
    k1_pay49 (F := Ideal) q x (ix2 r l)
      = Ideal.exp ((∑ d : Fin 128, q (ix2 r d) * x (ix2 l ⟨128 + d.val, by omega⟩)) * SCALE) := by
  pointwise [k1_pay49]

theorem pay58_at (q : FVec Ideal S512x128 .f32) (x : Vec Ideal S512x256 .f32) (r l : Fin 512) :
    k1_pay58 (F := Ideal) k1_pay42 q (k1_pay57 x) (constant S512x512 .f32 0x00000000#32) (ix2 r l)
      = if l.val ≤ r.val then Ideal.exp ((∑ d : Fin 128, q (ix2 r d) * x (ix2 l ⟨d.val, by omega⟩)) * SCALE) else 0 := by
  pointwise [k1_pay58, k1_pay57, k1_pay55, pay42_at, mask_val]
  exact exp_mask _ _

theorem pay61_at (q : FVec Ideal S512x128 .f32) (x : Vec Ideal S512x256 .f32) (r l : Fin 512) :
    k1_pay61 (F := Ideal) k1_pay42 q (k1_pay55 x) (ix2 r l)
      = if l.val ≤ r.val then Ideal.exp ((∑ d : Fin 128, q (ix2 r d) * x (ix2 l ⟨d.val, by omega⟩)) * SCALE) else 0 := by
  pointwise [k1_pay61, k1_pay55, pay42_at, mask_val]
  exact exp_mask _ _

theorem pay66_at (q : FVec Ideal S512x128 .f32) (x : Vec Ideal S512x256 .f32) (r l : Fin 512) :
    k1_pay66 (F := Ideal) k1_pay42 (k1_pay64 q (k1_pay55 x)) k1_pay65 (ix2 r l)
      = if l.val ≤ r.val then Ideal.exp ((∑ d : Fin 128, q (ix2 r d) * x (ix2 l ⟨128 + d.val, by omega⟩)) * SCALE) else 0 := by
  pointwise [k1_pay66, k1_pay64, k1_pay65, k1_pay55, pay42_at, mask_val]
  exact exp_mask _ _

theorem pay69_at (q : FVec Ideal S512x128 .f32) (x : Vec Ideal S512x256 .f32) (r l : Fin 512) :
    k1_pay69 (F := Ideal) k1_pay42 q (k1_pay55 x) (ix2 r l)
      = if l.val ≤ r.val then Ideal.exp ((∑ d : Fin 128, q (ix2 r d) * x (ix2 l ⟨128 + d.val, by omega⟩)) * SCALE) else 0 := by
  pointwise [k1_pay69, k1_pay55, pay42_at, mask_val]
  exact exp_mask _ _

end Cert.KernelIdeal.Own
end
-- ==== Proof.V.PayB.lean ====
/- The attention call, selection: the pooled weights, the ranks and the kept blocks. -/
module

public import proofs.«01_k».proof.Proof.V.PayA

@[expose] public section

set_option maxRecDepth 16384

noncomputable section

namespace Cert.KernelIdeal.Own

open Cert.KernelIdeal Cert.KernelIdeal.Gen
open Idealize.ShloMosaic Idealize.ShloMosaic.TcCoe Idealize.SL.Sem

/-- A product with a zero-one matrix taken in two parts: a rounded part and the rest. -/
abbrev splitDot {n m k : ℕ} (e : Fin n → Fin m → EReal) (w : Fin m → Fin k → EReal) (r : Fin n) (b : Fin k) : EReal :=
  (∑ l : Fin m, e r l * w l b) + ∑ l : Fin m, (e r l - e r l) * w l b

theorem pay14_at (A : FVec Ideal S512x32 .f32) (w : FVec Ideal S512x32 .bf16) (e : FVec Ideal S512x512 .f32) (r : Fin 512) (b : Fin 32) :
    k1_pay14 (F := Ideal) A w e (ix2 r b) = A (ix2 r b) + splitDot (fun r l => e (ix2 r l)) (fun l b => w (ix2 l b)) r b := by
  pointwise [k1_pay14]

theorem pay17_at (A : FVec Ideal S512x32 .f32) (w : FVec Ideal S512x32 .bf16) (q : FVec Ideal S512x128 .f32) (x : FVec Ideal S512x256 .f32) (r : Fin 512) (b : Fin 32) :
    k1_pay17 (F := Ideal) q A x w (ix2 r b) = A (ix2 r b) + splitDot (fun r l => k1_pay15 (F := Ideal) q x (ix2 r l)) (fun l b => w (ix2 l b)) r b := by
  pointwise [k1_pay17]

theorem pay20_at (A : FVec Ideal S512x32 .f32) (w : FVec Ideal S512x32 .bf16) (q : FVec Ideal S512x128 .f32) (x : FVec Ideal S512x256 .f32) (r : Fin 512) (b : Fin 32) :
    k1_pay20 (F := Ideal) q A x w (ix2 r b) = A (ix2 r b) + splitDot (fun r l => k1_pay18 (F := Ideal) q x (ix2 r l)) (fun l b => w (ix2 l b)) r b := by
  pointwise [k1_pay20]

theorem pay51_at (A : FVec Ideal S512x32 .f32) (w : FVec Ideal S512x32 .bf16) (q : FVec Ideal S512x128 .f32) (x : FVec Ideal S512x256 .f32) (r : Fin 512) (b : Fin 32) :
    k1_pay51 (F := Ideal) q A x w (ix2 r b) = A (ix2 r b) + splitDot (fun r l => k1_pay49 (F := Ideal) q x (ix2 r l)) (fun l b => w (ix2 l b)) r b := by
  pointwise [k1_pay51]

theorem pay60_at (A : FVec Ideal S512x32 .f32) (w : FVec Ideal S512x32 .bf16) (c : IVec S512x512 1) (q y : FVec Ideal S512x128 .f32) (z : FVec Ideal S512x512 .f32) (r : Fin 512) (b : Fin 32) :
    k1_pay60 (F := Ideal) c q A w y z (ix2 r b) = A (ix2 r b) + splitDot (fun r l => k1_pay58 (F := Ideal) c q y z (ix2 r l)) (fun l b => w (ix2 l b)) r b := by
  pointwise [k1_pay60]

theorem pay63_at (A : FVec Ideal S512x32 .f32) (w : FVec Ideal S512x32 .bf16) (c : IVec S512x512 1) (q : FVec Ideal S512x128 .f32) (x : FVec Ideal S512x256 .f32) (r : Fin 512) (b : Fin 32) :
    k1_pay63 (F := Ideal) c q A x w (ix2 r b) = A (ix2 r b) + splitDot (fun r l => k1_pay61 (F := Ideal) c q x (ix2 r l)) (fun l b => w (ix2 l b)) r b := by
  pointwise [k1_pay63]

theorem pay68_at (A : FVec Ideal S512x32 .f32) (w : FVec Ideal S512x32 .bf16) (c : IVec S512x512 1) (y z : FVec Ideal S512x512 .f32) (r : Fin 512) (b : Fin 32) :
    k1_pay68 (F := Ideal) c A w y z (ix2 r b) = A (ix2 r b) + splitDot (fun r l => k1_pay66 (F := Ideal) c y z (ix2 r l)) (fun l b => w (ix2 l b)) r b := by
  pointwise [k1_pay68]

theorem pay71_at (A : FVec Ideal S512x32 .f32) (w : FVec Ideal S512x32 .bf16) (c : IVec S512x512 1) (q : FVec Ideal S512x128 .f32) (x : FVec Ideal S512x256 .f32) (r : Fin 512) (b : Fin 32) :
    k1_pay71 (F := Ideal) c q A x w (ix2 r b) = A (ix2 r b) + splitDot (fun r l => k1_pay69 (F := Ideal) c q x (ix2 r l)) (fun l b => w (ix2 l b)) r b := by
  pointwise [k1_pay71]

theorem pay72_at (A : FVec Ideal S512x32 .f32) (r : Fin 512) :
    k1_pay72 (F := Ideal) A (ix2 r 0) = ∑ b : Fin 32, A (ix2 r b) := by
  pointwise [k1_pay72]

theorem pay73_at (A : FVec Ideal S512x32 .f32) (w : FVec Ideal S512x32 .bf16) (c : IVec S512x512 1) (y z : FVec Ideal S512x512 .f32) (r : Fin 512) :
    k1_pay73 (F := Ideal) c A w y z (ix2 r 0) = ∑ b : Fin 32, k1_pay68 (F := Ideal) c A w y z (ix2 r b) := by
  pointwise [k1_pay73]

theorem pay74_at (A : FVec Ideal S512x32 .f32) (w : FVec Ideal S512x32 .bf16) (c : IVec S512x512 1) (q : FVec Ideal S512x128 .f32) (x : FVec Ideal S512x256 .f32) (r : Fin 512) :
    k1_pay74 (F := Ideal) c q A x w (ix2 r 0) = ∑ b : Fin 32, k1_pay71 (F := Ideal) c q A x w (ix2 r b) := by
  pointwise [k1_pay74]

theorem pay75_at (A : FVec Ideal S512x32 .f32) (r : Fin 512) (b : Fin 32) :
    k1_pay75 (F := Ideal) A (ix2 r b) = Ideal.div (A (ix2 r b)) (∑ b : Fin 32, A (ix2 r b)) := by
  pointwise [k1_pay75]

/-- The pooled scores of one query block: the sum over its rows, in two parts. -/
abbrev poolDot (z : FVec Ideal S8x512 .bf16) (p : Fin 512 → Fin 32 → EReal) (g : Fin 8) (b : Fin 32) : EReal :=
  (∑ l : Fin 512, z (ix2 g l) * p l b) + ∑ l : Fin 512, z (ix2 g l) * (p l b - p l b)

theorem pay76_at (z : FVec Ideal S8x512 .bf16) (A1 A2 A3 p0 : FVec Ideal S512x32 .f32) (L1 L2 L3 : FVec Ideal S512x1 .f32) (g : Fin 16) (b : Fin 32) :
    k1_pay76 (F := Ideal) z A1 A2 A3 L1 L2 L3 p0 (ix2 g b)
      = if h : g.val < 8 then max (poolDot z (fun l b => p0 (ix2 l b)) ⟨g.val, h⟩ b) (poolDot z (fun l b => Ideal.div (A1 (ix2 l b)) (L1 (ix2 l 0))) ⟨g.val, h⟩ b)
        else max (poolDot z (fun l b => Ideal.div (A2 (ix2 l b)) (L2 (ix2 l 0))) ⟨g.val - 8, by omega⟩ b)
          (poolDot z (fun l b => Ideal.div (A3 (ix2 l b)) (L3 (ix2 l 0))) ⟨g.val - 8, by omega⟩ b) := by
  pointwise [k1_pay76]

theorem w9_fin : ∀ k : Fin 4, w9 (BitVec.ofNat 32 k.val) = BitVec.ofNat 32 (8 * k.val) := by decide +kernel
theorem rem8_fin : ∀ g : Fin 16,
    Scalar.select
        (IntOp.andi
          (IntOp.xori
            (IntOp.cmpi CmpIPredicate.slt
              (IntOp.remsi ArithUnit.vector (BitVec.ofNat 32 g.val)
                (Scalar.select (Scalar.cmpi CmpIPredicate.eq 8#32 0#32) 1#32 8#32))
              0#32)
            (Scalar.cmpi CmpIPredicate.slt w8 0#32))
          (IntOp.cmpi CmpIPredicate.ne
            (IntOp.remsi ArithUnit.vector (BitVec.ofNat 32 g.val)
              (Scalar.select (Scalar.cmpi CmpIPredicate.eq 8#32 0#32) 1#32 8#32))
            0#32))
        (IntOp.addi
          (IntOp.remsi ArithUnit.vector (BitVec.ofNat 32 g.val)
            (Scalar.select (Scalar.cmpi CmpIPredicate.eq 8#32 0#32) 1#32 8#32))
          w8)
        (IntOp.remsi ArithUnit.vector (BitVec.ofNat 32 g.val)
          (Scalar.select (Scalar.cmpi CmpIPredicate.eq 8#32 0#32) 1#32 8#32)) = BitVec.ofNat 32 (g.val % 8) := by decide +kernel

theorem qblk_at (i : grid1.Coords) (g : Fin 16) (b : Fin 32) :
    qblk (ib1 i) (ix2 g b) = BitVec.ofNat 32 (8 * (i 1).val + g.val % 8) := by
  pointwise [qblk, k1_pay80, k1_pay77, k1_pay78, k1_pay79]
  refine (congrArg₂ IntOp.addi (show w9 (ib1 i) = _ from w9_fin ⟨(i 1).val, (i 1).isLt⟩) (rem8_fin g)).trans ?_
  exact (BitVec.ofNat_add ..).symm

theorem kblk_at (g : Fin 16) (b : Fin 32) : kblk (ix2 g b) = BitVec.ofNat 32 b.val := by
  pointwise [kblk]

theorem neg_one_val : Ideal.ofBits .f32 0xBF800000#32 = ((-1 : ℝ) : EReal) := by
  have hn : ((0xBF800000#32 : BitVec 32).extractLsb' 31 1 == 1#1) = true := by decide
  have hx : ((0xBF800000#32 : BitVec 32).extractLsb' 23 8).toNat = 127 := by decide
  have hf : ((0xBF800000#32 : BitVec 32).extractLsb' 0 23).toNat = 0 := by decide
  simp only [Ideal.ofBits, Ideal.ieee, Nat.reduceAdd, hn, hx, hf]
  norm_num

theorem sixteen_val : Ideal.ofBits .f32 0x41800000#32 = ((16 : ℝ) : EReal) := by
  have hn : ((0x41800000#32 : BitVec 32).extractLsb' 31 1 == 1#1) = false := by decide
  have hx : ((0x41800000#32 : BitVec 32).extractLsb' 23 8).toNat = 131 := by decide
  have hf : ((0x41800000#32 : BitVec 32).extractLsb' 0 23).toNat = 0 := by decide
  simp only [Ideal.ofBits, Ideal.ieee, Nat.reduceAdd, hn, hx, hf]
  norm_num

theorem cmpi_sle (a b : ℕ) (ha : a < 2048) (hb : b < 2048) :
    IntOp.cmpi CmpIPredicate.sle (BitVec.ofNat 32 a) (BitVec.ofNat 32 b) = BitVec.ofBool (decide (a ≤ b)) := by
  simp only [IntOp.cmpi]
  congr 1
  simp only [BitVec.sle_eq_decide, toInt_small a ha, toInt_small b hb, Nat.cast_le]

theorem select_ofBool {α : Type} (p : Prop) [Decidable p] (x y : α) :
    Scalar.select (BitVec.ofBool (decide p)) x y = if p then x else y := by
  by_cases h : p <;> simp [h, Scalar.select]

theorem caus_at (i : grid1.Coords) (p : FVec Ideal S16x32 .f32) (g : Fin 16) (b : Fin 32) :
    caus (F := Ideal) (ib1 i) p (ix2 g b) = if b.val ≤ 8 * (i 1).val + g.val % 8 then p (ix2 g b) else ((-1 : ℝ) : EReal) := by
  have h4 : (i 1).val < 4 := (i 1).isLt
  have hg := g.isLt
  have hb := b.isLt
  pointwise [caus, k1_pay81]
  rw [show k1_pay80 (w9 (ib1 i)) w8 k1_pay77 k1_pay78 k1_pay79 (ix2 g b) = _ from qblk_at i g b, cmpi_sle _ _ (by omega) (by omega), neg_one_val]
  exact select_ofBool _ _ _

theorem keep_fin : ∀ (q b : Fin 32) (t : Bool),
    IntOp.ori (IntOp.ori (BitVec.ofBool t)
          (IntOp.andi (IntOp.cmpi CmpIPredicate.slt (IntOp.subi (BitVec.ofNat 32 q.val) (BitVec.ofNat 32 b.val)) 4#32)
            (IntOp.cmpi CmpIPredicate.sle (BitVec.ofNat 32 b.val) (BitVec.ofNat 32 q.val))))
        (IntOp.cmpi CmpIPredicate.eq (BitVec.ofNat 32 b.val) 0#32)
      = BitVec.ofBool (t || decide (b.val ≤ q.val ∧ q.val < b.val + 4) || decide (b.val = 0)) := by decide +kernel

/-- The last comparison of the rank count, with the total. -/
def cntT (a : BitVec 32) (p : FVec Ideal S16x32 .f32) (g : Fin 16) (b : Fin 32) : EReal :=
  cnt6 (F := Ideal) a p (ix2 g b) + Scalar.select (IntOp.andi (k1_pay103 (caus a p) (ix2 g b)) (IntOp.cmpi CmpIPredicate.sge (kblk (ix2 g b)) 31#32)) 1 0

theorem keep_at (i : grid1.Coords) (p : FVec Ideal S16x32 .f32) (g : Fin 16) (b : Fin 32) :
    k1_pay104 (F := Ideal) (qblk (ib1 i)) kblk k1_pay82 k1_pay83 (cnt6 (ib1 i) p) (k1_pay103 (caus (ib1 i) p)) (ix2 g b)
      = if cntT (ib1 i) p g b < ((16 : ℝ) : EReal) ∨ (b.val ≤ 8 * (i 1).val + g.val % 8 ∧ 8 * (i 1).val + g.val % 8 < b.val + 4) ∨ b.val = 0
        then (1 : EReal) else 0 := by
  have h4 : (i 1).val < 4 := (i 1).isLt
  have hg := g.isLt
  pointwise [k1_pay104, k1_pay82, k1_pay83]
  rw [qblk_at, kblk_at, sixteen_val]
  refine (congrArg (fun z => Scalar.select z (1 : EReal) 0) (keep_fin ⟨8 * (i 1).val + g.val % 8, by omega⟩ b _)).trans ?_
  have e : cntT (ib1 i) p g b = cnt6 (F := Ideal) (ib1 i) p (ix2 g b)
      + Scalar.select (IntOp.andi (k1_pay103 (caus (ib1 i) p) (ix2 g b)) (IntOp.cmpi CmpIPredicate.sge (BitVec.ofNat 32 b.val) 31#32)) 1 0 := by
    unfold cntT; rw [kblk_at]
  rw [← e]
  rw [show ∀ (x y z : Prop) [Decidable x] [Decidable y] [Decidable z], (decide x || decide y || decide z) = decide (x ∨ y ∨ z) from
    fun x y z _ _ _ => by simp [Bool.decide_or, Bool.or_assoc]]
  exact select_ofBool _ _ _

theorem bm0_at (a : BitVec 32) (p : FVec Ideal S16x32 .f32) (g : Fin 8) (b : Fin 32) :
    bm0 (F := Ideal) a p (ix2 g b) = k1_pay104 (F := Ideal) (qblk a) kblk k1_pay82 k1_pay83 (cnt6 a p) (k1_pay103 (caus a p)) (ix2 ⟨g.val, by omega⟩ b) := by
  pointwise [bm0, k1_pay105]
theorem bm1_at (a : BitVec 32) (p : FVec Ideal S16x32 .f32) (g : Fin 8) (b : Fin 32) :
    bm1 (F := Ideal) a p (ix2 g b) = k1_pay104 (F := Ideal) (qblk a) kblk k1_pay82 k1_pay83 (cnt6 a p) (k1_pay103 (caus a p)) (ix2 ⟨8 + g.val, by omega⟩ b) := by
  pointwise [bm1, k1_pay106]

theorem ll0_at (a : BitVec 32) (p : FVec Ideal S16x32 .f32) (s : FVec Ideal S512x32 .f32) (r : Fin 512) :
    ll0 (F := Ideal) a p s (ix2 r 0) = ∑ b : Fin 32, s (ix2 r b) * bm0 (F := Ideal) a p (ix2 ⟨r.val / 64, by omega⟩ b) := by
  pointwise [ll0, k1_pay109, k1_pay107, bm0]

theorem ll1_at (a : BitVec 32) (p : FVec Ideal S16x32 .f32) (s : FVec Ideal S512x32 .f32) (r : Fin 512) :
    ll1 (F := Ideal) a p s (ix2 r 0) = ∑ b : Fin 32, s (ix2 r b) * bm0 (F := Ideal) a p (ix2 ⟨r.val / 64, by omega⟩ b) := by
  pointwise [ll1, k1_pay110, k1_pay107, bm0]

theorem ll2_at (a : BitVec 32) (p : FVec Ideal S16x32 .f32) (s : FVec Ideal S512x32 .f32) (r : Fin 512) :
    ll2 (F := Ideal) a p s (ix2 r 0) = ∑ b : Fin 32, s (ix2 r b) * bm1 (F := Ideal) a p (ix2 ⟨r.val / 64, by omega⟩ b) := by
  pointwise [ll2, k1_pay111, k1_pay108, bm1]

theorem ll3_at (a : BitVec 32) (p : FVec Ideal S16x32 .f32) (s : FVec Ideal S512x32 .f32) (r : Fin 512) :
    ll3 (F := Ideal) a p s (ix2 r 0) = ∑ b : Fin 32, s (ix2 r b) * bm1 (F := Ideal) a p (ix2 ⟨r.val / 64, by omega⟩ b) := by
  pointwise [ll3, k1_pay112, k1_pay108, bm1]

theorem pay34_at (i : grid1.Coords) (B : FVec Ideal S8x32 .f32) (k : Fin (k1_t3_loop i).trips) (r l : Fin 512) :
    k1_pay34 (F := Ideal) i B 0#32 1#32 k (ix2 r l) = ∑ b : Fin 32, B (ix2 ⟨r.val / 64, by omega⟩ b) * k1_pay33 (F := Ideal) i 0#32 1#32 k (ix2 b l) := by
  pointwise [k1_pay34]

theorem pay35_at (i : grid1.Coords) (B : FVec Ideal S8x32 .f32) (k : Fin (k1_t3_loop i).trips) (r l : Fin 512) :
    k1_pay35 (F := Ideal) i B 0#32 1#32 k (ix2 r l) = ∑ b : Fin 32, B (ix2 ⟨r.val / 64, by omega⟩ b) * k1_pay33 (F := Ideal) i 0#32 1#32 k (ix2 b l) := by
  pointwise [k1_pay35]

theorem pay1_at (o : FVec Ideal S512x128 .f32) (w : FVec Ideal S512x512 .f32) (x : Vec Ideal S512x256 .f32) (e : Vec Ideal S1x512x512 .f32) (r : Fin 512) (d : Fin 128) :
    k1_pay1 (F := Ideal) o w (k1_pay36 x) e (ix2 r d) = o (ix2 r d) + ∑ l : Fin 512, (e (ix3 0 r l) * w (ix2 r l)) * x (ix2 l ⟨d.val, by omega⟩) := by
  pointwise [k1_pay1, k1_pay36, k1_pay32]

theorem pay2_at (o : FVec Ideal S512x128 .f32) (w : FVec Ideal S512x512 .f32) (x : Vec Ideal S512x256 .f32) (e : Vec Ideal S1x512x512 .f32) (r : Fin 512) (d : Fin 128) :
    k1_pay2 (F := Ideal) o (k1_pay32 x) w e (ix2 r d) = o (ix2 r d) + ∑ l : Fin 512, (e (ix3 0 r l) * w (ix2 r l)) * x (ix2 l ⟨d.val, by omega⟩) := by
  pointwise [k1_pay2, k1_pay32]

theorem pay3_at (o : FVec Ideal S512x128 .f32) (w : FVec Ideal S512x512 .f32) (x : Vec Ideal S512x256 .f32) (e : Vec Ideal S1x512x512 .f32) (r : Fin 512) (d : Fin 128) :
    k1_pay3 (F := Ideal) o (k1_pay32 x) w e (ix2 r d) = o (ix2 r d) + ∑ l : Fin 512, (e (ix3 0 r l) * w (ix2 r l)) * x (ix2 l ⟨128 + d.val, by omega⟩) := by
  pointwise [k1_pay3, k1_pay32]

theorem pay4_at (o : FVec Ideal S512x128 .f32) (w : FVec Ideal S512x512 .f32) (x : Vec Ideal S512x256 .f32) (e : Vec Ideal S1x512x512 .f32) (r : Fin 512) (d : Fin 128) :
    k1_pay4 (F := Ideal) o (k1_pay32 x) w e (ix2 r d) = o (ix2 r d) + ∑ l : Fin 512, (e (ix3 0 r l) * w (ix2 r l)) * x (ix2 l ⟨128 + d.val, by omega⟩) := by
  pointwise [k1_pay4, k1_pay32]

theorem pay9_at (l0 l1 l2 l3 : FVec Ideal S512x1 .f32) (o0 o1 o2 o3 : FVec Ideal S512x128 .f32) (r : Fin 512) (d : Fin 512) :
    k1_pay9 (F := Ideal) l0 l1 l2 l3 o0 o1 o2 o3 (ix2 r d)
      = if h : d.val < 128 then Ideal.div (o0 (ix2 r ⟨d.val, h⟩)) (l0 (ix2 r 0))
        else if h : d.val - 128 < 128 then Ideal.div (o1 (ix2 r ⟨d.val - 128, h⟩)) (l1 (ix2 r 0))
        else if h : d.val - 128 - 128 < 128 then Ideal.div (o2 (ix2 r ⟨d.val - 128 - 128, h⟩)) (l2 (ix2 r 0))
        else Ideal.div (o3 (ix2 r ⟨d.val - 128 - 128 - 128, by omega⟩)) (l3 (ix2 r 0)) := by
  pointwise [k1_pay9]

theorem pay48_at (r : Fin 512) (b : Fin 32) : k1_pay48 (F := Ideal) (ix2 r b) = (0 : EReal) := by
  pointwise [k1_pay48]
theorem pay113_at (r : Fin 512) (d : Fin 128) : k1_pay113 (F := Ideal) (ix2 r d) = (0 : EReal) := by
  pointwise [k1_pay113]
theorem qh0_at (x0 : Vec Ideal S512x512 .f32) (r : Fin 512) (d : Fin 128) :
    qh0 (F := Ideal) x0 (ix2 r d) = x0 (ix2 r ⟨0 + d.val, by omega⟩) := by
  pointwise [qh0, k1_pay44]
theorem qh1_at (x0 : Vec Ideal S512x512 .f32) (r : Fin 512) (d : Fin 128) :
    qh1 (F := Ideal) x0 (ix2 r d) = x0 (ix2 r ⟨128 + d.val, by omega⟩) := by
  pointwise [qh1, k1_pay45]
theorem qh2_at (x0 : Vec Ideal S512x512 .f32) (r : Fin 512) (d : Fin 128) :
    qh2 (F := Ideal) x0 (ix2 r d) = x0 (ix2 r ⟨256 + d.val, by omega⟩) := by
  pointwise [qh2, k1_pay46]
theorem qh3_at (x0 : Vec Ideal S512x512 .f32) (r : Fin 512) (d : Fin 128) :
    qh3 (F := Ideal) x0 (ix2 r d) = x0 (ix2 r ⟨384 + d.val, by omega⟩) := by
  pointwise [qh3, k1_pay47]

theorem kch_at (i : grid1.Coords) (x1 : Vec Ideal S2048x256 .f32) (k : Fin (k1_t1_loop i).trips) (l : Fin 512) (d : Fin 256) :
    kch (F := Ideal) i x1 k (ix2 l d) = x1 (ix2 ⟨512 * k.val + l.val, by have := trip1_lt i k; omega⟩ d) := by
  pointwise [kch]
  have h0 : k1_off1 i k 0 = 512 * k.val := congrFun (off1_eq i k) 0
  have h1 : k1_off1 i k 1 = 0 := congrFun (off1_eq i k) 1
  exact congrArg x1 ((ix2_inj ..).2 ⟨Fin.ext (by simp only [h0]), Fin.ext (by simp only [h1, Nat.zero_add])⟩)
theorem kdg_at (i : grid1.Coords) (x1 : Vec Ideal S2048x256 .f32) (l : Fin 512) (d : Fin 256) :
    kdg (F := Ideal) i x1 (ix2 l d) = x1 (ix2 ⟨512 * (i 1).val + l.val, by have h4 : (i 1).val < 4 := (i 1).isLt; omega⟩ d) := by
  pointwise [kdg]
  have h0 : k1_off5 i 0 = 512 * (i 1).val := congrFun (off5_eq i) 0
  have h1 : k1_off5 i 1 = 0 := congrFun (off5_eq i) 1
  exact congrArg x1 ((ix2_inj ..).2 ⟨Fin.ext (by simp only [h0]), Fin.ext (by simp only [h1, Nat.zero_add])⟩)
theorem vch_at (i : grid1.Coords) (x2 : Vec Ideal S2048x256 .f32) (k : Fin (k1_t3_loop i).trips) (l : Fin 512) (d : Fin 256) :
    vch (F := Ideal) i x2 k (ix2 l d) = x2 (ix2 ⟨512 * k.val + l.val, by have := trip3_lt i k; omega⟩ d) := by
  pointwise [vch]
  have h0 : k1_off7 i k 0 = 512 * k.val := congrFun (off7_eq i k) 0
  have h1 : k1_off7 i k 1 = 0 := congrFun (off7_eq i k) 1
  exact congrArg x2 ((ix2_inj ..).2 ⟨Fin.ext (by simp only [h0]), Fin.ext (by simp only [h1, Nat.zero_add])⟩)

end Cert.KernelIdeal.Own
end
-- ==== Proof.V.PayC.lean ====
/- The attention call, second pass: the weighted sums of the values. -/
module

public import proofs.«01_k».proof.Proof.V.PayB

@[expose] public section

set_option maxRecDepth 16384

noncomputable section

namespace Cert.KernelIdeal.Own

open Cert.KernelIdeal Cert.KernelIdeal.Gen
open Idealize.ShloMosaic Idealize.ShloMosaic.TcCoe Idealize.SL.Sem

/-- A row of 32 turned right by `s` places. -/
def roll (f : ℕ → EReal) (s b : ℕ) : EReal := if b < s then f (32 - s + b) else f (b - s)

/-- One where the entry `s` places to the left is greater. -/
def gtAt (f : ℕ → EReal) (s b : ℕ) : EReal := if f b < roll f s b then 1 else 0

/-- One where the entry `s` places to the left is equal and lies at a smaller number. -/
def eqAt (f : ℕ → EReal) (s b : ℕ) : EReal :=
  Scalar.select (IntOp.andi (BitVec.ofBool (decide (roll f s b = f b))) (IntOp.cmpi CmpIPredicate.sge (BitVec.ofNat 32 b) (BitVec.ofNat 32 s))) 1 0

variable (a : BitVec 32) (p : FVec Ideal S16x32 .f32) (g : Fin 16) (f : ℕ → EReal) (hf : ∀ b : Fin 32, caus (F := Ideal) a p (ix2 g b) = f b.val)

include hf

theorem cnt1_at (b : Fin 32) : cnt1 (F := Ideal) a p (ix2 g b) = 0 + gtAt f 1 b.val + eqAt f 1 b.val + gtAt f 2 b.val + eqAt f 2 b.val + gtAt f 3 b.val + eqAt f 3 b.val + gtAt f 4 b.val + eqAt f 4 b.val + gtAt f 5 b.val + eqAt f 5 b.val + gtAt f 6 b.val + eqAt f 6 b.val + gtAt f 7 b.val + eqAt f 7 b.val + gtAt f 8 b.val := by
  have hf2 : ∀ b : Fin 32, k1_pay81 p (w9 a) w8 k1_pay77 k1_pay78 k1_pay79 (ix2 g b) = f b.val := hf
  pointwise [cnt1, k1_pay85, k1_pay86, k1_pay84, k1_pay87, k1_pay88, k1_pay82, k1_pay83, kblk, hf, hf2]
  simp only [gtAt, eqAt, roll, Nat.reduceSub, dite_eq_ite]

theorem cnt2_at (b : Fin 32) : cnt2 (F := Ideal) a p (ix2 g b) = cnt1 (F := Ideal) a p (ix2 g b) + eqAt f 8 b.val + gtAt f 9 b.val + eqAt f 9 b.val + gtAt f 10 b.val + eqAt f 10 b.val + gtAt f 11 b.val + eqAt f 11 b.val + gtAt f 12 b.val + eqAt f 12 b.val := by
  pointwise [cnt2, k1_pay89, k1_pay87, k1_pay82, k1_pay83, kblk, hf]
  simp only [gtAt, eqAt, roll, Nat.reduceSub, dite_eq_ite]

theorem cnt3_at (b : Fin 32) : cnt3 (F := Ideal) a p (ix2 g b) = cnt2 (F := Ideal) a p (ix2 g b) + gtAt f 13 b.val + eqAt f 13 b.val + gtAt f 14 b.val + eqAt f 14 b.val + gtAt f 15 b.val + eqAt f 15 b.val + gtAt f 16 b.val + eqAt f 16 b.val + gtAt f 17 b.val := by
  pointwise [cnt3, k1_pay92, k1_pay90, k1_pay91, k1_pay82, k1_pay83, kblk, hf]
  simp only [gtAt, eqAt, roll, Nat.reduceSub, dite_eq_ite]

theorem cnt4_at (b : Fin 32) : cnt4 (F := Ideal) a p (ix2 g b) = cnt3 (F := Ideal) a p (ix2 g b) + eqAt f 17 b.val + gtAt f 18 b.val + eqAt f 18 b.val + gtAt f 19 b.val + eqAt f 19 b.val + gtAt f 20 b.val + eqAt f 20 b.val + gtAt f 21 b.val + eqAt f 21 b.val := by
  pointwise [cnt4, k1_pay95, k1_pay93, k1_pay94, k1_pay91, k1_pay82, k1_pay83, kblk, hf]
  simp only [gtAt, eqAt, roll, Nat.reduceSub, dite_eq_ite]

theorem cnt5_at (b : Fin 32) : cnt5 (F := Ideal) a p (ix2 g b) = cnt4 (F := Ideal) a p (ix2 g b) + gtAt f 22 b.val + eqAt f 22 b.val + gtAt f 23 b.val + eqAt f 23 b.val + gtAt f 24 b.val + eqAt f 24 b.val + gtAt f 25 b.val + eqAt f 25 b.val + gtAt f 26 b.val := by
  pointwise [cnt5, k1_pay99, k1_pay96, k1_pay97, k1_pay98, k1_pay82, k1_pay83, kblk, hf]
  simp only [gtAt, eqAt, roll, Nat.reduceSub, dite_eq_ite]

theorem cnt6_at (b : Fin 32) : cnt6 (F := Ideal) a p (ix2 g b) = cnt5 (F := Ideal) a p (ix2 g b) + eqAt f 26 b.val + gtAt f 27 b.val + eqAt f 27 b.val + gtAt f 28 b.val + eqAt f 28 b.val + gtAt f 29 b.val + eqAt f 29 b.val + gtAt f 30 b.val + eqAt f 30 b.val + gtAt f 31 b.val := by
  pointwise [cnt6, k1_pay102, k1_pay100, k1_pay101, k1_pay98, k1_pay82, k1_pay83, kblk, hf]
  simp only [gtAt, eqAt, roll, Nat.reduceSub, dite_eq_ite]

theorem cntT_sum (b : Fin 32) : cntT a p g b = ∑ s ∈ Finset.range 31, (gtAt f (s + 1) b.val + eqAt f (s + 1) b.val) := by
  have e : cntT a p g b = cnt6 (F := Ideal) a p (ix2 g b) + eqAt f 31 b.val := by
    unfold cntT
    pointwise [k1_pay103, k1_pay101, kblk, hf]
    simp only [eqAt, roll, Nat.reduceSub, dite_eq_ite]
  rw [e, cnt6_at a p g f hf, cnt5_at a p g f hf, cnt4_at a p g f hf, cnt3_at a p g f hf, cnt2_at a p g f hf, cnt1_at a p g f hf]
  simp only [Finset.sum_range_succ, Finset.sum_range_zero, ← add_assoc, Nat.reduceAdd, zero_add]

omit hf

/-- How many of 32 numbers stand before the one at `b`: the greater ones, and the equal ones at a smaller place. -/
def rankAll (F : ℕ → ℝ) (b : ℕ) : ℕ := ((Finset.range 32).filter fun c => F b < F c ∨ (F c = F b ∧ c < b)).card

theorem roll_coe (F : ℕ → ℝ) (s b : ℕ) (hs : s < 32) (hb : b < 32) :
    roll (fun n => (F n : EReal)) s b = (F ((b + 32 - s) % 32) : EReal) := by
  unfold roll
  split
  · rw [show (b + 32 - s) % 32 = 32 - s + b by omega]
  · rw [show (b + 32 - s) % 32 = b - s by omega]

theorem gt_eq_at (F : ℕ → ℝ) (s b : ℕ) (hs : s < 32) (h0 : 0 < s) (hb : b < 32) :
    gtAt (fun n => (F n : EReal)) s b + eqAt (fun n => (F n : EReal)) s b
      = (((if F b < F ((b + 32 - s) % 32) ∨ (F ((b + 32 - s) % 32) = F b ∧ (b + 32 - s) % 32 < b) then 1 else 0 : ℕ) : ℝ) : EReal) := by
  unfold gtAt eqAt
  rw [roll_coe F s b hs hb, cmpi_sge _ _ (by omega) (by omega)]
  have hle : (s ≤ b) ↔ (b + 32 - s) % 32 < b := by omega
  have e : IntOp.andi (BitVec.ofBool (decide ((F ((b + 32 - s) % 32) : EReal) = (F b : EReal)))) (BitVec.ofBool (decide (s ≤ b)))
      = BitVec.ofBool (decide (F ((b + 32 - s) % 32) = F b ∧ (b + 32 - s) % 32 < b)) := by
    simp only [← hle]
    by_cases h1 : F ((b + 32 - s) % 32) = F b <;> by_cases h2 : s ≤ b <;> simp [h1, h2, IntOp.andi, EReal.coe_eq_coe_iff]
  rw [e, select_ofBool]
  simp only [EReal.coe_lt_coe_iff]
  by_cases h1 : F b < F ((b + 32 - s) % 32)
  · have h2 : ¬ (F ((b + 32 - s) % 32) = F b ∧ (b + 32 - s) % 32 < b) := fun h => absurd h.1 (ne_of_gt h1)
    simp [h1, h2]
  · by_cases h2 : (F ((b + 32 - s) % 32) = F b ∧ (b + 32 - s) % 32 < b)
    · simp [h1, h2]
    · simp [h1, h2]

theorem cntT_eq (F : ℕ → ℝ) (hF : ∀ b : Fin 32, caus (F := Ideal) a p (ix2 g b) = ((F b.val : ℝ) : EReal)) (b : Fin 32) :
    cntT a p g b = ((rankAll F b.val : ℝ) : EReal) := by
  have hb := b.isLt
  rw [cntT_sum a p g (fun n => (F n : EReal)) hF b]
  have h1 : ∀ s ∈ Finset.range 31, gtAt (fun n => (F n : EReal)) (s + 1) b.val + eqAt (fun n => (F n : EReal)) (s + 1) b.val
      = (((if F b.val < F ((b.val + 32 - (s + 1)) % 32) ∨ (F ((b.val + 32 - (s + 1)) % 32) = F b.val ∧ (b.val + 32 - (s + 1)) % 32 < b.val) then 1 else 0 : ℕ) : ℝ) : EReal) := by
    intro s hs
    have := Finset.mem_range.1 hs
    exact gt_eq_at F (s + 1) b.val (by omega) (by omega) hb
  rw [Finset.sum_congr rfl h1]
  have h2 : rankAll F b.val = ∑ s ∈ Finset.range 31, (if F b.val < F ((b.val + 32 - (s + 1)) % 32) ∨ (F ((b.val + 32 - (s + 1)) % 32) = F b.val ∧ (b.val + 32 - (s + 1)) % 32 < b.val) then 1 else 0 : ℕ) := by
    unfold rankAll
    rw [Finset.card_filter]
    have h3 : ∑ c ∈ Finset.range 32, (if F b.val < F c ∨ (F c = F b.val ∧ c < b.val) then 1 else 0 : ℕ)
        = ∑ s ∈ Finset.range 32, (if F b.val < F ((b.val + 32 - s) % 32) ∨ (F ((b.val + 32 - s) % 32) = F b.val ∧ (b.val + 32 - s) % 32 < b.val) then 1 else 0 : ℕ) := by
      refine Finset.sum_nbij' (fun c => (b.val + 32 - c) % 32) (fun s => (b.val + 32 - s) % 32) ?_ ?_ ?_ ?_ ?_
      · intro c hc; have := Finset.mem_range.1 hc; exact Finset.mem_range.2 (by omega)
      · intro c hc; have := Finset.mem_range.1 hc; exact Finset.mem_range.2 (by omega)
      · intro c hc; have := Finset.mem_range.1 hc; omega
      · intro c hc; have := Finset.mem_range.1 hc; omega
      · intro c hc
        have := Finset.mem_range.1 hc
        have e : (b.val + 32 - (b.val + 32 - c) % 32) % 32 = c := by omega
        rw [e]
    rw [h3, Finset.sum_range_succ']
    have e : (b.val + 32 - 0) % 32 = b.val := by omega
    rw [e]
    simp
  rw [h2]
  push_cast
  rfl

end Cert.KernelIdeal.Own
end
-- ==== Proof.V.Spec.lean ====
/- Block-sparse attention over real scores: the specification both programs meet. -/
module

public import Idealize.ShloMosaic.Lib.Pointwise
public import Idealize.ShloMosaic.PureOps.Ideal

@[expose] public section

noncomputable section

namespace Cert.Attn

open Idealize.ShloMosaic

/-! The block-sparse attention of one pair of query heads, over real scores. -/

/-- The exponential of a score on or below the diagonal, zero above it. -/
def En (S : ℕ → ℕ → ℝ) (t u : ℕ) : ℝ := if u ≤ t then Real.exp (S t u) else 0

/-- The sum of a row over key block `b`. -/
def rowB (S : ℕ → ℕ → ℝ) (t b : ℕ) : ℝ := ∑ c : Fin 64, En S t (64 * b + c.val)

/-- The sum of a row. -/
def rowL (S : ℕ → ℕ → ℝ) (t : ℕ) : ℝ := ∑ b : Fin 32, rowB S t b.val

/-- The attention weights summed over query block `a` and key block `b`. -/
def poolS (S : ℕ → ℕ → ℝ) (a b : ℕ) : ℝ := ∑ r : Fin 64, rowB S (64 * a + r.val) b / rowL S (64 * a + r.val)

/-- The larger of the two heads' pooled weights. -/
def poolM (S0 S1 : ℕ → ℕ → ℝ) (a b : ℕ) : ℝ := max (poolS S0 a b) (poolS S1 a b)

/-- How many causal key blocks stand before block `b` in the order of pooled weights. -/
def rankN (P : ℕ → ℝ) (a b : ℕ) : ℕ := ((Finset.range 32).filter fun c => c ≤ a ∧ (P b < P c ∨ (P c = P b ∧ c < b))).card

/-- A key block is kept when it is causal and among the sixteen largest, or near, or the first. -/
def keepN (P : ℕ → ℝ) (a b : ℕ) : Prop := b ≤ a ∧ (rankN P a b < 16 ∨ a < b + 4 ∨ b = 0)

instance (P : ℕ → ℝ) (a b : ℕ) : Decidable (keepN P a b) := by unfold keepN; infer_instance

/-- The exponential of a score in a kept block. -/
def Wn (S0 S1 S : ℕ → ℕ → ℝ) (t u : ℕ) : ℝ := if keepN (poolM S0 S1 (t / 64)) (t / 64) (u / 64) then En S t u else 0

/-- The sum of a row over the kept blocks. -/
def rowD (S0 S1 S : ℕ → ℕ → ℝ) (t : ℕ) : ℝ := ∑ u : Fin 2048, Wn S0 S1 S t u.val

/-- One entry of the attention's output. -/
def outN (S0 S1 S : ℕ → ℕ → ℝ) (v : ℕ → EReal) (t : ℕ) : EReal :=
  Ideal.div (∑ u : Fin 2048, (Wn S0 S1 S t u.val : EReal) * v u.val) (rowD S0 S1 S t : EReal)

theorem En_nonneg (S : ℕ → ℕ → ℝ) (t u : ℕ) : 0 ≤ En S t u := by
  unfold En; split
  · exact (Real.exp_pos _).le
  · exact le_rfl

theorem rowB_nonneg (S : ℕ → ℕ → ℝ) (t b : ℕ) : 0 ≤ rowB S t b := Finset.sum_nonneg fun _ _ => En_nonneg ..

theorem rowB_of_gt (S : ℕ → ℕ → ℝ) (t b : ℕ) (h : t / 64 < b) : rowB S t b = 0 := by
  refine Finset.sum_eq_zero fun c _ => ?_
  unfold En; rw [if_neg (by omega)]

theorem rowL_pos (S : ℕ → ℕ → ℝ) (t : ℕ) : 0 < rowL S t := by
  refine Finset.sum_pos' (fun b _ => rowB_nonneg ..) ⟨0, Finset.mem_univ _, ?_⟩
  refine Finset.sum_pos' (fun _ _ => En_nonneg ..) ⟨0, Finset.mem_univ _, ?_⟩
  unfold En
  rw [if_pos (by simp)]
  exact Real.exp_pos _

theorem poolS_nonneg (S : ℕ → ℕ → ℝ) (a b : ℕ) : 0 ≤ poolS S a b :=
  Finset.sum_nonneg fun _ _ => div_nonneg (rowB_nonneg ..) (rowL_pos ..).le

theorem poolM_nonneg (S0 S1 : ℕ → ℕ → ℝ) (a b : ℕ) : 0 ≤ poolM S0 S1 a b := le_max_of_le_left (poolS_nonneg ..)

theorem Wn_nonneg (S0 S1 S : ℕ → ℕ → ℝ) (t u : ℕ) : 0 ≤ Wn S0 S1 S t u := by
  unfold Wn; split
  · exact En_nonneg ..
  · exact le_rfl

theorem keepN_zero (P : ℕ → ℝ) (a : ℕ) : keepN P a 0 := ⟨Nat.zero_le _, Or.inr (Or.inr rfl)⟩

theorem rowD_pos (S0 S1 S : ℕ → ℕ → ℝ) (t : ℕ) : 0 < rowD S0 S1 S t := by
  refine Finset.sum_pos' (fun u _ => Wn_nonneg ..) ⟨0, Finset.mem_univ _, ?_⟩
  have e : Wn S0 S1 S t 0 = Real.exp (S t 0) := by
    unfold Wn En
    rw [if_pos (keepN_zero _ _), if_pos (Nat.zero_le _)]
  exact (Real.exp_pos _).trans_eq e.symm

/-- The same sum block by block. -/
theorem rowD_blocks (S0 S1 S : ℕ → ℕ → ℝ) (t : ℕ) :
    rowD S0 S1 S t = ∑ b : Fin 32, if keepN (poolM S0 S1 (t / 64)) (t / 64) b.val then rowB S t b.val else 0 := by
  unfold rowD
  rw [Fin.sum_univ_tiles 32 64 rfl]
  refine Finset.sum_congr rfl fun b _ => ?_
  have e : ∀ c : Fin 64, Wn S0 S1 S t (b.val * 64 + c.val) = if keepN (poolM S0 S1 (t / 64)) (t / 64) b.val then En S t (64 * b.val + c.val) else 0 := by
    intro c
    unfold Wn
    rw [show (b.val * 64 + c.val) / 64 = b.val by omega, mul_comm b.val 64]
  simp only [e]
  split
  · rfl
  · simp

theorem rowL_eq (S : ℕ → ℕ → ℝ) (t : ℕ) : rowL S t = ∑ u : Fin 2048, En S t u.val := by
  rw [Fin.sum_univ_tiles 32 64 rfl]
  unfold rowL rowB
  refine Finset.sum_congr rfl fun b _ => Finset.sum_congr rfl fun c _ => ?_
  exact congrArg (En S t) (by simp only [mul_comm])

/-! Sums and quotients of reals among the extended reals. -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_real (x : ℝ) : Ideal.exp (x : EReal) = ((Real.exp x : ℝ) : EReal) := rfl

theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem coe_ite (c : Prop) [Decidable c] (x : ℝ) : (if c then (x : EReal) else 0) = ((if c then x else 0 : ℝ) : EReal) := by
  split <;> simp

/-- A positive real factor moves into a sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

end Cert.Attn
end
-- ==== Proof.V.KSum.lean ====
/- The attention call's sums over key chunks as sums over whole rows. -/
module

public import proofs.«01_k».proof.Proof.V.PayC
public import proofs.«01_k».proof.Proof.V.Spec

@[expose] public section

set_option maxRecDepth 16384

noncomputable section

namespace Cert.KernelIdeal.Own

open Cert.KernelIdeal Cert.KernelIdeal.Gen
open Cert.Attn
open Idealize.ShloMosaic Idealize.ShloMosaic.TcCoe Idealize.SL.Sem

/-! Sums over one chunk of 512 keys. -/

theorem chunk_row (S : ℕ → ℕ → ℝ) (t n : ℕ) (b : Fin 32) :
    (∑ l : Fin 512, if (512 * n + l.val) / 64 = b.val then En S t (512 * n + l.val) else 0) = if b.val / 8 = n then rowB S t b.val else 0 := by
  rw [Fin.sum_univ_tiles 8 64 rfl]
  have hb := b.isLt
  have e : ∀ (j : Fin 8) (c : Fin 64), (if (512 * n + (j.val * 64 + c.val)) / 64 = b.val then En S t (512 * n + (j.val * 64 + c.val)) else 0)
      = if 8 * n + j.val = b.val then En S t (64 * b.val + c.val) else 0 := by
    intro j c
    have hj := j.isLt
    have hc := c.isLt
    by_cases h : 8 * n + j.val = b.val
    · rw [if_pos (by omega), if_pos h, show 512 * n + (j.val * 64 + c.val) = 64 * b.val + c.val by omega]
    · rw [if_neg (by omega), if_neg h]
  simp only [e]
  by_cases h : b.val / 8 = n
  · rw [if_pos h, Finset.sum_eq_single (⟨b.val % 8, by omega⟩ : Fin 8)]
    · simp only [show 8 * n + b.val % 8 = b.val by omega, if_true]; rfl
    · intro j _ hj
      have : ¬ 8 * n + j.val = b.val := fun hh => hj (Fin.ext (by simp only; omega))
      simp only [this, if_false, Finset.sum_const_zero]
    · intro hh; exact absurd (Finset.mem_univ _) hh
  · rw [if_neg h]
    refine Finset.sum_eq_zero fun j _ => ?_
    have hj := j.isLt
    have : ¬ 8 * n + j.val = b.val := by omega
    simp only [this, if_false, Finset.sum_const_zero]

theorem splitDot_real (e : Fin 512 → Fin 512 → EReal) (w : Fin 512 → Fin 32 → EReal) (S : ℕ → ℕ → ℝ) (t n : ℕ) (r : Fin 512) (b : Fin 32)
    (he : ∀ l : Fin 512, e r l = (En S t (512 * n + l.val) : EReal))
    (hw : ∀ l : Fin 512, w l b = if (512 * n + l.val) / 64 = b.val then (1 : EReal) else 0) :
    splitDot e w r b = ((if b.val / 8 = n then rowB S t b.val else 0 : ℝ) : EReal) := by
  unfold splitDot
  have h2 : ∀ l : Fin 512, (e r l - e r l) * w l b = 0 := by
    intro l; rw [he l, ← EReal.coe_sub, sub_self, EReal.coe_zero, zero_mul]
  have h1 : ∀ l : Fin 512, e r l * w l b = ((if (512 * n + l.val) / 64 = b.val then En S t (512 * n + l.val) else 0 : ℝ) : EReal) := by
    intro l; rw [he l, hw l]
    by_cases h : (512 * n + l.val) / 64 = b.val
    · rw [if_pos h, if_pos h, mul_one]
    · rw [if_neg h, if_neg h, mul_zero, EReal.coe_zero]
  rw [Finset.sum_congr rfl fun l _ => h1 l, Finset.sum_congr rfl fun l _ => h2 l, Finset.sum_const_zero, add_zero, coe_sum, chunk_row]

theorem poolDot_real (z : FVec Ideal S8x512 .bf16) (p : Fin 512 → Fin 32 → EReal) (S : ℕ → ℕ → ℝ) (qt : ℕ) (g : Fin 8) (b : Fin 32)
    (hz : ∀ l : Fin 512, z (ix2 g l) = if l.val / 64 = g.val then (1 : EReal) else 0)
    (hp : ∀ l : Fin 512, p l b = ((rowB S (512 * qt + l.val) b.val / rowL S (512 * qt + l.val) : ℝ) : EReal)) :
    poolDot z p g b = (poolS S (8 * qt + g.val) b.val : EReal) := by
  unfold poolDot
  have h2 : ∀ l : Fin 512, z (ix2 g l) * (p l b - p l b) = 0 := by
    intro l; rw [hp l, ← EReal.coe_sub, sub_self, EReal.coe_zero, mul_zero]
  have h1 : ∀ l : Fin 512, z (ix2 g l) * p l b = ((if l.val / 64 = g.val then rowB S (512 * qt + l.val) b.val / rowL S (512 * qt + l.val) else 0 : ℝ) : EReal) := by
    intro l; rw [hp l, hz l]
    by_cases h : l.val / 64 = g.val
    · rw [if_pos h, if_pos h, one_mul]
    · rw [if_neg h, if_neg h, zero_mul, EReal.coe_zero]
  rw [Finset.sum_congr rfl fun l _ => h1 l, Finset.sum_congr rfl fun l _ => h2 l, Finset.sum_const_zero, add_zero, coe_sum]
  congr 1
  rw [Fin.sum_univ_tiles 8 64 rfl, Finset.sum_eq_single g]
  · unfold poolS
    refine Finset.sum_congr rfl fun c _ => ?_
    have hc := c.isLt
    simp only [show (g.val * 64 + c.val) / 64 = g.val by omega, if_true, show 512 * qt + (g.val * 64 + c.val) = 64 * (8 * qt + g.val) + c.val by omega]
  · intro j _ hj
    refine Finset.sum_eq_zero fun c _ => ?_
    have hc := c.isLt
    have : ¬ (j.val * 64 + c.val) / 64 = g.val := fun hh => hj (Fin.ext (by omega))
    simp only [this, if_false]
  · intro hh; exact absurd (Finset.mem_univ _) hh

variable (i : grid1.Coords) (x0 : Vec Ideal S512x512 .f32) (x1 x2 : Vec Ideal S2048x256 .f32) (S0 S1 S2 S3 : ℕ → ℕ → ℝ)

/-- The scaled products of one query head's rows with a key head's rows are the real numbers `S`. -/
def Scores (oq ok : ℕ) (hq : oq ≤ 384) (hk : ok ≤ 128) (S : ℕ → ℕ → ℝ) : Prop :=
  ∀ (r : Fin 512) (u : Fin 2048), (∑ d : Fin 128, x0 (ix2 r ⟨oq + d.val, by omega⟩) * x1 (ix2 u ⟨ok + d.val, by omega⟩)) * SCALE
    = (S (512 * (i 1).val + r.val) u.val : EReal)

theorem i1_lt : (i 1).val < 4 := (i 1).isLt

theorem En_below (S : ℕ → ℕ → ℝ) (n : ℕ) (hn : n < (i 1).val) (r l : Fin 512) :
    Real.exp (S (512 * (i 1).val + r.val) (512 * n + l.val)) = En S (512 * (i 1).val + r.val) (512 * n + l.val) := by
  unfold En; rw [if_pos (by omega)]

theorem En_diag (S : ℕ → ℕ → ℝ) (r l : Fin 512) (x : EReal) (hx : x = (S (512 * (i 1).val + r.val) (512 * (i 1).val + l.val) : EReal)) :
    (if l.val ≤ r.val then Ideal.exp x else 0) = (En S (512 * (i 1).val + r.val) (512 * (i 1).val + l.val) : EReal) := by
  unfold En
  by_cases h : l.val ≤ r.val
  · rw [if_pos h, if_pos (by omega), hx, exp_real]
  · rw [if_neg h, if_neg (by omega), EReal.coe_zero]

theorem pay10_id (x : Vec Ideal S512x256 .f32) : k1_pay10 (F := Ideal) x = x := by
  funext j
  rw [eq_ix2 j]
  pointwise [k1_pay10]

theorem below0 (h0 : Scores i x0 x1 0 0 (by omega) (by omega) S0) (k : Fin (k1_t1_loop i).trips) (r l : Fin 512) :
    k1_pay12 (F := Ideal) (qh0 x0) (kch i x1 k) (ix2 r l) = (En S0 (512 * (i 1).val + r.val) (512 * k.val + l.val) : EReal) := by
  have hk : k.val < (i 1).val := by have := k.isLt; have := trips1 i; omega
  have h4 := i1_lt i
  rw [pay12_at, ← En_below i S0 k.val hk r l, ← exp_real]
  refine congrArg Ideal.exp (Eq.trans ?_ (h0 r ⟨512 * k.val + l.val, by omega⟩))
  refine congrArg (fun z : EReal => z * SCALE) (Finset.sum_congr rfl fun d _ => ?_)
  rw [qh0_at, kch_at]
  simp only [Nat.zero_add]

theorem diag0 (h0 : Scores i x0 x1 0 0 (by omega) (by omega) S0) (r l : Fin 512) :
    k1_pay58 (F := Ideal) k1_pay42 (qh0 x0) (k1_pay57 (kdg i x1)) (constant S512x512 .f32 0x00000000#32) (ix2 r l) = (En S0 (512 * (i 1).val + r.val) (512 * (i 1).val + l.val) : EReal) := by
  have h4 := i1_lt i
  rw [pay58_at]
  refine En_diag i S0 r l _ (Eq.trans ?_ (h0 r ⟨512 * (i 1).val + l.val, by omega⟩))
  refine congrArg (fun z : EReal => z * SCALE) (Finset.sum_congr rfl fun d _ => ?_)
  rw [qh0_at, kdg_at]
  simp only [Nat.zero_add]

theorem below1 (h1 : Scores i x0 x1 128 0 (by omega) (by omega) S1) (k : Fin (k1_t1_loop i).trips) (r l : Fin 512) :
    k1_pay15 (F := Ideal) (qh1 x0) (k1_pay10 (kch i x1 k)) (ix2 r l) = (En S1 (512 * (i 1).val + r.val) (512 * k.val + l.val) : EReal) := by
  have hk : k.val < (i 1).val := by have := k.isLt; have := trips1 i; omega
  have h4 := i1_lt i
  rw [pay10_id, pay15_at, ← En_below i S1 k.val hk r l, ← exp_real]
  refine congrArg Ideal.exp (Eq.trans ?_ (h1 r ⟨512 * k.val + l.val, by omega⟩))
  refine congrArg (fun z : EReal => z * SCALE) (Finset.sum_congr rfl fun d _ => ?_)
  rw [qh1_at, kch_at]
  simp only [Nat.zero_add]

theorem diag1 (h1 : Scores i x0 x1 128 0 (by omega) (by omega) S1) (r l : Fin 512) :
    k1_pay61 (F := Ideal) k1_pay42 (qh1 x0) (k1_pay55 (kdg i x1)) (ix2 r l) = (En S1 (512 * (i 1).val + r.val) (512 * (i 1).val + l.val) : EReal) := by
  have h4 := i1_lt i
  rw [pay61_at]
  refine En_diag i S1 r l _ (Eq.trans ?_ (h1 r ⟨512 * (i 1).val + l.val, by omega⟩))
  refine congrArg (fun z : EReal => z * SCALE) (Finset.sum_congr rfl fun d _ => ?_)
  rw [qh1_at, kdg_at]
  simp only [Nat.zero_add]

theorem below2 (h2 : Scores i x0 x1 256 128 (by omega) (by omega) S2) (k : Fin (k1_t1_loop i).trips) (r l : Fin 512) :
    k1_pay18 (F := Ideal) (qh2 x0) (k1_pay10 (kch i x1 k)) (ix2 r l) = (En S2 (512 * (i 1).val + r.val) (512 * k.val + l.val) : EReal) := by
  have hk : k.val < (i 1).val := by have := k.isLt; have := trips1 i; omega
  have h4 := i1_lt i
  rw [pay10_id, pay18_at, ← En_below i S2 k.val hk r l, ← exp_real]
  refine congrArg Ideal.exp (Eq.trans ?_ (h2 r ⟨512 * k.val + l.val, by omega⟩))
  refine congrArg (fun z : EReal => z * SCALE) (Finset.sum_congr rfl fun d _ => ?_)
  rw [qh2_at, kch_at]

theorem diag2 (h2 : Scores i x0 x1 256 128 (by omega) (by omega) S2) (r l : Fin 512) :
    k1_pay66 (F := Ideal) k1_pay42 (k1_pay64 (qh2 x0) (k1_pay55 (kdg i x1))) k1_pay65 (ix2 r l) = (En S2 (512 * (i 1).val + r.val) (512 * (i 1).val + l.val) : EReal) := by
  have h4 := i1_lt i
  rw [pay66_at]
  refine En_diag i S2 r l _ (Eq.trans ?_ (h2 r ⟨512 * (i 1).val + l.val, by omega⟩))
  refine congrArg (fun z : EReal => z * SCALE) (Finset.sum_congr rfl fun d _ => ?_)
  rw [qh2_at, kdg_at]

theorem below3 (h3 : Scores i x0 x1 384 128 (by omega) (by omega) S3) (k : Fin (k1_t1_loop i).trips) (r l : Fin 512) :
    k1_pay49 (F := Ideal) (qh3 x0) (k1_pay10 (kch i x1 k)) (ix2 r l) = (En S3 (512 * (i 1).val + r.val) (512 * k.val + l.val) : EReal) := by
  have hk : k.val < (i 1).val := by have := k.isLt; have := trips1 i; omega
  have h4 := i1_lt i
  rw [pay10_id, pay49_at, ← En_below i S3 k.val hk r l, ← exp_real]
  refine congrArg Ideal.exp (Eq.trans ?_ (h3 r ⟨512 * k.val + l.val, by omega⟩))
  refine congrArg (fun z : EReal => z * SCALE) (Finset.sum_congr rfl fun d _ => ?_)
  rw [qh3_at, kch_at]

theorem diag3 (h3 : Scores i x0 x1 384 128 (by omega) (by omega) S3) (r l : Fin 512) :
    k1_pay69 (F := Ideal) k1_pay42 (qh3 x0) (k1_pay55 (kdg i x1)) (ix2 r l) = (En S3 (512 * (i 1).val + r.val) (512 * (i 1).val + l.val) : EReal) := by
  have h4 := i1_lt i
  rw [pay69_at]
  refine En_diag i S3 r l _ (Eq.trans ?_ (h3 r ⟨512 * (i 1).val + l.val, by omega⟩))
  refine congrArg (fun z : EReal => z * SCALE) (Finset.sum_congr rfl fun d _ => ?_)
  rw [qh3_at, kdg_at]

/-- What the four accumulators hold after `n` chunks: the rows' sums over the blocks seen so far. -/
def AccIs (A : Acc4 Ideal) (n : ℕ) : Prop := ∀ (r : Fin 512) (b : Fin 32),
  A.1 (ix2 r b) = ((if b.val / 8 < n then rowB S0 (512 * (i 1).val + r.val) b.val else 0 : ℝ) : EReal)
  ∧ A.2.1 (ix2 r b) = ((if b.val / 8 < n then rowB S1 (512 * (i 1).val + r.val) b.val else 0 : ℝ) : EReal)
  ∧ A.2.2.1 (ix2 r b) = ((if b.val / 8 < n then rowB S2 (512 * (i 1).val + r.val) b.val else 0 : ℝ) : EReal)
  ∧ A.2.2.2 (ix2 r b) = ((if b.val / 8 < n then rowB S3 (512 * (i 1).val + r.val) b.val else 0 : ℝ) : EReal)

theorem acc_next (n b : ℕ) (x : ℝ) : ((if b / 8 < n then x else 0 : ℝ) : EReal) + ((if b / 8 = n then x else 0 : ℝ) : EReal)
    = ((if b / 8 < n + 1 then x else 0 : ℝ) : EReal) := by
  rw [← EReal.coe_add]
  congr 1
  by_cases h1 : b / 8 < n
  · rw [if_pos h1, if_neg (by omega), if_pos (by omega), add_zero]
  · by_cases h2 : b / 8 = n
    · rw [if_neg h1, if_pos h2, if_pos (by omega), zero_add]
    · rw [if_neg h1, if_neg h2, if_neg (by omega), zero_add]

variable (h0 : Scores i x0 x1 0 0 (by omega) (by omega) S0) (h1 : Scores i x0 x1 128 0 (by omega) (by omega) S1)
  (h2 : Scores i x0 x1 256 128 (by omega) (by omega) S2) (h3 : Scores i x0 x1 384 128 (by omega) (by omega) S3)

include h0 h1 h2 h3

theorem stepA_is (k : Fin (k1_t1_loop i).trips) (A : Acc4 Ideal) (hA : AccIs i S0 S1 S2 S3 A k.val) :
    AccIs i S0 S1 S2 S3 (stepA (F := Ideal) i (qh0 x0) (qh1 x0) (qh2 x0) (qh3 x0) x1 k A) (k.val + 1) := by
  intro r b
  obtain ⟨a0, a1, a2, a3⟩ := hA r b
  have hw := fun l : Fin 512 => pay11_at i k l b
  unfold stepA
  dsimp only
  refine ⟨?_, ?_, ?_, ?_⟩
  · rw [pay14_at, a0, splitDot_real _ _ S0 _ k.val r b (fun l => below0 i x0 x1 S0 h0 k r l) hw, acc_next]
  · rw [pay17_at, a1, splitDot_real _ _ S1 _ k.val r b (fun l => below1 i x0 x1 S1 h1 k r l) hw, acc_next]
  · rw [pay20_at, a2, splitDot_real _ _ S2 _ k.val r b (fun l => below2 i x0 x1 S2 h2 k r l) hw, acc_next]
  · rw [pay51_at, a3, splitDot_real _ _ S3 _ k.val r b (fun l => below3 i x0 x1 S3 h3 k r l) hw, acc_next]

theorem accA_is (n : ℕ) (hn : n ≤ (k1_t1_loop i).trips) :
    AccIs i S0 S1 S2 S3 (accA (F := Ideal) i (qh0 x0) (qh1 x0) (qh2 x0) (qh3 x0) x1 (k1_pay48, k1_pay48, k1_pay48, k1_pay48) n) n := by
  induction n with
  | zero =>
    intro r b
    unfold accA
    simp only [pay48_at, Nat.not_lt_zero, if_false, EReal.coe_zero, and_self]
  | succ n ih =>
    unfold accA
    rw [dif_pos (show n < (k1_t1_loop i).trips by omega)]
    exact stepA_is i x0 x1 S0 S1 S2 S3 h0 h1 h2 h3 ⟨n, by omega⟩ _ (ih (by omega))

theorem accQ_is : AccIs i S0 S1 S2 S3 (accQ (F := Ideal) i x0 x1) (i 1).val := by
  have h := accA_is i x0 x1 S0 S1 S2 S3 h0 h1 h2 h3 (k1_t1_loop i).trips le_rfl
  rw [trips1 i] at h
  unfold accQ
  rw [trips1 i]
  exact h

omit h0 h1 h2 h3

theorem row_full (S : ℕ → ℕ → ℝ) (r : Fin 512) (b : Fin 32) :
    ((if b.val / 8 < (i 1).val then rowB S (512 * (i 1).val + r.val) b.val else 0 : ℝ) : EReal)
      + ((if b.val / 8 = (i 1).val then rowB S (512 * (i 1).val + r.val) b.val else 0 : ℝ) : EReal)
      = (rowB S (512 * (i 1).val + r.val) b.val : EReal) := by
  rw [acc_next]
  by_cases h : b.val / 8 < (i 1).val + 1
  · rw [if_pos h]
  · rw [if_neg h, rowB_of_gt _ _ _ (by omega)]

include h0 h1 h2 h3

theorem aa0_is (r : Fin 512) (b : Fin 32) :
    aa0 (F := Ideal) i x0 x1 (accQ i x0 x1) (ix2 r b) = (rowB S0 (512 * (i 1).val + r.val) b.val : EReal) := by
  unfold aa0
  rw [pay60_at, (accQ_is i x0 x1 S0 S1 S2 S3 h0 h1 h2 h3 r b).1,
    splitDot_real _ _ S0 _ (i 1).val r b (fun l => diag0 i x0 x1 S0 h0 r l) (fun l => pay56_at i l b), row_full]

theorem aa1_is (r : Fin 512) (b : Fin 32) :
    aa1 (F := Ideal) i x0 x1 (accQ i x0 x1) (ix2 r b) = (rowB S1 (512 * (i 1).val + r.val) b.val : EReal) := by
  unfold aa1
  rw [pay63_at, (accQ_is i x0 x1 S0 S1 S2 S3 h0 h1 h2 h3 r b).2.1,
    splitDot_real _ _ S1 _ (i 1).val r b (fun l => diag1 i x0 x1 S1 h1 r l) (fun l => pay56_at i l b), row_full]

theorem aa2_is (r : Fin 512) (b : Fin 32) :
    aa2 (F := Ideal) i x0 x1 (accQ i x0 x1) (ix2 r b) = (rowB S2 (512 * (i 1).val + r.val) b.val : EReal) := by
  unfold aa2
  rw [pay68_at, (accQ_is i x0 x1 S0 S1 S2 S3 h0 h1 h2 h3 r b).2.2.1,
    splitDot_real _ _ S2 _ (i 1).val r b (fun l => diag2 i x0 x1 S2 h2 r l) (fun l => pay56_at i l b), row_full]

theorem aa3_is (r : Fin 512) (b : Fin 32) :
    aa3 (F := Ideal) i x0 x1 (accQ i x0 x1) (ix2 r b) = (rowB S3 (512 * (i 1).val + r.val) b.val : EReal) := by
  unfold aa3
  rw [pay71_at, (accQ_is i x0 x1 S0 S1 S2 S3 h0 h1 h2 h3 r b).2.2.2,
    splitDot_real _ _ S3 _ (i 1).val r b (fun l => diag3 i x0 x1 S3 h3 r l) (fun l => pay56_at i l b), row_full]

end Cert.KernelIdeal.Own
end
-- ==== Proof.V.KOut.lean ====
/- The attention call's output block as the attention of the specification. -/
module

public import proofs.«01_k».proof.Proof.V.KSum
public import proofs.«01_k».proof.Proof.V.Spec

@[expose] public section

set_option maxRecDepth 16384

noncomputable section

namespace Cert.KernelIdeal.Own

open Cert.KernelIdeal Cert.KernelIdeal.Gen
open Cert.Attn
open Idealize.ShloMosaic Idealize.ShloMosaic.TcCoe Idealize.SL.Sem

theorem d512_0 (d : Fin 128) : d.val < 512 := by omega
theorem d512_1 (d : Fin 128) : 128 + d.val < 512 := by omega
theorem d512_2 (d : Fin 128) : 256 + d.val < 512 := by omega
theorem d512_3 (d : Fin 128) : 384 + d.val < 512 := by omega
theorem d256_0 (d : Fin 128) : 0 + d.val < 256 := by omega
theorem d256_1 (d : Fin 128) : 128 + d.val < 256 := by omega

theorem le_384_128 : 128 ≤ 384 := by omega
theorem le_384_256 : 256 ≤ 384 := by omega
theorem le_384_384 : 384 ≤ 384 := by omega
theorem le_128_128 : 128 ≤ 128 := by omega

variable (i : grid1.Coords) (x0 : Vec Ideal S512x512 .f32) (x1 x2 : Vec Ideal S2048x256 .f32) (S0 S1 S2 S3 : ℕ → ℕ → ℝ)
  (h0 : Scores i x0 x1 0 0 (Nat.zero_le 384) (Nat.zero_le 128) S0) (h1 : Scores i x0 x1 128 0 le_384_128 (Nat.zero_le 128) S1)
  (h2 : Scores i x0 x1 256 128 le_384_256 le_128_128 S2) (h3 : Scores i x0 x1 384 128 le_384_384 le_128_128 S3)

theorem ratio_real (S : ℕ → ℕ → ℝ) (A : FVec Ideal S512x32 .f32) (r : Fin 512) (b : Fin 32) (L : EReal)
    (hA : ∀ b : Fin 32, A (ix2 r b) = (rowB S (512 * (i 1).val + r.val) b.val : EReal)) (hL : L = ∑ b : Fin 32, A (ix2 r b)) :
    Ideal.div (A (ix2 r b)) L = ((rowB S (512 * (i 1).val + r.val) b.val / rowL S (512 * (i 1).val + r.val) : ℝ) : EReal) := by
  rw [hL, Finset.sum_congr rfl fun b _ => hA b, hA b, coe_sum]
  exact div_real _ _ (rowL_pos S _).ne'

/-- The pooled weights of query block `g` of this tile: key head one for `g < 8`, key head two after. -/
def poolR (g b : ℕ) : ℝ := if g < 8 then poolM S0 S1 (8 * (i 1).val + g % 8) b else poolM S2 S3 (8 * (i 1).val + g % 8) b

theorem poolR_nonneg (g b : ℕ) : 0 ≤ poolR i S0 S1 S2 S3 g b := by
  unfold poolR; split <;> exact poolM_nonneg ..

include h0 h1 h2 h3

theorem pool_at (g : Fin 16) (b : Fin 32) :
    pool (F := Ideal) i x0 x1 (accQ i x0 x1) (ix2 g b) = (poolR i S0 S1 S2 S3 g.val b.val : EReal) := by
  have e0 := fun l b => aa0_is i x0 x1 S0 S1 S2 S3 h0 h1 h2 h3 l b
  have e1 := fun l b => aa1_is i x0 x1 S0 S1 S2 S3 h0 h1 h2 h3 l b
  have e2 := fun l b => aa2_is i x0 x1 S0 S1 S2 S3 h0 h1 h2 h3 l b
  have e3 := fun l b => aa3_is i x0 x1 S0 S1 S2 S3 h0 h1 h2 h3 l b
  have hg := g.isLt
  unfold pool
  rw [pay76_at]
  unfold poolR
  by_cases h : g.val < 8
  · rw [dif_pos h, if_pos h, show g.val % 8 = g.val by omega]
    have p0 := poolDot_real (k1_pay43 (F := Ideal)) (fun l b => k1_pay75 (F := Ideal) (aa0 i x0 x1 (accQ i x0 x1)) (ix2 l b)) S0 (i 1).val ⟨g.val, h⟩ b
      (fun l => pay43_at _ l) (fun l => by rw [pay75_at]; exact ratio_real i S0 _ l b _ (e0 l) rfl)
    have p1 := poolDot_real (k1_pay43 (F := Ideal)) (fun l b => Ideal.div (aa1 i x0 x1 (accQ i x0 x1) (ix2 l b)) (k1_pay72 (F := Ideal) (aa1 i x0 x1 (accQ i x0 x1)) (ix2 l 0))) S1 (i 1).val ⟨g.val, h⟩ b
      (fun l => pay43_at _ l) (fun l => ratio_real i S1 _ l b _ (e1 l) (pay72_at _ l))
    rw [p0, p1, coe_max]
    rfl
  · rw [dif_neg h, if_neg h, show g.val % 8 = g.val - 8 by omega]
    have p2 := poolDot_real (k1_pay43 (F := Ideal)) (fun l b => Ideal.div (aa2 i x0 x1 (accQ i x0 x1) (ix2 l b)) (k1_pay73 (F := Ideal) k1_pay42 (accQ i x0 x1).2.2.1 (k1_pay56 (ib1 i)) (k1_pay64 (qh2 x0) (k1_pay55 (kdg i x1))) k1_pay65 (ix2 l 0))) S2 (i 1).val ⟨g.val - 8, by omega⟩ b
      (fun l => pay43_at _ l) (fun l => ratio_real i S2 _ l b _ (e2 l) (pay73_at _ _ _ _ _ l))
    have p3 := poolDot_real (k1_pay43 (F := Ideal)) (fun l b => Ideal.div (aa3 i x0 x1 (accQ i x0 x1) (ix2 l b)) (k1_pay74 (F := Ideal) k1_pay42 (qh3 x0) (accQ i x0 x1).2.2.2 (k1_pay55 (kdg i x1)) (k1_pay56 (ib1 i)) (ix2 l 0))) S3 (i 1).val ⟨g.val - 8, by omega⟩ b
      (fun l => pay43_at _ l) (fun l => ratio_real i S3 _ l b _ (e3 l) (pay74_at _ _ _ _ _ l))
    rw [p2, p3, coe_max]
    rfl

omit h0 h1 h2 h3

/-- Blocks past the diagonal carry minus one and never stand before a causal block. -/
theorem rank_causal (P : ℕ → ℝ) (hP : ∀ b, 0 ≤ P b) (a b : ℕ) (hb : b ≤ a) :
    rankAll (fun n => if n ≤ a then P n else -1) b = rankN P a b := by
  unfold rankAll rankN
  congr 1
  refine Finset.filter_congr fun c _ => ?_
  have hPb := hP b
  dsimp only
  rw [if_pos hb]
  by_cases hc : c ≤ a
  · rw [if_pos hc]; exact ⟨fun h => ⟨hc, h⟩, fun h => h.2⟩
  · rw [if_neg hc]
    constructor
    · rintro (h | h)
      · linarith
      · linarith [h.1]
    · exact fun h => absurd h.1 hc

include h0 h1 h2 h3

/-- The kept blocks of this tile. -/
theorem keep_mul (g : Fin 16) (b : Fin 32) (x : ℝ) (hx : 8 * (i 1).val + g.val % 8 < b.val → x = 0) :
    (x : EReal) * k1_pay104 (F := Ideal) (qblk (ib1 i)) kblk k1_pay82 k1_pay83 (cnt6 (ib1 i) (pool i x0 x1 (accQ i x0 x1)))
        (k1_pay103 (caus (ib1 i) (pool i x0 x1 (accQ i x0 x1)))) (ix2 g b)
      = ((if keepN (poolR i S0 S1 S2 S3 g.val) (8 * (i 1).val + g.val % 8) b.val then x else 0 : ℝ) : EReal) := by
  by_cases hb : b.val ≤ 8 * (i 1).val + g.val % 8
  · have hc := cntT_eq (ib1 i) (pool i x0 x1 (accQ i x0 x1)) g
      (fun n => if n ≤ 8 * (i 1).val + g.val % 8 then poolR i S0 S1 S2 S3 g.val n else -1)
      (fun b => by
        rw [caus_at, pool_at i x0 x1 S0 S1 S2 S3 h0 h1 h2 h3]
        split <;> rfl) b
    rw [keep_at, hc, rank_causal _ (poolR_nonneg i S0 S1 S2 S3 g.val) _ _ hb]
    have e : (((rankN (poolR i S0 S1 S2 S3 g.val) (8 * (i 1).val + g.val % 8) b.val : ℝ) : EReal) < ((16 : ℝ) : EReal))
        ↔ rankN (poolR i S0 S1 S2 S3 g.val) (8 * (i 1).val + g.val % 8) b.val < 16 := by
      rw [EReal.coe_lt_coe_iff]; exact_mod_cast Iff.rfl
    by_cases hk : keepN (poolR i S0 S1 S2 S3 g.val) (8 * (i 1).val + g.val % 8) b.val
    · rw [if_pos hk, if_pos, mul_one]
      rcases hk.2 with h | h | h
      · exact Or.inl (e.2 h)
      · exact Or.inr (Or.inl ⟨hb, h⟩)
      · exact Or.inr (Or.inr h)
    · rw [if_neg hk, if_neg, mul_zero, EReal.coe_zero]
      intro h
      apply hk
      refine ⟨hb, ?_⟩
      rcases h with h | h | h
      · exact Or.inl (e.1 h)
      · exact Or.inr (Or.inl h.2)
      · exact Or.inr (Or.inr h)
  · have := hx (by omega)
    subst this
    rw [EReal.coe_zero, zero_mul]
    split <;> simp

omit h0 h1 h2 h3

theorem poolR_lo (g : ℕ) (hg : g < 8) : poolR i S0 S1 S2 S3 g = poolM S0 S1 (8 * (i 1).val + g) := by
  funext b; unfold poolR; rw [if_pos hg, show g % 8 = g by omega]
theorem poolR_hi (g : ℕ) (hg : g < 8) : poolR i S0 S1 S2 S3 (8 + g) = poolM S2 S3 (8 * (i 1).val + g) := by
  funext b; unfold poolR; rw [if_neg (by omega), show (8 + g) % 8 = g by omega]

include h0 h1 h2 h3

theorem bm0_mul (g : Fin 8) (b : Fin 32) (x : ℝ) (hx : 8 * (i 1).val + g.val < b.val → x = 0) :
    (x : EReal) * bm0 (F := Ideal) (ib1 i) (pool i x0 x1 (accQ i x0 x1)) (ix2 g b)
      = ((if keepN (poolM S0 S1 (8 * (i 1).val + g.val)) (8 * (i 1).val + g.val) b.val then x else 0 : ℝ) : EReal) := by
  have hg := g.isLt
  have h := keep_mul i x0 x1 S0 S1 S2 S3 h0 h1 h2 h3 ⟨g.val, by omega⟩ b x (fun hh => hx (by simp only at hh; omega))
  rw [bm0_at, h]
  simp only [show g.val % 8 = g.val by omega, poolR_lo i S0 S1 S2 S3 g.val hg]

theorem bm1_mul (g : Fin 8) (b : Fin 32) (x : ℝ) (hx : 8 * (i 1).val + g.val < b.val → x = 0) :
    (x : EReal) * bm1 (F := Ideal) (ib1 i) (pool i x0 x1 (accQ i x0 x1)) (ix2 g b)
      = ((if keepN (poolM S2 S3 (8 * (i 1).val + g.val)) (8 * (i 1).val + g.val) b.val then x else 0 : ℝ) : EReal) := by
  have hg := g.isLt
  have h := keep_mul i x0 x1 S0 S1 S2 S3 h0 h1 h2 h3 ⟨8 + g.val, by omega⟩ b x (fun hh => hx (by simp only at hh; omega))
  rw [bm1_at, h]
  simp only [show (8 + g.val) % 8 = g.val by omega, poolR_hi i S0 S1 S2 S3 g.val hg]

theorem ll0_is (r : Fin 512) :
    ll0 (F := Ideal) (ib1 i) (pool i x0 x1 (accQ i x0 x1)) (aa0 i x0 x1 (accQ i x0 x1)) (ix2 r 0) = (rowD S0 S1 S0 (512 * (i 1).val + r.val) : EReal) := by
  rw [ll0_at, rowD_blocks, ← coe_sum]
  have e : (512 * (i 1).val + r.val) / 64 = 8 * (i 1).val + r.val / 64 := by omega
  refine Finset.sum_congr rfl fun b _ => ?_
  rw [aa0_is i x0 x1 S0 S1 S2 S3 h0 h1 h2 h3, e]
  exact bm0_mul i x0 x1 S0 S1 S2 S3 h0 h1 h2 h3 ⟨r.val / 64, by omega⟩ b _ (fun hh => rowB_of_gt _ _ _ (by simp only at hh; omega))

theorem ll1_is (r : Fin 512) :
    ll1 (F := Ideal) (ib1 i) (pool i x0 x1 (accQ i x0 x1)) (aa1 i x0 x1 (accQ i x0 x1)) (ix2 r 0) = (rowD S0 S1 S1 (512 * (i 1).val + r.val) : EReal) := by
  rw [ll1_at, rowD_blocks, ← coe_sum]
  have e : (512 * (i 1).val + r.val) / 64 = 8 * (i 1).val + r.val / 64 := by omega
  refine Finset.sum_congr rfl fun b _ => ?_
  rw [aa1_is i x0 x1 S0 S1 S2 S3 h0 h1 h2 h3, e]
  exact bm0_mul i x0 x1 S0 S1 S2 S3 h0 h1 h2 h3 ⟨r.val / 64, by omega⟩ b _ (fun hh => rowB_of_gt _ _ _ (by simp only at hh; omega))

theorem ll2_is (r : Fin 512) :
    ll2 (F := Ideal) (ib1 i) (pool i x0 x1 (accQ i x0 x1)) (aa2 i x0 x1 (accQ i x0 x1)) (ix2 r 0) = (rowD S2 S3 S2 (512 * (i 1).val + r.val) : EReal) := by
  rw [ll2_at, rowD_blocks, ← coe_sum]
  have e : (512 * (i 1).val + r.val) / 64 = 8 * (i 1).val + r.val / 64 := by omega
  refine Finset.sum_congr rfl fun b _ => ?_
  rw [aa2_is i x0 x1 S0 S1 S2 S3 h0 h1 h2 h3, e]
  exact bm1_mul i x0 x1 S0 S1 S2 S3 h0 h1 h2 h3 ⟨r.val / 64, by omega⟩ b _ (fun hh => rowB_of_gt _ _ _ (by simp only at hh; omega))

theorem ll3_is (r : Fin 512) :
    ll3 (F := Ideal) (ib1 i) (pool i x0 x1 (accQ i x0 x1)) (aa3 i x0 x1 (accQ i x0 x1)) (ix2 r 0) = (rowD S2 S3 S3 (512 * (i 1).val + r.val) : EReal) := by
  rw [ll3_at, rowD_blocks, ← coe_sum]
  have e : (512 * (i 1).val + r.val) / 64 = 8 * (i 1).val + r.val / 64 := by omega
  refine Finset.sum_congr rfl fun b _ => ?_
  rw [aa3_is i x0 x1 S0 S1 S2 S3 h0 h1 h2 h3, e]
  exact bm1_mul i x0 x1 S0 S1 S2 S3 h0 h1 h2 h3 ⟨r.val / 64, by omega⟩ b _ (fun hh => rowB_of_gt _ _ _ (by simp only at hh; omega))

theorem wt0_is (k : Fin (k1_t3_loop i).trips) (r l : Fin 512) (S : ℕ → ℕ → ℝ) :
    (En S (512 * (i 1).val + r.val) (512 * k.val + l.val) : EReal)
        * k1_pay34 (F := Ideal) i (bm0 (ib1 i) (pool i x0 x1 (accQ i x0 x1))) 0#32 1#32 k (ix2 r l)
      = (Wn S0 S1 S (512 * (i 1).val + r.val) (512 * k.val + l.val) : EReal) := by
  have hk := trip3_lt i k
  have hl := l.isLt
  have e : (512 * (i 1).val + r.val) / 64 = 8 * (i 1).val + r.val / 64 := by omega
  rw [pay34_at, Finset.sum_eq_single (⟨(512 * k.val + l.val) / 64, by omega⟩ : Fin 32)]
  · rw [pay33_at, if_pos rfl, mul_one]
    refine (bm0_mul i x0 x1 S0 S1 S2 S3 h0 h1 h2 h3 ⟨r.val / 64, by omega⟩ _ _ (fun hh => ?_)).trans ?_
    · unfold En; rw [if_neg]; simp only at hh; omega
    · unfold Wn; rw [e]
  · intro b _ hb
    rw [pay33_at, if_neg (fun hh => hb (Fin.ext hh)), mul_zero]
  · intro hh; exact absurd (Finset.mem_univ _) hh

theorem wt1_is (k : Fin (k1_t3_loop i).trips) (r l : Fin 512) (S : ℕ → ℕ → ℝ) :
    (En S (512 * (i 1).val + r.val) (512 * k.val + l.val) : EReal)
        * k1_pay35 (F := Ideal) i (bm1 (ib1 i) (pool i x0 x1 (accQ i x0 x1))) 0#32 1#32 k (ix2 r l)
      = (Wn S2 S3 S (512 * (i 1).val + r.val) (512 * k.val + l.val) : EReal) := by
  have hk := trip3_lt i k
  have hl := l.isLt
  have e : (512 * (i 1).val + r.val) / 64 = 8 * (i 1).val + r.val / 64 := by omega
  rw [pay35_at, Finset.sum_eq_single (⟨(512 * k.val + l.val) / 64, by omega⟩ : Fin 32)]
  · rw [pay33_at, if_pos rfl, mul_one]
    refine (bm1_mul i x0 x1 S0 S1 S2 S3 h0 h1 h2 h3 ⟨r.val / 64, by omega⟩ _ _ (fun hh => ?_)).trans ?_
    · unfold En; rw [if_neg]; simp only at hh; omega
    · unfold Wn; rw [e]
  · intro b _ hb
    rw [pay33_at, if_neg (fun hh => hb (Fin.ext hh)), mul_zero]
  · intro hh; exact absurd (Finset.mem_univ _) hh

omit h0 h1 h2 h3

theorem shape3_13 (x : FVec Ideal S512x512 .f32) (r l : Fin 512) : k1_pay13 (F := Ideal) x (ix3 0 r l) = x (ix2 r l) := by
  pointwise [k1_pay13]

theorem cast0a (k : Fin (k1_t1_loop i).trips) (r l : Fin 512) : k1_pay13 (F := Ideal) (k1_pay12 (qh0 x0) (kch i x1 k)) (ix3 0 r l) = k1_pay12 (F := Ideal) (qh0 x0) (kch i x1 k) (ix2 r l) := by
  pointwise [k1_pay13]
theorem cast0b (r l : Fin 512) : k1_pay59 (F := Ideal) k1_pay42 (qh0 x0) (k1_pay57 (kdg i x1)) (constant S512x512 .f32 0x00000000#32) (ix3 0 r l) = k1_pay58 (F := Ideal) k1_pay42 (qh0 x0) (k1_pay57 (kdg i x1)) (constant S512x512 .f32 0x00000000#32) (ix2 r l) := by
  pointwise [k1_pay59]
theorem ech0_is (h0 : Scores i x0 x1 0 0 (Nat.zero_le 384) (Nat.zero_le 128) S0) (k : Fin (k1_t3_loop i).trips) (r l : Fin 512) :
    ech0 (F := Ideal) i (qh0 x0) x1 k.val (ix3 0 r l) = (En S0 (512 * (i 1).val + r.val) (512 * k.val + l.val) : EReal) := by
  unfold ech0
  have hk := k.isLt
  have t1 := trips1 i
  have t3 := trips3 i
  by_cases h : k.val < (k1_t1_loop i).trips
  · rw [dif_pos h, cast0a i x0 x1 ⟨k.val, h⟩, below0 i x0 x1 S0 h0]
  · rw [dif_neg h, cast0b, diag0 i x0 x1 S0 h0, show k.val = (i 1).val by omega]

theorem cast1a (k : Fin (k1_t1_loop i).trips) (r l : Fin 512) : k1_pay16 (F := Ideal) (qh1 x0) (k1_pay10 (kch i x1 k)) (ix3 0 r l) = k1_pay15 (F := Ideal) (qh1 x0) (k1_pay10 (kch i x1 k)) (ix2 r l) := by
  pointwise [k1_pay16]
theorem cast1b (r l : Fin 512) : k1_pay62 (F := Ideal) k1_pay42 (qh1 x0) (k1_pay55 (kdg i x1)) (ix3 0 r l) = k1_pay61 (F := Ideal) k1_pay42 (qh1 x0) (k1_pay55 (kdg i x1)) (ix2 r l) := by
  pointwise [k1_pay62]
theorem ech1_is (h1 : Scores i x0 x1 128 0 le_384_128 (Nat.zero_le 128) S1) (k : Fin (k1_t3_loop i).trips) (r l : Fin 512) :
    ech1 (F := Ideal) i (qh1 x0) x1 k.val (ix3 0 r l) = (En S1 (512 * (i 1).val + r.val) (512 * k.val + l.val) : EReal) := by
  unfold ech1
  have hk := k.isLt
  have t1 := trips1 i
  have t3 := trips3 i
  by_cases h : k.val < (k1_t1_loop i).trips
  · rw [dif_pos h, cast1a i x0 x1 ⟨k.val, h⟩, below1 i x0 x1 S1 h1]
  · rw [dif_neg h, cast1b, diag1 i x0 x1 S1 h1, show k.val = (i 1).val by omega]

theorem cast2a (k : Fin (k1_t1_loop i).trips) (r l : Fin 512) : k1_pay19 (F := Ideal) (qh2 x0) (k1_pay10 (kch i x1 k)) (ix3 0 r l) = k1_pay18 (F := Ideal) (qh2 x0) (k1_pay10 (kch i x1 k)) (ix2 r l) := by
  pointwise [k1_pay19]
theorem cast2b (r l : Fin 512) : k1_pay67 (F := Ideal) k1_pay42 (k1_pay64 (qh2 x0) (k1_pay55 (kdg i x1))) k1_pay65 (ix3 0 r l) = k1_pay66 (F := Ideal) k1_pay42 (k1_pay64 (qh2 x0) (k1_pay55 (kdg i x1))) k1_pay65 (ix2 r l) := by
  pointwise [k1_pay67]
theorem ech2_is (h2 : Scores i x0 x1 256 128 le_384_256 le_128_128 S2) (k : Fin (k1_t3_loop i).trips) (r l : Fin 512) :
    ech2 (F := Ideal) i (qh2 x0) x1 k.val (ix3 0 r l) = (En S2 (512 * (i 1).val + r.val) (512 * k.val + l.val) : EReal) := by
  unfold ech2
  have hk := k.isLt
  have t1 := trips1 i
  have t3 := trips3 i
  by_cases h : k.val < (k1_t1_loop i).trips
  · rw [dif_pos h, cast2a i x0 x1 ⟨k.val, h⟩, below2 i x0 x1 S2 h2]
  · rw [dif_neg h, cast2b, diag2 i x0 x1 S2 h2, show k.val = (i 1).val by omega]

theorem cast3a (k : Fin (k1_t1_loop i).trips) (r l : Fin 512) : k1_pay50 (F := Ideal) (qh3 x0) (k1_pay10 (kch i x1 k)) (ix3 0 r l) = k1_pay49 (F := Ideal) (qh3 x0) (k1_pay10 (kch i x1 k)) (ix2 r l) := by
  pointwise [k1_pay50]
theorem cast3b (r l : Fin 512) : k1_pay70 (F := Ideal) k1_pay42 (qh3 x0) (k1_pay55 (kdg i x1)) (ix3 0 r l) = k1_pay69 (F := Ideal) k1_pay42 (qh3 x0) (k1_pay55 (kdg i x1)) (ix2 r l) := by
  pointwise [k1_pay70]
theorem ech3_is (h3 : Scores i x0 x1 384 128 le_384_384 le_128_128 S3) (k : Fin (k1_t3_loop i).trips) (r l : Fin 512) :
    ech3 (F := Ideal) i (qh3 x0) x1 k.val (ix3 0 r l) = (En S3 (512 * (i 1).val + r.val) (512 * k.val + l.val) : EReal) := by
  unfold ech3
  have hk := k.isLt
  have t1 := trips1 i
  have t3 := trips3 i
  by_cases h : k.val < (k1_t1_loop i).trips
  · rw [dif_pos h, cast3a i x0 x1 ⟨k.val, h⟩, below3 i x0 x1 S3 h3]
  · rw [dif_neg h, cast3b, diag3 i x0 x1 S3 h3, show k.val = (i 1).val by omega]

/-- One column of the values, by row number. -/
def vcol (x2 : Vec Ideal S2048x256 .f32) (c : Fin 256) (u : ℕ) : EReal := if h : u < 2048 then x2 (ix2 ⟨u, h⟩ c) else 0

/-- The weighted sum over the first `n` chunks. -/
def partO (w : ℕ → ℝ) (v : ℕ → EReal) (n : ℕ) : EReal :=
  ∑ j ∈ Finset.range n, ∑ l : Fin 512, (w (512 * j + l.val) : EReal) * v (512 * j + l.val)

def OutIs (O : Out4 Ideal) (n : ℕ) : Prop := ∀ (r : Fin 512) (d : Fin 128),
  O.1 (ix2 r d) = partO (Wn S0 S1 S0 (512 * (i 1).val + r.val)) (vcol x2 ⟨0 + d.val, by omega⟩) n
  ∧ O.2.1 (ix2 r d) = partO (Wn S0 S1 S1 (512 * (i 1).val + r.val)) (vcol x2 ⟨0 + d.val, by omega⟩) n
  ∧ O.2.2.1 (ix2 r d) = partO (Wn S2 S3 S2 (512 * (i 1).val + r.val)) (vcol x2 ⟨128 + d.val, by omega⟩) n
  ∧ O.2.2.2 (ix2 r d) = partO (Wn S2 S3 S3 (512 * (i 1).val + r.val)) (vcol x2 ⟨128 + d.val, by omega⟩) n

theorem vch_col (k : Fin (k1_t3_loop i).trips) (l : Fin 512) (c : Fin 256) :
    vch (F := Ideal) i x2 k (ix2 l c) = vcol x2 c (512 * k.val + l.val) := by
  have := trip3_lt i k
  rw [vch_at]; unfold vcol; rw [dif_pos (by omega)]

theorem partO_full (S0 S1 S : ℕ → ℕ → ℝ) (v : ℕ → EReal) (r : Fin 512) :
    partO (Wn S0 S1 S (512 * (i 1).val + r.val)) v ((i 1).val + 1)
      = ∑ u : Fin 2048, (Wn S0 S1 S (512 * (i 1).val + r.val) u.val : EReal) * v u.val := by
  have h4 := i1_lt i
  rw [Fin.sum_univ_tiles 4 512 rfl]
  unfold partO
  have e : ∀ j ∈ Finset.range 4, j ∉ Finset.range ((i 1).val + 1) →
      (∑ l : Fin 512, (Wn S0 S1 S (512 * (i 1).val + r.val) (512 * j + l.val) : EReal) * v (512 * j + l.val)) = 0 := by
    intro j _ hj
    refine Finset.sum_eq_zero fun l _ => ?_
    have hj' : (i 1).val + 1 ≤ j := by simpa using hj
    have : Wn S0 S1 S (512 * (i 1).val + r.val) (512 * j + l.val) = 0 := by
      unfold Wn En
      rw [if_neg (show ¬ 512 * j + l.val ≤ 512 * (i 1).val + r.val by omega)]
      split <;> rfl
    rw [this, EReal.coe_zero, zero_mul]
  rw [Finset.sum_subset (Finset.range_subset_range.2 (by omega)) e, Finset.sum_range]
  refine Finset.sum_congr rfl fun j _ => Finset.sum_congr rfl fun l _ => ?_
  rw [mul_comm 512 j.val]

include h0 h1 h2 h3

theorem stepO_is (k : Fin (k1_t3_loop i).trips) (O : Out4 Ideal) (hO : OutIs i x2 S0 S1 S2 S3 O k.val) :
    OutIs i x2 S0 S1 S2 S3 (stepO (F := Ideal) i (bm0 (ib1 i) (pool i x0 x1 (accQ i x0 x1))) (bm1 (ib1 i) (pool i x0 x1 (accQ i x0 x1))) x2
      (ech0 i (qh0 x0) x1) (ech1 i (qh1 x0) x1) (ech2 i (qh2 x0) x1) (ech3 i (qh3 x0) x1) k O) (k.val + 1) := by
  intro r d
  obtain ⟨o0, o1, o2, o3⟩ := hO r d
  unfold stepO
  dsimp only
  refine ⟨?_, ?_, ?_, ?_⟩
  · rw [pay1_at, o0]
    unfold partO
    rw [Finset.sum_range_succ]
    refine congrArg (fun z : EReal => _ + z) (Finset.sum_congr rfl fun l _ => ?_)
    rw [ech0_is i x0 x1 S0 h0, wt0_is i x0 x1 S0 S1 S2 S3 h0 h1 h2 h3, vch_col]
    simp only [Nat.zero_add]
  · rw [pay2_at, o1]
    unfold partO
    rw [Finset.sum_range_succ]
    refine congrArg (fun z : EReal => _ + z) (Finset.sum_congr rfl fun l _ => ?_)
    rw [ech1_is i x0 x1 S1 h1, wt0_is i x0 x1 S0 S1 S2 S3 h0 h1 h2 h3, vch_col]
    simp only [Nat.zero_add]
  · rw [pay3_at, o2]
    unfold partO
    rw [Finset.sum_range_succ]
    refine congrArg (fun z : EReal => _ + z) (Finset.sum_congr rfl fun l _ => ?_)
    rw [ech2_is i x0 x1 S2 h2, wt1_is i x0 x1 S0 S1 S2 S3 h0 h1 h2 h3, vch_col]

  · rw [pay4_at, o3]
    unfold partO
    rw [Finset.sum_range_succ]
    refine congrArg (fun z : EReal => _ + z) (Finset.sum_congr rfl fun l _ => ?_)
    rw [ech3_is i x0 x1 S3 h3, wt1_is i x0 x1 S0 S1 S2 S3 h0 h1 h2 h3, vch_col]

theorem outO_is : OutIs i x2 S0 S1 S2 S3 (outO (F := Ideal) i x0 x1 x2) ((i 1).val + 1) := by
  have h : ∀ n, n ≤ (k1_t3_loop i).trips → OutIs i x2 S0 S1 S2 S3 (accO (F := Ideal) i (bm0 (ib1 i) (pool i x0 x1 (accQ i x0 x1))) (bm1 (ib1 i) (pool i x0 x1 (accQ i x0 x1))) x2
      (ech0 i (qh0 x0) x1) (ech1 i (qh1 x0) x1) (ech2 i (qh2 x0) x1) (ech3 i (qh3 x0) x1) (k1_pay113, k1_pay113, k1_pay113, k1_pay113) n) n := by
    intro n
    induction n with
    | zero =>
      intro _ r d
      unfold accO partO
      simp only [pay113_at, Finset.sum_range_zero, and_self]
    | succ n ih =>
      intro hn
      unfold accO
      rw [dif_pos (show n < (k1_t3_loop i).trips by omega)]
      exact stepO_is i x0 x1 x2 S0 S1 S2 S3 h0 h1 h2 h3 ⟨n, by omega⟩ _ (ih (by omega))
  have h' := h _ le_rfl
  unfold outO
  rw [trips3 i] at h' ⊢
  exact h'

/-- The output block of one grid point: block-sparse attention of its four query heads. -/
theorem seerOut_is (r : Fin 512) (d : Fin 128) :
    seerOut (F := Ideal) i x0 x1 x2 (ix2 r ⟨d.val, d512_0 d⟩) = outN S0 S1 S0 (vcol x2 ⟨0 + d.val, d256_0 d⟩) (512 * (i 1).val + r.val)
    ∧ seerOut (F := Ideal) i x0 x1 x2 (ix2 r ⟨128 + d.val, d512_1 d⟩) = outN S0 S1 S1 (vcol x2 ⟨0 + d.val, d256_0 d⟩) (512 * (i 1).val + r.val)
    ∧ seerOut (F := Ideal) i x0 x1 x2 (ix2 r ⟨256 + d.val, d512_2 d⟩) = outN S2 S3 S2 (vcol x2 ⟨128 + d.val, d256_1 d⟩) (512 * (i 1).val + r.val)
    ∧ seerOut (F := Ideal) i x0 x1 x2 (ix2 r ⟨384 + d.val, d512_3 d⟩) = outN S2 S3 S3 (vcol x2 ⟨128 + d.val, d256_1 d⟩) (512 * (i 1).val + r.val) := by
  have hd := d.isLt
  obtain ⟨o0, o1, o2, o3⟩ := outO_is i x0 x1 x2 S0 S1 S2 S3 h0 h1 h2 h3 r d
  unfold seerOut seerF
  refine ⟨?_, ?_, ?_, ?_⟩
  · rw [pay9_at, dif_pos (by simp only; omega), ll0_is i x0 x1 S0 S1 S2 S3 h0 h1 h2 h3]
    unfold outN
    rw [← partO_full]
    exact congrArg (fun z : EReal => Ideal.div z _) o0
  · rw [pay9_at, dif_neg (by simp only; omega), dif_pos (by simp only; omega), ll1_is i x0 x1 S0 S1 S2 S3 h0 h1 h2 h3]
    unfold outN
    rw [← partO_full]
    refine congrArg (fun z : EReal => Ideal.div z _) (Eq.trans (congrArg _ ((ix2_inj ..).2 ⟨rfl, Fin.ext ?_⟩)) o1)
    simp only; omega
  · rw [pay9_at, dif_neg (by simp only; omega), dif_neg (by simp only; omega), dif_pos (by simp only; omega), ll2_is i x0 x1 S0 S1 S2 S3 h0 h1 h2 h3]
    unfold outN
    rw [← partO_full]
    refine congrArg (fun z : EReal => Ideal.div z _) (Eq.trans (congrArg _ ((ix2_inj ..).2 ⟨rfl, Fin.ext ?_⟩)) o2)
    simp only; omega
  · rw [pay9_at, dif_neg (by simp only; omega), dif_neg (by simp only; omega), dif_neg (by simp only; omega), ll3_is i x0 x1 S0 S1 S2 S3 h0 h1 h2 h3]
    unfold outN
    rw [← partO_full]
    refine congrArg (fun z : EReal => Ideal.div z _) (Eq.trans (congrArg _ ((ix2_inj ..).2 ⟨rfl, Fin.ext ?_⟩)) o3)
    simp only; omega

end Cert.KernelIdeal.Own
end
-- ==== Proof.V.QkvVal.lean ====
/- The first call: one block of projections, root-mean-square norms and rotary embedding. -/
module

public import proofs.«01_k».proof.Proof.V.KSum
public import proofs.«01_k».proof.Proof.KI.Run
public import proofs.«01_k».proof.Proof.V.Spec
public import Idealize.ShloMosaic.Lib.Pipeline.ValueKit

@[expose] public section

set_option maxRecDepth 16384

noncomputable section

namespace Cert.KernelIdeal.Own

open Cert.KernelIdeal Cert.KernelIdeal.Gen
open Cert.Attn
open Idealize.ShloMosaic Idealize.ShloMosaic.TcCoe Idealize.SL.Sem

def varN (Y : Fin 128 → EReal) : EReal :=
  Ideal.div (∑ x, Y x * Y x) (Ideal.ofBits FTy.f32 0x43000000#32) + Ideal.ofBits FTy.f32 0x358637BD#32
def nrmN (Y w : Fin 128 → EReal) (d : Fin 128) : EReal := Y d * Ideal.rsqrt (varN Y) * w d
/-- One head's row: normalised, weighed, rotated by its position. -/
def ropeN (Y w cs sn : Fin 128 → EReal) (d : Fin 128) : EReal :=
  nrmN Y w d * cs d + (if h : d.val < 64 then 0 - nrmN Y w ⟨64 + d.val, by omega⟩ else nrmN Y w ⟨d.val - 64, by omega⟩) * sn d

variable (x0 : Vec Ideal S256x2048 .f32) (x1 : Vec Ideal S2048x2048 .f32) (x2 x3 : Vec Ideal S2048x1024 .f32)
  (x4 x5 : Vec Ideal S256x128 .f32) (x6 x7 : Vec Ideal S1x128 .f32)

def dotQ (r : Fin 256) (c : Fin 2048) : EReal := ∑ e : Fin 2048, x0 (ix2 r e) * x1 (ix2 e c)
def dotK (r : Fin 256) (c : Fin 1024) : EReal := ∑ e : Fin 2048, x0 (ix2 r e) * x2 (ix2 e c)

theorem proj_q (r : Fin 256) (c : Fin 2048) : k0_pay5 (F := Ideal) x0 x1 (ix2 r c) = dotQ x0 x1 r c := by
  pointwise [k0_pay5, dotQ, k0_pay4]
theorem proj_k (r : Fin 256) (c : Fin 1024) : k0_pay6 (F := Ideal) x0 x2 (ix2 r c) = dotK x0 x2 r c := by
  pointwise [k0_pay6, dotK, k0_pay4]
theorem proj_v (r : Fin 256) (c : Fin 1024) : k0_pay7 (F := Ideal) x0 x2 (ix2 r c) = dotK x0 x2 r c := by
  pointwise [k0_pay7, dotK, k0_pay4]
theorem same8 : k0_pay8 (F := Ideal) x4 = x4 := by
  funext j; pointwise [k0_pay8]
theorem same9 : k0_pay9 (F := Ideal) x4 = x4 := by
  funext j; pointwise [k0_pay9]
theorem same10 : k0_pay10 (F := Ideal) x6 = x6 := by
  funext j; pointwise [k0_pay10]
theorem same11 : k0_pay11 (F := Ideal) x6 = x6 := by
  funext j; pointwise [k0_pay11]

theorem col0_at (r : Fin 256) (d : Fin 128) : k0_pay15 (F := Ideal) (k0_pay13 (F := Ideal) x0 x1 x4 x6) (k0_pay14 x0 x1 x5 x6) (ix2 r d)
    = ropeN (fun x => dotQ x0 x1 r ⟨0 + x.val, by omega⟩) (fun d => x6 (ix2 0 d)) (fun d => x4 (ix2 r d)) (fun d => x5 (ix2 r d)) d := by
  pointwise [k0_pay13, k0_pay14, k0_pay15, k0_pay5, k0_pay4, k0_pay8, k0_pay9, k0_pay10, k0_pay12, dotQ, ropeN, nrmN, varN]

theorem col1_at (y : FVec Ideal S256x2048 .f32) (cs sn : FVec Ideal S256x128 .f32) (w : FVec Ideal S1x128 .f32) (r : Fin 256) (d : Fin 128) :
    k0_pay16 (F := Ideal) y cs sn w (ix2 r d)
      = ropeN (fun x => y (ix2 r ⟨128 + x.val, by omega⟩)) (fun d => w (ix2 0 d)) (fun d => cs (ix2 r d)) (fun d => sn (ix2 r d)) d := by
  pointwise [k0_pay16, ropeN, nrmN, varN]

theorem col2_at (y : FVec Ideal S256x2048 .f32) (cs sn : FVec Ideal S256x128 .f32) (w : FVec Ideal S1x128 .f32) (r : Fin 256) (d : Fin 128) :
    k0_pay17 (F := Ideal) y cs sn w (ix2 r d)
      = ropeN (fun x => y (ix2 r ⟨256 + x.val, by omega⟩)) (fun d => w (ix2 0 d)) (fun d => cs (ix2 r d)) (fun d => sn (ix2 r d)) d := by
  pointwise [k0_pay17, ropeN, nrmN, varN]

theorem col3_at (y : FVec Ideal S256x2048 .f32) (cs sn : FVec Ideal S256x128 .f32) (w : FVec Ideal S1x128 .f32) (r : Fin 256) (d : Fin 128) :
    k0_pay20 (F := Ideal) cs sn w (k0_pay18 y) (k0_pay19 y) (Scalar.ofBits .f32 0x358637BD#32) (ix2 r d)
      = ropeN (fun x => y (ix2 r ⟨384 + x.val, by omega⟩)) (fun d => w (ix2 0 d)) (fun d => cs (ix2 r d)) (fun d => sn (ix2 r d)) d := by
  pointwise [k0_pay18, k0_pay19, k0_pay20, ropeN, nrmN, varN]

theorem col4_at (y : FVec Ideal S256x2048 .f32) (cs sn : FVec Ideal S256x128 .f32) (w : FVec Ideal S1x128 .f32) (r : Fin 256) (d : Fin 128) :
    k0_pay21 (F := Ideal) y cs sn w (ix2 r d)
      = ropeN (fun x => y (ix2 r ⟨512 + x.val, by omega⟩)) (fun d => w (ix2 0 d)) (fun d => cs (ix2 r d)) (fun d => sn (ix2 r d)) d := by
  pointwise [k0_pay21, ropeN, nrmN, varN]

theorem col5_at (y : FVec Ideal S256x2048 .f32) (cs sn : FVec Ideal S256x128 .f32) (w : FVec Ideal S1x128 .f32) (r : Fin 256) (d : Fin 128) :
    k0_pay25 (F := Ideal) cs sn (k0_pay22 y w) (k0_pay23 y w) (k0_pay24 (F := Ideal)) (ix2 r d)
      = ropeN (fun x => y (ix2 r ⟨640 + x.val, by omega⟩)) (fun d => w (ix2 0 d)) (fun d => cs (ix2 r d)) (fun d => sn (ix2 r d)) d := by
  pointwise [k0_pay22, k0_pay23, k0_pay24, k0_pay25, ropeN, nrmN, varN]

theorem col6_at (y : FVec Ideal S256x2048 .f32) (cs sn : FVec Ideal S256x128 .f32) (w : FVec Ideal S1x128 .f32) (r : Fin 256) (d : Fin 128) :
    k0_pay26 (F := Ideal) y cs sn w (ix2 r d)
      = ropeN (fun x => y (ix2 r ⟨768 + x.val, by omega⟩)) (fun d => w (ix2 0 d)) (fun d => cs (ix2 r d)) (fun d => sn (ix2 r d)) d := by
  pointwise [k0_pay26, ropeN, nrmN, varN]

theorem col7_at (y : FVec Ideal S256x2048 .f32) (cs sn : FVec Ideal S256x128 .f32) (w : FVec Ideal S1x128 .f32) (r : Fin 256) (d : Fin 128) :
    k0_pay27 (F := Ideal) y cs sn w (ix2 r d)
      = ropeN (fun x => y (ix2 r ⟨896 + x.val, by omega⟩)) (fun d => w (ix2 0 d)) (fun d => cs (ix2 r d)) (fun d => sn (ix2 r d)) d := by
  pointwise [k0_pay27, ropeN, nrmN, varN]

theorem col8_at (y : FVec Ideal S256x2048 .f32) (cs sn : FVec Ideal S256x128 .f32) (w : FVec Ideal S1x128 .f32) (r : Fin 256) (d : Fin 128) :
    k0_pay30 (F := Ideal) cs sn w (k0_pay28 y) (k0_pay29 y) (ix2 r d)
      = ropeN (fun x => y (ix2 r ⟨1024 + x.val, by omega⟩)) (fun d => w (ix2 0 d)) (fun d => cs (ix2 r d)) (fun d => sn (ix2 r d)) d := by
  pointwise [k0_pay28, k0_pay29, k0_pay30, ropeN, nrmN, varN]

theorem col9_at (y : FVec Ideal S256x2048 .f32) (cs sn : FVec Ideal S256x128 .f32) (w : FVec Ideal S1x128 .f32) (r : Fin 256) (d : Fin 128) :
    k0_pay31 (F := Ideal) y cs sn w (ix2 r d)
      = ropeN (fun x => y (ix2 r ⟨1152 + x.val, by omega⟩)) (fun d => w (ix2 0 d)) (fun d => cs (ix2 r d)) (fun d => sn (ix2 r d)) d := by
  pointwise [k0_pay31, ropeN, nrmN, varN]

theorem col10_at (y : FVec Ideal S256x2048 .f32) (cs sn : FVec Ideal S256x128 .f32) (w : FVec Ideal S1x128 .f32) (r : Fin 256) (d : Fin 128) :
    k0_pay33 (F := Ideal) cs sn w (k0_pay32 y) (ix2 r d)
      = ropeN (fun x => y (ix2 r ⟨1280 + x.val, by omega⟩)) (fun d => w (ix2 0 d)) (fun d => cs (ix2 r d)) (fun d => sn (ix2 r d)) d := by
  pointwise [k0_pay32, k0_pay33, ropeN, nrmN, varN]

theorem col11_at (y : FVec Ideal S256x2048 .f32) (cs sn : FVec Ideal S256x128 .f32) (w : FVec Ideal S1x128 .f32) (r : Fin 256) (d : Fin 128) :
    k0_pay34 (F := Ideal) y cs sn w (ix2 r d)
      = ropeN (fun x => y (ix2 r ⟨1408 + x.val, by omega⟩)) (fun d => w (ix2 0 d)) (fun d => cs (ix2 r d)) (fun d => sn (ix2 r d)) d := by
  pointwise [k0_pay34, ropeN, nrmN, varN]

theorem col12_at (y : FVec Ideal S256x2048 .f32) (cs sn : FVec Ideal S256x128 .f32) (w : FVec Ideal S1x128 .f32) (r : Fin 256) (d : Fin 128) :
    k0_pay38 (F := Ideal) (k0_pay36 y cs w) (k0_pay37 y sn w) (ix2 r d)
      = ropeN (fun x => y (ix2 r ⟨1536 + x.val, by omega⟩)) (fun d => w (ix2 0 d)) (fun d => cs (ix2 r d)) (fun d => sn (ix2 r d)) d := by
  pointwise [k0_pay35, k0_pay36, k0_pay37, k0_pay38, ropeN, nrmN, varN]

theorem col13_at (y : FVec Ideal S256x2048 .f32) (cs sn : FVec Ideal S256x128 .f32) (w : FVec Ideal S1x128 .f32) (r : Fin 256) (d : Fin 128) :
    k0_pay39 (F := Ideal) y cs sn w (ix2 r d)
      = ropeN (fun x => y (ix2 r ⟨1664 + x.val, by omega⟩)) (fun d => w (ix2 0 d)) (fun d => cs (ix2 r d)) (fun d => sn (ix2 r d)) d := by
  pointwise [k0_pay39, ropeN, nrmN, varN]

theorem col14_at (y : FVec Ideal S256x2048 .f32) (cs sn : FVec Ideal S256x128 .f32) (w : FVec Ideal S1x128 .f32) (r : Fin 256) (d : Fin 128) :
    k0_pay40 (F := Ideal) y cs sn w (ix2 r d)
      = ropeN (fun x => y (ix2 r ⟨1792 + x.val, by omega⟩)) (fun d => w (ix2 0 d)) (fun d => cs (ix2 r d)) (fun d => sn (ix2 r d)) d := by
  pointwise [k0_pay40, ropeN, nrmN, varN]

theorem col15_at (y : FVec Ideal S256x2048 .f32) (cs sn : FVec Ideal S256x128 .f32) (w : FVec Ideal S1x128 .f32) (r : Fin 256) (d : Fin 128) :
    k0_pay43 (F := Ideal) cs sn w (k0_pay41 y) (k0_pay42 y) (Scalar.ofBits .f32 0x358637BD#32) (ix2 r d)
      = ropeN (fun x => y (ix2 r ⟨1920 + x.val, by omega⟩)) (fun d => w (ix2 0 d)) (fun d => cs (ix2 r d)) (fun d => sn (ix2 r d)) d := by
  pointwise [k0_pay41, k0_pay42, k0_pay43, ropeN, nrmN, varN]

theorem col16_at (y : FVec Ideal S256x1024 .f32) (cs sn : FVec Ideal S256x128 .f32) (w : FVec Ideal S1x128 .f32) (r : Fin 256) (d : Fin 128) :
    k0_pay44 (F := Ideal) y cs sn w (ix2 r d)
      = ropeN (fun x => y (ix2 r ⟨0 + x.val, by omega⟩)) (fun d => w (ix2 0 d)) (fun d => cs (ix2 r d)) (fun d => sn (ix2 r d)) d := by
  pointwise [k0_pay44, ropeN, nrmN, varN]

theorem col17_at (y : FVec Ideal S256x1024 .f32) (cs sn : FVec Ideal S256x128 .f32) (w : FVec Ideal S1x128 .f32) (r : Fin 256) (d : Fin 128) :
    k0_pay48 (F := Ideal) cs sn (k0_pay45 y w) (k0_pay46 y w) (k0_pay47 (F := Ideal)) (ix2 r d)
      = ropeN (fun x => y (ix2 r ⟨128 + x.val, by omega⟩)) (fun d => w (ix2 0 d)) (fun d => cs (ix2 r d)) (fun d => sn (ix2 r d)) d := by
  pointwise [k0_pay45, k0_pay46, k0_pay47, k0_pay48, ropeN, nrmN, varN]

theorem col18_at (y : FVec Ideal S256x1024 .f32) (cs sn : FVec Ideal S256x128 .f32) (w : FVec Ideal S1x128 .f32) (r : Fin 256) (d : Fin 128) :
    k0_pay49 (F := Ideal) y cs sn w (ix2 r d)
      = ropeN (fun x => y (ix2 r ⟨256 + x.val, by omega⟩)) (fun d => w (ix2 0 d)) (fun d => cs (ix2 r d)) (fun d => sn (ix2 r d)) d := by
  pointwise [k0_pay49, ropeN, nrmN, varN]

theorem col19_at (y : FVec Ideal S256x1024 .f32) (cs sn : FVec Ideal S256x128 .f32) (w : FVec Ideal S1x128 .f32) (r : Fin 256) (d : Fin 128) :
    k0_pay50 (F := Ideal) y cs sn w (ix2 r d)
      = ropeN (fun x => y (ix2 r ⟨384 + x.val, by omega⟩)) (fun d => w (ix2 0 d)) (fun d => cs (ix2 r d)) (fun d => sn (ix2 r d)) d := by
  pointwise [k0_pay50, ropeN, nrmN, varN]

theorem col20_at (y : FVec Ideal S256x1024 .f32) (cs sn : FVec Ideal S256x128 .f32) (w : FVec Ideal S1x128 .f32) (r : Fin 256) (d : Fin 128) :
    k0_pay53 (F := Ideal) cs sn w (k0_pay51 y) (k0_pay52 y) (ix2 r d)
      = ropeN (fun x => y (ix2 r ⟨512 + x.val, by omega⟩)) (fun d => w (ix2 0 d)) (fun d => cs (ix2 r d)) (fun d => sn (ix2 r d)) d := by
  pointwise [k0_pay51, k0_pay52, k0_pay53, ropeN, nrmN, varN]

theorem col21_at (y : FVec Ideal S256x1024 .f32) (cs sn : FVec Ideal S256x128 .f32) (w : FVec Ideal S1x128 .f32) (r : Fin 256) (d : Fin 128) :
    k0_pay54 (F := Ideal) y cs sn w (ix2 r d)
      = ropeN (fun x => y (ix2 r ⟨640 + x.val, by omega⟩)) (fun d => w (ix2 0 d)) (fun d => cs (ix2 r d)) (fun d => sn (ix2 r d)) d := by
  pointwise [k0_pay54, ropeN, nrmN, varN]

theorem col22_at (y : FVec Ideal S256x1024 .f32) (cs sn : FVec Ideal S256x128 .f32) (w : FVec Ideal S1x128 .f32) (r : Fin 256) (d : Fin 128) :
    k0_pay1 (F := Ideal) cs sn w (k0_pay55 y) (ix2 r d)
      = ropeN (fun x => y (ix2 r ⟨768 + x.val, by omega⟩)) (fun d => w (ix2 0 d)) (fun d => cs (ix2 r d)) (fun d => sn (ix2 r d)) d := by
  pointwise [k0_pay1, k0_pay55, ropeN, nrmN, varN]

theorem col23_at (y : FVec Ideal S256x1024 .f32) (cs sn : FVec Ideal S256x128 .f32) (w : FVec Ideal S1x128 .f32) (r : Fin 256) (d : Fin 128) :
    k0_pay2 (F := Ideal) y cs sn w (ix2 r d)
      = ropeN (fun x => y (ix2 r ⟨896 + x.val, by omega⟩)) (fun d => w (ix2 0 d)) (fun d => cs (ix2 r d)) (fun d => sn (ix2 r d)) d := by
  pointwise [k0_pay2, ropeN, nrmN, varN]

/-- Reading a row of pieces at position `c` gives `v`. -/
def RowAt (r : Fin 256) (jc : Fin 4096) (xs : List ((s : Shape) × (s.Idx → EReal))) (c : ℕ) (v : EReal) : Prop :=
  ∀ hs hc, concatenateAt S256x4096 1 (ix2 r jc) xs hs c hc = v

theorem row_skip {r : Fin 256} {jc : Fin 4096} {q : (s : Shape) × (s.Idx → EReal)} {xs : List ((s : Shape) × (s.Idx → EReal))}
    {v : EReal} {x : S256x128.Idx → EReal} {c : ℕ} (n : ℕ) (hn : c = 128 + n) (h : RowAt r jc (q :: xs) n v) :
    RowAt r jc (⟨S256x128, x⟩ :: q :: xs) c v := by
  subst hn
  intro hs hc
  refine (concatenateAt_cons ..).trans ((dif_neg (show ¬ 128 + n < 128 by omega)).trans ?_)
  have key : ∀ m, m = n → ∀ hs' hc', concatenateAt S256x4096 1 (ix2 r jc) (q :: xs) hs' m hc' = v := fun m e => e ▸ h
  exact key _ (Nat.add_sub_cancel_left 128 n) _ _

theorem row_take {r : Fin 256} {jc : Fin 4096} {q : (s : Shape) × (s.Idx → EReal)} {xs : List ((s : Shape) × (s.Idx → EReal))}
    {x : S256x128.Idx → EReal} (d : Fin 128) : RowAt r jc (⟨S256x128, x⟩ :: q :: xs) d.val (x (ix2 r d)) := by
  intro hs hc
  refine (concatenateAt_cons ..).trans ((dif_pos (show d.val < 128 from d.isLt)).trans ?_)
  refine congrArg x ?_
  rw [Shape.Idx.norm_def]
  funext b
  match b with
  | ⟨0, _⟩ => exact Fin.ext rfl
  | ⟨1, _⟩ => exact Fin.ext rfl

theorem row_last {r : Fin 256} {jc : Fin 4096} {x : S256x1024.Idx → EReal} (d : Fin 1024) : RowAt r jc [⟨S256x1024, x⟩] d.val (x (ix2 r d)) := by
  intro hs hc
  rw [concatenateAt_singleton]
  refine congrArg x ?_
  rw [Shape.Idx.norm_def]
  funext b
  match b with
  | ⟨0, _⟩ => exact Fin.ext rfl
  | ⟨1, _⟩ => exact Fin.ext rfl

theorem ldw0 (x : Vec Ideal S256x2048 .f32) : View.ld x r0_0 = x := View.ld_unit_lit' _ _ (by decide)
theorem ldw1 (x : Vec Ideal S2048x2048 .f32) : View.ld x r0_1 = x := View.ld_unit_lit' _ _ (by decide)
theorem ldw2 (x : Vec Ideal S2048x1024 .f32) : View.ld x r0_2 = x := View.ld_unit_lit' _ _ (by decide)
theorem ldw3 (x : Vec Ideal S256x128 .f32) : View.ld x r0_3 = x := View.ld_unit_lit' _ _ (by decide)
theorem ldw4 (x : Vec Ideal S1x128 .f32) : View.ld x r0_4 = x := View.ld_unit_lit' _ _ (by decide)
theorem canonw (x : Vec Ideal S256x4096 .f32) : View.canon (Val := Elt Ideal) [⟨r0_5, x⟩] = x := View.canon_cons_unit_lit' _ _ _ (by decide)

theorem pick0 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 0 + d.val) :
    k0_pay3 (F := Ideal) v c0 c1 c2 c3 c4 c5 c6 c7 c8 c9 c10 c11 c12 c13 c14 c15 c16 c17 c18 c19 c20 c21 c22 c23 (ix2 r c) = c0 (ix2 r d) := by
  unfold k0_pay3
  refine (concatenate_apply ..).trans ?_
  have H : RowAt r c (⟨S256x128, c0⟩ :: ⟨S256x128, c1⟩ :: ⟨S256x128, c2⟩ :: ⟨S256x128, c3⟩ :: ⟨S256x128, c4⟩ :: ⟨S256x128, c5⟩ :: ⟨S256x128, c6⟩ :: ⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c0 (ix2 r d)) := row_take d
  have key : ∀ n, n = 0 + d.val → RowAt r c _ n _ := fun n e => e ▸ (Nat.zero_add d.val).symm ▸ H
  exact key c.val hc _ _

theorem pick1 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 128 + d.val) :
    k0_pay3 (F := Ideal) v c0 c1 c2 c3 c4 c5 c6 c7 c8 c9 c10 c11 c12 c13 c14 c15 c16 c17 c18 c19 c20 c21 c22 c23 (ix2 r c) = c1 (ix2 r d) := by
  unfold k0_pay3
  refine (concatenate_apply ..).trans ?_
  have H : RowAt r c (⟨S256x128, c1⟩ :: ⟨S256x128, c2⟩ :: ⟨S256x128, c3⟩ :: ⟨S256x128, c4⟩ :: ⟨S256x128, c5⟩ :: ⟨S256x128, c6⟩ :: ⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c1 (ix2 r d)) := row_take d
  replace H := row_skip (x := c0) (c := 128 + d.val) d.val rfl H
  have key : ∀ n, n = 128 + d.val → RowAt r c _ n _ := fun n e => e ▸ H
  exact key c.val hc _ _

theorem pick2 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 256 + d.val) :
    k0_pay3 (F := Ideal) v c0 c1 c2 c3 c4 c5 c6 c7 c8 c9 c10 c11 c12 c13 c14 c15 c16 c17 c18 c19 c20 c21 c22 c23 (ix2 r c) = c2 (ix2 r d) := by
  unfold k0_pay3
  refine (concatenate_apply ..).trans ?_
  have H : RowAt r c (⟨S256x128, c2⟩ :: ⟨S256x128, c3⟩ :: ⟨S256x128, c4⟩ :: ⟨S256x128, c5⟩ :: ⟨S256x128, c6⟩ :: ⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c2 (ix2 r d)) := row_take d
  replace H := row_skip (x := c1) (c := 128 + d.val) d.val rfl H
  replace H := row_skip (x := c0) (c := 256 + d.val) (128 + d.val) (by omega) H
  have key : ∀ n, n = 256 + d.val → RowAt r c _ n _ := fun n e => e ▸ H
  exact key c.val hc _ _

theorem pick3 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 384 + d.val) :
    k0_pay3 (F := Ideal) v c0 c1 c2 c3 c4 c5 c6 c7 c8 c9 c10 c11 c12 c13 c14 c15 c16 c17 c18 c19 c20 c21 c22 c23 (ix2 r c) = c3 (ix2 r d) := by
  unfold k0_pay3
  refine (concatenate_apply ..).trans ?_
  have H : RowAt r c (⟨S256x128, c3⟩ :: ⟨S256x128, c4⟩ :: ⟨S256x128, c5⟩ :: ⟨S256x128, c6⟩ :: ⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c3 (ix2 r d)) := row_take d
  replace H := row_skip (x := c2) (c := 128 + d.val) d.val rfl H
  replace H := row_skip (x := c1) (c := 256 + d.val) (128 + d.val) (by omega) H
  replace H := row_skip (x := c0) (c := 384 + d.val) (256 + d.val) (by omega) H
  have key : ∀ n, n = 384 + d.val → RowAt r c _ n _ := fun n e => e ▸ H
  exact key c.val hc _ _

theorem pick4 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 512 + d.val) :
    k0_pay3 (F := Ideal) v c0 c1 c2 c3 c4 c5 c6 c7 c8 c9 c10 c11 c12 c13 c14 c15 c16 c17 c18 c19 c20 c21 c22 c23 (ix2 r c) = c4 (ix2 r d) := by
  unfold k0_pay3
  refine (concatenate_apply ..).trans ?_
  have H : RowAt r c (⟨S256x128, c4⟩ :: ⟨S256x128, c5⟩ :: ⟨S256x128, c6⟩ :: ⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c4 (ix2 r d)) := row_take d
  replace H := row_skip (x := c3) (c := 128 + d.val) d.val rfl H
  replace H := row_skip (x := c2) (c := 256 + d.val) (128 + d.val) (by omega) H
  replace H := row_skip (x := c1) (c := 384 + d.val) (256 + d.val) (by omega) H
  replace H := row_skip (x := c0) (c := 512 + d.val) (384 + d.val) (by omega) H
  have key : ∀ n, n = 512 + d.val → RowAt r c _ n _ := fun n e => e ▸ H
  exact key c.val hc _ _

theorem pick5 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 640 + d.val) :
    k0_pay3 (F := Ideal) v c0 c1 c2 c3 c4 c5 c6 c7 c8 c9 c10 c11 c12 c13 c14 c15 c16 c17 c18 c19 c20 c21 c22 c23 (ix2 r c) = c5 (ix2 r d) := by
  unfold k0_pay3
  refine (concatenate_apply ..).trans ?_
  have H : RowAt r c (⟨S256x128, c5⟩ :: ⟨S256x128, c6⟩ :: ⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c5 (ix2 r d)) := row_take d
  replace H := row_skip (x := c4) (c := 128 + d.val) d.val rfl H
  replace H := row_skip (x := c3) (c := 256 + d.val) (128 + d.val) (by omega) H
  replace H := row_skip (x := c2) (c := 384 + d.val) (256 + d.val) (by omega) H
  replace H := row_skip (x := c1) (c := 512 + d.val) (384 + d.val) (by omega) H
  replace H := row_skip (x := c0) (c := 640 + d.val) (512 + d.val) (by omega) H
  have key : ∀ n, n = 640 + d.val → RowAt r c _ n _ := fun n e => e ▸ H
  exact key c.val hc _ _

theorem pick6 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 768 + d.val) :
    k0_pay3 (F := Ideal) v c0 c1 c2 c3 c4 c5 c6 c7 c8 c9 c10 c11 c12 c13 c14 c15 c16 c17 c18 c19 c20 c21 c22 c23 (ix2 r c) = c6 (ix2 r d) := by
  unfold k0_pay3
  refine (concatenate_apply ..).trans ?_
  have H : RowAt r c (⟨S256x128, c6⟩ :: ⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c6 (ix2 r d)) := row_take d
  replace H := row_skip (x := c5) (c := 128 + d.val) d.val rfl H
  replace H := row_skip (x := c4) (c := 256 + d.val) (128 + d.val) (by omega) H
  replace H := row_skip (x := c3) (c := 384 + d.val) (256 + d.val) (by omega) H
  replace H := row_skip (x := c2) (c := 512 + d.val) (384 + d.val) (by omega) H
  replace H := row_skip (x := c1) (c := 640 + d.val) (512 + d.val) (by omega) H
  replace H := row_skip (x := c0) (c := 768 + d.val) (640 + d.val) (by omega) H
  have key : ∀ n, n = 768 + d.val → RowAt r c _ n _ := fun n e => e ▸ H
  exact key c.val hc _ _

theorem pick7 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 896 + d.val) :
    k0_pay3 (F := Ideal) v c0 c1 c2 c3 c4 c5 c6 c7 c8 c9 c10 c11 c12 c13 c14 c15 c16 c17 c18 c19 c20 c21 c22 c23 (ix2 r c) = c7 (ix2 r d) := by
  unfold k0_pay3
  refine (concatenate_apply ..).trans ?_
  have H : RowAt r c (⟨S256x128, c7⟩ :: ⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c7 (ix2 r d)) := row_take d
  replace H := row_skip (x := c6) (c := 128 + d.val) d.val rfl H
  replace H := row_skip (x := c5) (c := 256 + d.val) (128 + d.val) (by omega) H
  replace H := row_skip (x := c4) (c := 384 + d.val) (256 + d.val) (by omega) H
  replace H := row_skip (x := c3) (c := 512 + d.val) (384 + d.val) (by omega) H
  replace H := row_skip (x := c2) (c := 640 + d.val) (512 + d.val) (by omega) H
  replace H := row_skip (x := c1) (c := 768 + d.val) (640 + d.val) (by omega) H
  replace H := row_skip (x := c0) (c := 896 + d.val) (768 + d.val) (by omega) H
  have key : ∀ n, n = 896 + d.val → RowAt r c _ n _ := fun n e => e ▸ H
  exact key c.val hc _ _

theorem pick8 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1024 + d.val) :
    k0_pay3 (F := Ideal) v c0 c1 c2 c3 c4 c5 c6 c7 c8 c9 c10 c11 c12 c13 c14 c15 c16 c17 c18 c19 c20 c21 c22 c23 (ix2 r c) = c8 (ix2 r d) := by
  unfold k0_pay3
  refine (concatenate_apply ..).trans ?_
  have H : RowAt r c (⟨S256x128, c8⟩ :: ⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c8 (ix2 r d)) := row_take d
  replace H := row_skip (x := c7) (c := 128 + d.val) d.val rfl H
  replace H := row_skip (x := c6) (c := 256 + d.val) (128 + d.val) (by omega) H
  replace H := row_skip (x := c5) (c := 384 + d.val) (256 + d.val) (by omega) H
  replace H := row_skip (x := c4) (c := 512 + d.val) (384 + d.val) (by omega) H
  replace H := row_skip (x := c3) (c := 640 + d.val) (512 + d.val) (by omega) H
  replace H := row_skip (x := c2) (c := 768 + d.val) (640 + d.val) (by omega) H
  replace H := row_skip (x := c1) (c := 896 + d.val) (768 + d.val) (by omega) H
  replace H := row_skip (x := c0) (c := 1024 + d.val) (896 + d.val) (by omega) H
  have key : ∀ n, n = 1024 + d.val → RowAt r c _ n _ := fun n e => e ▸ H
  exact key c.val hc _ _

theorem pick9 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1152 + d.val) :
    k0_pay3 (F := Ideal) v c0 c1 c2 c3 c4 c5 c6 c7 c8 c9 c10 c11 c12 c13 c14 c15 c16 c17 c18 c19 c20 c21 c22 c23 (ix2 r c) = c9 (ix2 r d) := by
  unfold k0_pay3
  refine (concatenate_apply ..).trans ?_
  have H : RowAt r c (⟨S256x128, c9⟩ :: ⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c9 (ix2 r d)) := row_take d
  replace H := row_skip (x := c8) (c := 128 + d.val) d.val rfl H
  replace H := row_skip (x := c7) (c := 256 + d.val) (128 + d.val) (by omega) H
  replace H := row_skip (x := c6) (c := 384 + d.val) (256 + d.val) (by omega) H
  replace H := row_skip (x := c5) (c := 512 + d.val) (384 + d.val) (by omega) H
  replace H := row_skip (x := c4) (c := 640 + d.val) (512 + d.val) (by omega) H
  replace H := row_skip (x := c3) (c := 768 + d.val) (640 + d.val) (by omega) H
  replace H := row_skip (x := c2) (c := 896 + d.val) (768 + d.val) (by omega) H
  replace H := row_skip (x := c1) (c := 1024 + d.val) (896 + d.val) (by omega) H
  replace H := row_skip (x := c0) (c := 1152 + d.val) (1024 + d.val) (by omega) H
  have key : ∀ n, n = 1152 + d.val → RowAt r c _ n _ := fun n e => e ▸ H
  exact key c.val hc _ _

theorem pick10 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1280 + d.val) :
    k0_pay3 (F := Ideal) v c0 c1 c2 c3 c4 c5 c6 c7 c8 c9 c10 c11 c12 c13 c14 c15 c16 c17 c18 c19 c20 c21 c22 c23 (ix2 r c) = c10 (ix2 r d) := by
  unfold k0_pay3
  refine (concatenate_apply ..).trans ?_
  have H : RowAt r c (⟨S256x128, c10⟩ :: ⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c10 (ix2 r d)) := row_take d
  replace H := row_skip (x := c9) (c := 128 + d.val) d.val rfl H
  replace H := row_skip (x := c8) (c := 256 + d.val) (128 + d.val) (by omega) H
  replace H := row_skip (x := c7) (c := 384 + d.val) (256 + d.val) (by omega) H
  replace H := row_skip (x := c6) (c := 512 + d.val) (384 + d.val) (by omega) H
  replace H := row_skip (x := c5) (c := 640 + d.val) (512 + d.val) (by omega) H
  replace H := row_skip (x := c4) (c := 768 + d.val) (640 + d.val) (by omega) H
  replace H := row_skip (x := c3) (c := 896 + d.val) (768 + d.val) (by omega) H
  replace H := row_skip (x := c2) (c := 1024 + d.val) (896 + d.val) (by omega) H
  replace H := row_skip (x := c1) (c := 1152 + d.val) (1024 + d.val) (by omega) H
  replace H := row_skip (x := c0) (c := 1280 + d.val) (1152 + d.val) (by omega) H
  have key : ∀ n, n = 1280 + d.val → RowAt r c _ n _ := fun n e => e ▸ H
  exact key c.val hc _ _

theorem pick11 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1408 + d.val) :
    k0_pay3 (F := Ideal) v c0 c1 c2 c3 c4 c5 c6 c7 c8 c9 c10 c11 c12 c13 c14 c15 c16 c17 c18 c19 c20 c21 c22 c23 (ix2 r c) = c11 (ix2 r d) := by
  unfold k0_pay3
  refine (concatenate_apply ..).trans ?_
  have H : RowAt r c (⟨S256x128, c11⟩ :: ⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c11 (ix2 r d)) := row_take d
  replace H := row_skip (x := c10) (c := 128 + d.val) d.val rfl H
  replace H := row_skip (x := c9) (c := 256 + d.val) (128 + d.val) (by omega) H
  replace H := row_skip (x := c8) (c := 384 + d.val) (256 + d.val) (by omega) H
  replace H := row_skip (x := c7) (c := 512 + d.val) (384 + d.val) (by omega) H
  replace H := row_skip (x := c6) (c := 640 + d.val) (512 + d.val) (by omega) H
  replace H := row_skip (x := c5) (c := 768 + d.val) (640 + d.val) (by omega) H
  replace H := row_skip (x := c4) (c := 896 + d.val) (768 + d.val) (by omega) H
  replace H := row_skip (x := c3) (c := 1024 + d.val) (896 + d.val) (by omega) H
  replace H := row_skip (x := c2) (c := 1152 + d.val) (1024 + d.val) (by omega) H
  replace H := row_skip (x := c1) (c := 1280 + d.val) (1152 + d.val) (by omega) H
  replace H := row_skip (x := c0) (c := 1408 + d.val) (1280 + d.val) (by omega) H
  have key : ∀ n, n = 1408 + d.val → RowAt r c _ n _ := fun n e => e ▸ H
  exact key c.val hc _ _

theorem pick12 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1536 + d.val) :
    k0_pay3 (F := Ideal) v c0 c1 c2 c3 c4 c5 c6 c7 c8 c9 c10 c11 c12 c13 c14 c15 c16 c17 c18 c19 c20 c21 c22 c23 (ix2 r c) = c12 (ix2 r d) := by
  unfold k0_pay3
  refine (concatenate_apply ..).trans ?_
  have H : RowAt r c (⟨S256x128, c12⟩ :: ⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c12 (ix2 r d)) := row_take d
  replace H := row_skip (x := c11) (c := 128 + d.val) d.val rfl H
  replace H := row_skip (x := c10) (c := 256 + d.val) (128 + d.val) (by omega) H
  replace H := row_skip (x := c9) (c := 384 + d.val) (256 + d.val) (by omega) H
  replace H := row_skip (x := c8) (c := 512 + d.val) (384 + d.val) (by omega) H
  replace H := row_skip (x := c7) (c := 640 + d.val) (512 + d.val) (by omega) H
  replace H := row_skip (x := c6) (c := 768 + d.val) (640 + d.val) (by omega) H
  replace H := row_skip (x := c5) (c := 896 + d.val) (768 + d.val) (by omega) H
  replace H := row_skip (x := c4) (c := 1024 + d.val) (896 + d.val) (by omega) H
  replace H := row_skip (x := c3) (c := 1152 + d.val) (1024 + d.val) (by omega) H
  replace H := row_skip (x := c2) (c := 1280 + d.val) (1152 + d.val) (by omega) H
  replace H := row_skip (x := c1) (c := 1408 + d.val) (1280 + d.val) (by omega) H
  replace H := row_skip (x := c0) (c := 1536 + d.val) (1408 + d.val) (by omega) H
  have key : ∀ n, n = 1536 + d.val → RowAt r c _ n _ := fun n e => e ▸ H
  exact key c.val hc _ _

theorem pick13 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1664 + d.val) :
    k0_pay3 (F := Ideal) v c0 c1 c2 c3 c4 c5 c6 c7 c8 c9 c10 c11 c12 c13 c14 c15 c16 c17 c18 c19 c20 c21 c22 c23 (ix2 r c) = c13 (ix2 r d) := by
  unfold k0_pay3
  refine (concatenate_apply ..).trans ?_
  have H : RowAt r c (⟨S256x128, c13⟩ :: ⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c13 (ix2 r d)) := row_take d
  replace H := row_skip (x := c12) (c := 128 + d.val) d.val rfl H
  replace H := row_skip (x := c11) (c := 256 + d.val) (128 + d.val) (by omega) H
  replace H := row_skip (x := c10) (c := 384 + d.val) (256 + d.val) (by omega) H
  replace H := row_skip (x := c9) (c := 512 + d.val) (384 + d.val) (by omega) H
  replace H := row_skip (x := c8) (c := 640 + d.val) (512 + d.val) (by omega) H
  replace H := row_skip (x := c7) (c := 768 + d.val) (640 + d.val) (by omega) H
  replace H := row_skip (x := c6) (c := 896 + d.val) (768 + d.val) (by omega) H
  replace H := row_skip (x := c5) (c := 1024 + d.val) (896 + d.val) (by omega) H
  replace H := row_skip (x := c4) (c := 1152 + d.val) (1024 + d.val) (by omega) H
  replace H := row_skip (x := c3) (c := 1280 + d.val) (1152 + d.val) (by omega) H
  replace H := row_skip (x := c2) (c := 1408 + d.val) (1280 + d.val) (by omega) H
  replace H := row_skip (x := c1) (c := 1536 + d.val) (1408 + d.val) (by omega) H
  replace H := row_skip (x := c0) (c := 1664 + d.val) (1536 + d.val) (by omega) H
  have key : ∀ n, n = 1664 + d.val → RowAt r c _ n _ := fun n e => e ▸ H
  exact key c.val hc _ _

theorem pick14 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1792 + d.val) :
    k0_pay3 (F := Ideal) v c0 c1 c2 c3 c4 c5 c6 c7 c8 c9 c10 c11 c12 c13 c14 c15 c16 c17 c18 c19 c20 c21 c22 c23 (ix2 r c) = c14 (ix2 r d) := by
  unfold k0_pay3
  refine (concatenate_apply ..).trans ?_
  have H : RowAt r c (⟨S256x128, c14⟩ :: ⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c14 (ix2 r d)) := row_take d
  replace H := row_skip (x := c13) (c := 128 + d.val) d.val rfl H
  replace H := row_skip (x := c12) (c := 256 + d.val) (128 + d.val) (by omega) H
  replace H := row_skip (x := c11) (c := 384 + d.val) (256 + d.val) (by omega) H
  replace H := row_skip (x := c10) (c := 512 + d.val) (384 + d.val) (by omega) H
  replace H := row_skip (x := c9) (c := 640 + d.val) (512 + d.val) (by omega) H
  replace H := row_skip (x := c8) (c := 768 + d.val) (640 + d.val) (by omega) H
  replace H := row_skip (x := c7) (c := 896 + d.val) (768 + d.val) (by omega) H
  replace H := row_skip (x := c6) (c := 1024 + d.val) (896 + d.val) (by omega) H
  replace H := row_skip (x := c5) (c := 1152 + d.val) (1024 + d.val) (by omega) H
  replace H := row_skip (x := c4) (c := 1280 + d.val) (1152 + d.val) (by omega) H
  replace H := row_skip (x := c3) (c := 1408 + d.val) (1280 + d.val) (by omega) H
  replace H := row_skip (x := c2) (c := 1536 + d.val) (1408 + d.val) (by omega) H
  replace H := row_skip (x := c1) (c := 1664 + d.val) (1536 + d.val) (by omega) H
  replace H := row_skip (x := c0) (c := 1792 + d.val) (1664 + d.val) (by omega) H
  have key : ∀ n, n = 1792 + d.val → RowAt r c _ n _ := fun n e => e ▸ H
  exact key c.val hc _ _

theorem pick15 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 1920 + d.val) :
    k0_pay3 (F := Ideal) v c0 c1 c2 c3 c4 c5 c6 c7 c8 c9 c10 c11 c12 c13 c14 c15 c16 c17 c18 c19 c20 c21 c22 c23 (ix2 r c) = c15 (ix2 r d) := by
  unfold k0_pay3
  refine (concatenate_apply ..).trans ?_
  have H : RowAt r c (⟨S256x128, c15⟩ :: ⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c15 (ix2 r d)) := row_take d
  replace H := row_skip (x := c14) (c := 128 + d.val) d.val rfl H
  replace H := row_skip (x := c13) (c := 256 + d.val) (128 + d.val) (by omega) H
  replace H := row_skip (x := c12) (c := 384 + d.val) (256 + d.val) (by omega) H
  replace H := row_skip (x := c11) (c := 512 + d.val) (384 + d.val) (by omega) H
  replace H := row_skip (x := c10) (c := 640 + d.val) (512 + d.val) (by omega) H
  replace H := row_skip (x := c9) (c := 768 + d.val) (640 + d.val) (by omega) H
  replace H := row_skip (x := c8) (c := 896 + d.val) (768 + d.val) (by omega) H
  replace H := row_skip (x := c7) (c := 1024 + d.val) (896 + d.val) (by omega) H
  replace H := row_skip (x := c6) (c := 1152 + d.val) (1024 + d.val) (by omega) H
  replace H := row_skip (x := c5) (c := 1280 + d.val) (1152 + d.val) (by omega) H
  replace H := row_skip (x := c4) (c := 1408 + d.val) (1280 + d.val) (by omega) H
  replace H := row_skip (x := c3) (c := 1536 + d.val) (1408 + d.val) (by omega) H
  replace H := row_skip (x := c2) (c := 1664 + d.val) (1536 + d.val) (by omega) H
  replace H := row_skip (x := c1) (c := 1792 + d.val) (1664 + d.val) (by omega) H
  replace H := row_skip (x := c0) (c := 1920 + d.val) (1792 + d.val) (by omega) H
  have key : ∀ n, n = 1920 + d.val → RowAt r c _ n _ := fun n e => e ▸ H
  exact key c.val hc _ _

theorem pick16 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2048 + d.val) :
    k0_pay3 (F := Ideal) v c0 c1 c2 c3 c4 c5 c6 c7 c8 c9 c10 c11 c12 c13 c14 c15 c16 c17 c18 c19 c20 c21 c22 c23 (ix2 r c) = c16 (ix2 r d) := by
  unfold k0_pay3
  refine (concatenate_apply ..).trans ?_
  have H : RowAt r c (⟨S256x128, c16⟩ :: ⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c16 (ix2 r d)) := row_take d
  replace H := row_skip (x := c15) (c := 128 + d.val) d.val rfl H
  replace H := row_skip (x := c14) (c := 256 + d.val) (128 + d.val) (by omega) H
  replace H := row_skip (x := c13) (c := 384 + d.val) (256 + d.val) (by omega) H
  replace H := row_skip (x := c12) (c := 512 + d.val) (384 + d.val) (by omega) H
  replace H := row_skip (x := c11) (c := 640 + d.val) (512 + d.val) (by omega) H
  replace H := row_skip (x := c10) (c := 768 + d.val) (640 + d.val) (by omega) H
  replace H := row_skip (x := c9) (c := 896 + d.val) (768 + d.val) (by omega) H
  replace H := row_skip (x := c8) (c := 1024 + d.val) (896 + d.val) (by omega) H
  replace H := row_skip (x := c7) (c := 1152 + d.val) (1024 + d.val) (by omega) H
  replace H := row_skip (x := c6) (c := 1280 + d.val) (1152 + d.val) (by omega) H
  replace H := row_skip (x := c5) (c := 1408 + d.val) (1280 + d.val) (by omega) H
  replace H := row_skip (x := c4) (c := 1536 + d.val) (1408 + d.val) (by omega) H
  replace H := row_skip (x := c3) (c := 1664 + d.val) (1536 + d.val) (by omega) H
  replace H := row_skip (x := c2) (c := 1792 + d.val) (1664 + d.val) (by omega) H
  replace H := row_skip (x := c1) (c := 1920 + d.val) (1792 + d.val) (by omega) H
  replace H := row_skip (x := c0) (c := 2048 + d.val) (1920 + d.val) (by omega) H
  have key : ∀ n, n = 2048 + d.val → RowAt r c _ n _ := fun n e => e ▸ H
  exact key c.val hc _ _

theorem pick17 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2176 + d.val) :
    k0_pay3 (F := Ideal) v c0 c1 c2 c3 c4 c5 c6 c7 c8 c9 c10 c11 c12 c13 c14 c15 c16 c17 c18 c19 c20 c21 c22 c23 (ix2 r c) = c17 (ix2 r d) := by
  unfold k0_pay3
  refine (concatenate_apply ..).trans ?_
  have H : RowAt r c (⟨S256x128, c17⟩ :: ⟨S256x128, c18⟩ :: ⟨S256x128, c19⟩ :: ⟨S256x128, c20⟩ :: ⟨S256x128, c21⟩ :: ⟨S256x128, c22⟩ :: ⟨S256x128, c23⟩ :: [⟨S256x1024, v⟩]) d.val (c17 (ix2 r d)) := row_take d
  replace H := row_skip (x := c16) (c := 128 + d.val) d.val rfl H
  replace H := row_skip (x := c15) (c := 256 + d.val) (128 + d.val) (by omega) H
  replace H := row_skip (x := c14) (c := 384 + d.val) (256 + d.val) (by omega) H
  replace H := row_skip (x := c13) (c := 512 + d.val) (384 + d.val) (by omega) H
  replace H := row_skip (x := c12) (c := 640 + d.val) (512 + d.val) (by omega) H
  replace H := row_skip (x := c11) (c := 768 + d.val) (640 + d.val) (by omega) H
  replace H := row_skip (x := c10) (c := 896 + d.val) (768 + d.val) (by omega) H
  replace H := row_skip (x := c9) (c := 1024 + d.val) (896 + d.val) (by omega) H
  replace H := row_skip (x := c8) (c := 1152 + d.val) (1024 + d.val) (by omega) H
  replace H := row_skip (x := c7) (c := 1280 + d.val) (1152 + d.val) (by omega) H
  replace H := row_skip (x := c6) (c := 1408 + d.val) (1280 + d.val) (by omega) H
  replace H := row_skip (x := c5) (c := 1536 + d.val) (1408 + d.val) (by omega) H
  replace H := row_skip (x := c4) (c := 1664 + d.val) (1536 + d.val) (by omega) H
  replace H := row_skip (x := c3) (c := 1792 + d.val) (1664 + d.val) (by omega) H
  replace H := row_skip (x := c2) (c := 1920 + d.val) (1792 + d.val) (by omega) H
  replace H := row_skip (x := c1) (c := 2048 + d.val) (1920 + d.val) (by omega) H
  replace H := row_skip (x := c0) (c := 2176 + d.val) (2048 + d.val) (by omega) H
  have key : ∀ n, n = 2176 + d.val → RowAt r c _ n _ := fun n e => e ▸ H
  exact key c.val hc _ _

theorem pick18 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2304 + d.val) :
    k0_pay3 (F := Ideal) v c0 c1 c2 c3 c4 c5 c6 c7 c8 c9 c10 c11 c12 c13 c14 c15 c16 c17 c18 c19 c20 c21 c22 c23 (ix2 r c) = c18 (ix2 r d) := by
  unfold k0_pay3
  refine (concatenate_apply ..).trans ?_
  have H : RowAt r c (⟨S256x128, c18⟩ :: ⟨S256x128, c19⟩ :: ⟨S256x128, c20⟩ :: ⟨S256x128, c21⟩ :: ⟨S256x128, c22⟩ :: ⟨S256x128, c23⟩ :: [⟨S256x1024, v⟩]) d.val (c18 (ix2 r d)) := row_take d
  replace H := row_skip (x := c17) (c := 128 + d.val) d.val rfl H
  replace H := row_skip (x := c16) (c := 256 + d.val) (128 + d.val) (by omega) H
  replace H := row_skip (x := c15) (c := 384 + d.val) (256 + d.val) (by omega) H
  replace H := row_skip (x := c14) (c := 512 + d.val) (384 + d.val) (by omega) H
  replace H := row_skip (x := c13) (c := 640 + d.val) (512 + d.val) (by omega) H
  replace H := row_skip (x := c12) (c := 768 + d.val) (640 + d.val) (by omega) H
  replace H := row_skip (x := c11) (c := 896 + d.val) (768 + d.val) (by omega) H
  replace H := row_skip (x := c10) (c := 1024 + d.val) (896 + d.val) (by omega) H
  replace H := row_skip (x := c9) (c := 1152 + d.val) (1024 + d.val) (by omega) H
  replace H := row_skip (x := c8) (c := 1280 + d.val) (1152 + d.val) (by omega) H
  replace H := row_skip (x := c7) (c := 1408 + d.val) (1280 + d.val) (by omega) H
  replace H := row_skip (x := c6) (c := 1536 + d.val) (1408 + d.val) (by omega) H
  replace H := row_skip (x := c5) (c := 1664 + d.val) (1536 + d.val) (by omega) H
  replace H := row_skip (x := c4) (c := 1792 + d.val) (1664 + d.val) (by omega) H
  replace H := row_skip (x := c3) (c := 1920 + d.val) (1792 + d.val) (by omega) H
  replace H := row_skip (x := c2) (c := 2048 + d.val) (1920 + d.val) (by omega) H
  replace H := row_skip (x := c1) (c := 2176 + d.val) (2048 + d.val) (by omega) H
  replace H := row_skip (x := c0) (c := 2304 + d.val) (2176 + d.val) (by omega) H
  have key : ∀ n, n = 2304 + d.val → RowAt r c _ n _ := fun n e => e ▸ H
  exact key c.val hc _ _

theorem pick19 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2432 + d.val) :
    k0_pay3 (F := Ideal) v c0 c1 c2 c3 c4 c5 c6 c7 c8 c9 c10 c11 c12 c13 c14 c15 c16 c17 c18 c19 c20 c21 c22 c23 (ix2 r c) = c19 (ix2 r d) := by
  unfold k0_pay3
  refine (concatenate_apply ..).trans ?_
  have H : RowAt r c (⟨S256x128, c19⟩ :: ⟨S256x128, c20⟩ :: ⟨S256x128, c21⟩ :: ⟨S256x128, c22⟩ :: ⟨S256x128, c23⟩ :: [⟨S256x1024, v⟩]) d.val (c19 (ix2 r d)) := row_take d
  replace H := row_skip (x := c18) (c := 128 + d.val) d.val rfl H
  replace H := row_skip (x := c17) (c := 256 + d.val) (128 + d.val) (by omega) H
  replace H := row_skip (x := c16) (c := 384 + d.val) (256 + d.val) (by omega) H
  replace H := row_skip (x := c15) (c := 512 + d.val) (384 + d.val) (by omega) H
  replace H := row_skip (x := c14) (c := 640 + d.val) (512 + d.val) (by omega) H
  replace H := row_skip (x := c13) (c := 768 + d.val) (640 + d.val) (by omega) H
  replace H := row_skip (x := c12) (c := 896 + d.val) (768 + d.val) (by omega) H
  replace H := row_skip (x := c11) (c := 1024 + d.val) (896 + d.val) (by omega) H
  replace H := row_skip (x := c10) (c := 1152 + d.val) (1024 + d.val) (by omega) H
  replace H := row_skip (x := c9) (c := 1280 + d.val) (1152 + d.val) (by omega) H
  replace H := row_skip (x := c8) (c := 1408 + d.val) (1280 + d.val) (by omega) H
  replace H := row_skip (x := c7) (c := 1536 + d.val) (1408 + d.val) (by omega) H
  replace H := row_skip (x := c6) (c := 1664 + d.val) (1536 + d.val) (by omega) H
  replace H := row_skip (x := c5) (c := 1792 + d.val) (1664 + d.val) (by omega) H
  replace H := row_skip (x := c4) (c := 1920 + d.val) (1792 + d.val) (by omega) H
  replace H := row_skip (x := c3) (c := 2048 + d.val) (1920 + d.val) (by omega) H
  replace H := row_skip (x := c2) (c := 2176 + d.val) (2048 + d.val) (by omega) H
  replace H := row_skip (x := c1) (c := 2304 + d.val) (2176 + d.val) (by omega) H
  replace H := row_skip (x := c0) (c := 2432 + d.val) (2304 + d.val) (by omega) H
  have key : ∀ n, n = 2432 + d.val → RowAt r c _ n _ := fun n e => e ▸ H
  exact key c.val hc _ _

theorem pick20 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2560 + d.val) :
    k0_pay3 (F := Ideal) v c0 c1 c2 c3 c4 c5 c6 c7 c8 c9 c10 c11 c12 c13 c14 c15 c16 c17 c18 c19 c20 c21 c22 c23 (ix2 r c) = c20 (ix2 r d) := by
  unfold k0_pay3
  refine (concatenate_apply ..).trans ?_
  have H : RowAt r c (⟨S256x128, c20⟩ :: ⟨S256x128, c21⟩ :: ⟨S256x128, c22⟩ :: ⟨S256x128, c23⟩ :: [⟨S256x1024, v⟩]) d.val (c20 (ix2 r d)) := row_take d
  replace H := row_skip (x := c19) (c := 128 + d.val) d.val rfl H
  replace H := row_skip (x := c18) (c := 256 + d.val) (128 + d.val) (by omega) H
  replace H := row_skip (x := c17) (c := 384 + d.val) (256 + d.val) (by omega) H
  replace H := row_skip (x := c16) (c := 512 + d.val) (384 + d.val) (by omega) H
  replace H := row_skip (x := c15) (c := 640 + d.val) (512 + d.val) (by omega) H
  replace H := row_skip (x := c14) (c := 768 + d.val) (640 + d.val) (by omega) H
  replace H := row_skip (x := c13) (c := 896 + d.val) (768 + d.val) (by omega) H
  replace H := row_skip (x := c12) (c := 1024 + d.val) (896 + d.val) (by omega) H
  replace H := row_skip (x := c11) (c := 1152 + d.val) (1024 + d.val) (by omega) H
  replace H := row_skip (x := c10) (c := 1280 + d.val) (1152 + d.val) (by omega) H
  replace H := row_skip (x := c9) (c := 1408 + d.val) (1280 + d.val) (by omega) H
  replace H := row_skip (x := c8) (c := 1536 + d.val) (1408 + d.val) (by omega) H
  replace H := row_skip (x := c7) (c := 1664 + d.val) (1536 + d.val) (by omega) H
  replace H := row_skip (x := c6) (c := 1792 + d.val) (1664 + d.val) (by omega) H
  replace H := row_skip (x := c5) (c := 1920 + d.val) (1792 + d.val) (by omega) H
  replace H := row_skip (x := c4) (c := 2048 + d.val) (1920 + d.val) (by omega) H
  replace H := row_skip (x := c3) (c := 2176 + d.val) (2048 + d.val) (by omega) H
  replace H := row_skip (x := c2) (c := 2304 + d.val) (2176 + d.val) (by omega) H
  replace H := row_skip (x := c1) (c := 2432 + d.val) (2304 + d.val) (by omega) H
  replace H := row_skip (x := c0) (c := 2560 + d.val) (2432 + d.val) (by omega) H
  have key : ∀ n, n = 2560 + d.val → RowAt r c _ n _ := fun n e => e ▸ H
  exact key c.val hc _ _

theorem pick21 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2688 + d.val) :
    k0_pay3 (F := Ideal) v c0 c1 c2 c3 c4 c5 c6 c7 c8 c9 c10 c11 c12 c13 c14 c15 c16 c17 c18 c19 c20 c21 c22 c23 (ix2 r c) = c21 (ix2 r d) := by
  unfold k0_pay3
  refine (concatenate_apply ..).trans ?_
  have H : RowAt r c (⟨S256x128, c21⟩ :: ⟨S256x128, c22⟩ :: ⟨S256x128, c23⟩ :: [⟨S256x1024, v⟩]) d.val (c21 (ix2 r d)) := row_take d
  replace H := row_skip (x := c20) (c := 128 + d.val) d.val rfl H
  replace H := row_skip (x := c19) (c := 256 + d.val) (128 + d.val) (by omega) H
  replace H := row_skip (x := c18) (c := 384 + d.val) (256 + d.val) (by omega) H
  replace H := row_skip (x := c17) (c := 512 + d.val) (384 + d.val) (by omega) H
  replace H := row_skip (x := c16) (c := 640 + d.val) (512 + d.val) (by omega) H
  replace H := row_skip (x := c15) (c := 768 + d.val) (640 + d.val) (by omega) H
  replace H := row_skip (x := c14) (c := 896 + d.val) (768 + d.val) (by omega) H
  replace H := row_skip (x := c13) (c := 1024 + d.val) (896 + d.val) (by omega) H
  replace H := row_skip (x := c12) (c := 1152 + d.val) (1024 + d.val) (by omega) H
  replace H := row_skip (x := c11) (c := 1280 + d.val) (1152 + d.val) (by omega) H
  replace H := row_skip (x := c10) (c := 1408 + d.val) (1280 + d.val) (by omega) H
  replace H := row_skip (x := c9) (c := 1536 + d.val) (1408 + d.val) (by omega) H
  replace H := row_skip (x := c8) (c := 1664 + d.val) (1536 + d.val) (by omega) H
  replace H := row_skip (x := c7) (c := 1792 + d.val) (1664 + d.val) (by omega) H
  replace H := row_skip (x := c6) (c := 1920 + d.val) (1792 + d.val) (by omega) H
  replace H := row_skip (x := c5) (c := 2048 + d.val) (1920 + d.val) (by omega) H
  replace H := row_skip (x := c4) (c := 2176 + d.val) (2048 + d.val) (by omega) H
  replace H := row_skip (x := c3) (c := 2304 + d.val) (2176 + d.val) (by omega) H
  replace H := row_skip (x := c2) (c := 2432 + d.val) (2304 + d.val) (by omega) H
  replace H := row_skip (x := c1) (c := 2560 + d.val) (2432 + d.val) (by omega) H
  replace H := row_skip (x := c0) (c := 2688 + d.val) (2560 + d.val) (by omega) H
  have key : ∀ n, n = 2688 + d.val → RowAt r c _ n _ := fun n e => e ▸ H
  exact key c.val hc _ _

theorem pick22 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2816 + d.val) :
    k0_pay3 (F := Ideal) v c0 c1 c2 c3 c4 c5 c6 c7 c8 c9 c10 c11 c12 c13 c14 c15 c16 c17 c18 c19 c20 c21 c22 c23 (ix2 r c) = c22 (ix2 r d) := by
  unfold k0_pay3
  refine (concatenate_apply ..).trans ?_
  have H : RowAt r c (⟨S256x128, c22⟩ :: ⟨S256x128, c23⟩ :: [⟨S256x1024, v⟩]) d.val (c22 (ix2 r d)) := row_take d
  replace H := row_skip (x := c21) (c := 128 + d.val) d.val rfl H
  replace H := row_skip (x := c20) (c := 256 + d.val) (128 + d.val) (by omega) H
  replace H := row_skip (x := c19) (c := 384 + d.val) (256 + d.val) (by omega) H
  replace H := row_skip (x := c18) (c := 512 + d.val) (384 + d.val) (by omega) H
  replace H := row_skip (x := c17) (c := 640 + d.val) (512 + d.val) (by omega) H
  replace H := row_skip (x := c16) (c := 768 + d.val) (640 + d.val) (by omega) H
  replace H := row_skip (x := c15) (c := 896 + d.val) (768 + d.val) (by omega) H
  replace H := row_skip (x := c14) (c := 1024 + d.val) (896 + d.val) (by omega) H
  replace H := row_skip (x := c13) (c := 1152 + d.val) (1024 + d.val) (by omega) H
  replace H := row_skip (x := c12) (c := 1280 + d.val) (1152 + d.val) (by omega) H
  replace H := row_skip (x := c11) (c := 1408 + d.val) (1280 + d.val) (by omega) H
  replace H := row_skip (x := c10) (c := 1536 + d.val) (1408 + d.val) (by omega) H
  replace H := row_skip (x := c9) (c := 1664 + d.val) (1536 + d.val) (by omega) H
  replace H := row_skip (x := c8) (c := 1792 + d.val) (1664 + d.val) (by omega) H
  replace H := row_skip (x := c7) (c := 1920 + d.val) (1792 + d.val) (by omega) H
  replace H := row_skip (x := c6) (c := 2048 + d.val) (1920 + d.val) (by omega) H
  replace H := row_skip (x := c5) (c := 2176 + d.val) (2048 + d.val) (by omega) H
  replace H := row_skip (x := c4) (c := 2304 + d.val) (2176 + d.val) (by omega) H
  replace H := row_skip (x := c3) (c := 2432 + d.val) (2304 + d.val) (by omega) H
  replace H := row_skip (x := c2) (c := 2560 + d.val) (2432 + d.val) (by omega) H
  replace H := row_skip (x := c1) (c := 2688 + d.val) (2560 + d.val) (by omega) H
  replace H := row_skip (x := c0) (c := 2816 + d.val) (2688 + d.val) (by omega) H
  have key : ∀ n, n = 2816 + d.val → RowAt r c _ n _ := fun n e => e ▸ H
  exact key c.val hc _ _

theorem pick23 (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 128) (c : Fin 4096) (hc : c.val = 2944 + d.val) :
    k0_pay3 (F := Ideal) v c0 c1 c2 c3 c4 c5 c6 c7 c8 c9 c10 c11 c12 c13 c14 c15 c16 c17 c18 c19 c20 c21 c22 c23 (ix2 r c) = c23 (ix2 r d) := by
  unfold k0_pay3
  refine (concatenate_apply ..).trans ?_
  have H : RowAt r c (⟨S256x128, c23⟩ :: [⟨S256x1024, v⟩]) d.val (c23 (ix2 r d)) := row_take d
  replace H := row_skip (x := c22) (c := 128 + d.val) d.val rfl H
  replace H := row_skip (x := c21) (c := 256 + d.val) (128 + d.val) (by omega) H
  replace H := row_skip (x := c20) (c := 384 + d.val) (256 + d.val) (by omega) H
  replace H := row_skip (x := c19) (c := 512 + d.val) (384 + d.val) (by omega) H
  replace H := row_skip (x := c18) (c := 640 + d.val) (512 + d.val) (by omega) H
  replace H := row_skip (x := c17) (c := 768 + d.val) (640 + d.val) (by omega) H
  replace H := row_skip (x := c16) (c := 896 + d.val) (768 + d.val) (by omega) H
  replace H := row_skip (x := c15) (c := 1024 + d.val) (896 + d.val) (by omega) H
  replace H := row_skip (x := c14) (c := 1152 + d.val) (1024 + d.val) (by omega) H
  replace H := row_skip (x := c13) (c := 1280 + d.val) (1152 + d.val) (by omega) H
  replace H := row_skip (x := c12) (c := 1408 + d.val) (1280 + d.val) (by omega) H
  replace H := row_skip (x := c11) (c := 1536 + d.val) (1408 + d.val) (by omega) H
  replace H := row_skip (x := c10) (c := 1664 + d.val) (1536 + d.val) (by omega) H
  replace H := row_skip (x := c9) (c := 1792 + d.val) (1664 + d.val) (by omega) H
  replace H := row_skip (x := c8) (c := 1920 + d.val) (1792 + d.val) (by omega) H
  replace H := row_skip (x := c7) (c := 2048 + d.val) (1920 + d.val) (by omega) H
  replace H := row_skip (x := c6) (c := 2176 + d.val) (2048 + d.val) (by omega) H
  replace H := row_skip (x := c5) (c := 2304 + d.val) (2176 + d.val) (by omega) H
  replace H := row_skip (x := c4) (c := 2432 + d.val) (2304 + d.val) (by omega) H
  replace H := row_skip (x := c3) (c := 2560 + d.val) (2432 + d.val) (by omega) H
  replace H := row_skip (x := c2) (c := 2688 + d.val) (2560 + d.val) (by omega) H
  replace H := row_skip (x := c1) (c := 2816 + d.val) (2688 + d.val) (by omega) H
  replace H := row_skip (x := c0) (c := 2944 + d.val) (2816 + d.val) (by omega) H
  have key : ∀ n, n = 2944 + d.val → RowAt r c _ n _ := fun n e => e ▸ H
  exact key c.val hc _ _

theorem pickv (v : FVec Ideal S256x1024 .f32) (c0 c1 c2 c3 c4 c5 c6 c7 c8 c9 c10 c11 c12 c13 c14 c15 c16 c17 c18 c19 c20 c21 c22 c23 : FVec Ideal S256x128 .f32) (r : Fin 256) (d : Fin 1024) (c : Fin 4096) (hc : c.val = 3072 + d.val) :
    k0_pay3 (F := Ideal) v c0 c1 c2 c3 c4 c5 c6 c7 c8 c9 c10 c11 c12 c13 c14 c15 c16 c17 c18 c19 c20 c21 c22 c23 (ix2 r c) = v (ix2 r d) := by
  unfold k0_pay3
  refine (concatenate_apply ..).trans ?_
  have H : RowAt r c [⟨S256x1024, v⟩] d.val (v (ix2 r d)) := row_last d
  replace H := row_skip (x := c23) (c := 128 + d.val) d.val rfl H
  replace H := row_skip (x := c22) (c := 256 + d.val) (128 + d.val) (by omega) H
  replace H := row_skip (x := c21) (c := 384 + d.val) (256 + d.val) (by omega) H
  replace H := row_skip (x := c20) (c := 512 + d.val) (384 + d.val) (by omega) H
  replace H := row_skip (x := c19) (c := 640 + d.val) (512 + d.val) (by omega) H
  replace H := row_skip (x := c18) (c := 768 + d.val) (640 + d.val) (by omega) H
  replace H := row_skip (x := c17) (c := 896 + d.val) (768 + d.val) (by omega) H
  replace H := row_skip (x := c16) (c := 1024 + d.val) (896 + d.val) (by omega) H
  replace H := row_skip (x := c15) (c := 1152 + d.val) (1024 + d.val) (by omega) H
  replace H := row_skip (x := c14) (c := 1280 + d.val) (1152 + d.val) (by omega) H
  replace H := row_skip (x := c13) (c := 1408 + d.val) (1280 + d.val) (by omega) H
  replace H := row_skip (x := c12) (c := 1536 + d.val) (1408 + d.val) (by omega) H
  replace H := row_skip (x := c11) (c := 1664 + d.val) (1536 + d.val) (by omega) H
  replace H := row_skip (x := c10) (c := 1792 + d.val) (1664 + d.val) (by omega) H
  replace H := row_skip (x := c9) (c := 1920 + d.val) (1792 + d.val) (by omega) H
  replace H := row_skip (x := c8) (c := 2048 + d.val) (1920 + d.val) (by omega) H
  replace H := row_skip (x := c7) (c := 2176 + d.val) (2048 + d.val) (by omega) H
  replace H := row_skip (x := c6) (c := 2304 + d.val) (2176 + d.val) (by omega) H
  replace H := row_skip (x := c5) (c := 2432 + d.val) (2304 + d.val) (by omega) H
  replace H := row_skip (x := c4) (c := 2560 + d.val) (2432 + d.val) (by omega) H
  replace H := row_skip (x := c3) (c := 2688 + d.val) (2560 + d.val) (by omega) H
  replace H := row_skip (x := c2) (c := 2816 + d.val) (2688 + d.val) (by omega) H
  replace H := row_skip (x := c1) (c := 2944 + d.val) (2816 + d.val) (by omega) H
  replace H := row_skip (x := c0) (c := 3072 + d.val) (2944 + d.val) (by omega) H
  have key : ∀ n, n = 3072 + d.val → RowAt r c _ n _ := fun n e => e ▸ H
  exact key c.val hc _ _

theorem out_pay (r : Fin 256) (c : Fin 4096) : out0_8 (F := Ideal) x0 x1 x2 x3 x4 x5 x6 x7 (ix2 r c) =
   k0_pay3 (F := Ideal) (k0_pay7 x0 x3) (k0_pay15 (k0_pay13 x0 x1 x4 x6) (k0_pay14 x0 x1 x5 x6)) (k0_pay16 (k0_pay5 (F := Ideal) x0 x1) (k0_pay8 (F := Ideal) x4) (k0_pay9 (F := Ideal) x5) (k0_pay10 (F := Ideal) x6)) (k0_pay17 (k0_pay5 (F := Ideal) x0 x1) (k0_pay8 (F := Ideal) x4) (k0_pay9 (F := Ideal) x5) (k0_pay10 (F := Ideal) x6)) (k0_pay20 (k0_pay8 (F := Ideal) x4) (k0_pay9 (F := Ideal) x5) (k0_pay10 (F := Ideal) x6) (k0_pay18 (k0_pay5 (F := Ideal) x0 x1)) (k0_pay19 (k0_pay5 (F := Ideal) x0 x1)) (Scalar.ofBits .f32 0x358637BD#32)) (k0_pay21 (k0_pay5 (F := Ideal) x0 x1) (k0_pay8 (F := Ideal) x4) (k0_pay9 (F := Ideal) x5) (k0_pay10 (F := Ideal) x6)) (k0_pay25 (k0_pay8 (F := Ideal) x4) (k0_pay9 (F := Ideal) x5) (k0_pay22 (k0_pay5 (F := Ideal) x0 x1) (k0_pay10 (F := Ideal) x6)) (k0_pay23 (k0_pay5 (F := Ideal) x0 x1) (k0_pay10 (F := Ideal) x6)) (k0_pay24 (F := Ideal))) (k0_pay26 (k0_pay5 (F := Ideal) x0 x1) (k0_pay8 (F := Ideal) x4) (k0_pay9 (F := Ideal) x5) (k0_pay10 (F := Ideal) x6)) (k0_pay27 (k0_pay5 (F := Ideal) x0 x1) (k0_pay8 (F := Ideal) x4) (k0_pay9 (F := Ideal) x5) (k0_pay10 (F := Ideal) x6)) (k0_pay30 (k0_pay8 (F := Ideal) x4) (k0_pay9 (F := Ideal) x5) (k0_pay10 (F := Ideal) x6) (k0_pay28 (k0_pay5 (F := Ideal) x0 x1)) (k0_pay29 (k0_pay5 (F := Ideal) x0 x1))) (k0_pay31 (k0_pay5 (F := Ideal) x0 x1) (k0_pay8 (F := Ideal) x4) (k0_pay9 (F := Ideal) x5) (k0_pay10 (F := Ideal) x6)) (k0_pay33 (k0_pay8 (F := Ideal) x4) (k0_pay9 (F := Ideal) x5) (k0_pay10 (F := Ideal) x6) (k0_pay32 (k0_pay5 (F := Ideal) x0 x1))) (k0_pay34 (k0_pay5 (F := Ideal) x0 x1) (k0_pay8 (F := Ideal) x4) (k0_pay9 (F := Ideal) x5) (k0_pay10 (F := Ideal) x6)) (k0_pay38 (k0_pay36 (k0_pay5 (F := Ideal) x0 x1) (k0_pay8 (F := Ideal) x4) (k0_pay10 (F := Ideal) x6)) (k0_pay37 (k0_pay5 (F := Ideal) x0 x1) (k0_pay9 (F := Ideal) x5) (k0_pay10 (F := Ideal) x6))) (k0_pay39 (k0_pay5 (F := Ideal) x0 x1) (k0_pay8 (F := Ideal) x4) (k0_pay9 (F := Ideal) x5) (k0_pay10 (F := Ideal) x6)) (k0_pay40 (k0_pay5 (F := Ideal) x0 x1) (k0_pay8 (F := Ideal) x4) (k0_pay9 (F := Ideal) x5) (k0_pay10 (F := Ideal) x6)) (k0_pay43 (k0_pay8 (F := Ideal) x4) (k0_pay9 (F := Ideal) x5) (k0_pay10 (F := Ideal) x6) (k0_pay41 (k0_pay5 (F := Ideal) x0 x1)) (k0_pay42 (k0_pay5 (F := Ideal) x0 x1)) (Scalar.ofBits .f32 0x358637BD#32)) (k0_pay44 (k0_pay6 (F := Ideal) x0 x2) (k0_pay8 (F := Ideal) x4) (k0_pay9 (F := Ideal) x5) (k0_pay11 (F := Ideal) x7)) (k0_pay48 (k0_pay8 (F := Ideal) x4) (k0_pay9 (F := Ideal) x5) (k0_pay45 (k0_pay6 (F := Ideal) x0 x2) (k0_pay11 (F := Ideal) x7)) (k0_pay46 (k0_pay6 (F := Ideal) x0 x2) (k0_pay11 (F := Ideal) x7)) (k0_pay47 (F := Ideal))) (k0_pay49 (k0_pay6 (F := Ideal) x0 x2) (k0_pay8 (F := Ideal) x4) (k0_pay9 (F := Ideal) x5) (k0_pay11 (F := Ideal) x7)) (k0_pay50 (k0_pay6 (F := Ideal) x0 x2) (k0_pay8 (F := Ideal) x4) (k0_pay9 (F := Ideal) x5) (k0_pay11 (F := Ideal) x7)) (k0_pay53 (k0_pay8 (F := Ideal) x4) (k0_pay9 (F := Ideal) x5) (k0_pay11 (F := Ideal) x7) (k0_pay51 (k0_pay6 (F := Ideal) x0 x2)) (k0_pay52 (k0_pay6 (F := Ideal) x0 x2))) (k0_pay54 (k0_pay6 (F := Ideal) x0 x2) (k0_pay8 (F := Ideal) x4) (k0_pay9 (F := Ideal) x5) (k0_pay11 (F := Ideal) x7)) (k0_pay1 (k0_pay8 (F := Ideal) x4) (k0_pay9 (F := Ideal) x5) (k0_pay11 (F := Ideal) x7) (k0_pay55 (k0_pay6 (F := Ideal) x0 x2))) (k0_pay2 (k0_pay6 (F := Ideal) x0 x2) (k0_pay8 (F := Ideal) x4) (k0_pay9 (F := Ideal) x5) (k0_pay11 (F := Ideal) x7)) (ix2 r c) := by
  unfold out0_8 k0_pay56 k0_pay57 k0_pay58 k0_pay59 k0_pay60 k0_pay61
  simp only [canonw, ldw0, ldw1, ldw2, ldw3, ldw4]

theorem head0 (r : Fin 256) (d : Fin 128) : out0_8 (F := Ideal) x0 x1 x2 x3 x4 x5 x6 x7 (ix2 r ⟨0 + d.val, by omega⟩)
    = ropeN (fun x => dotQ x0 x1 r ⟨0 + x.val, by omega⟩) (fun d => x6 (ix2 0 d)) (fun d => x4 (ix2 r d)) (fun d => x5 (ix2 r d)) d := by
  refine (out_pay ..).trans ((pick0 _ _ _ _ _ _ _ _ _ _ _ _ _ _ _ _ _ _ _ _ _ _ _ _ _ r d _ rfl).trans ((col0_at ..).trans ?_))
  rfl

theorem head1 (r : Fin 256) (d : Fin 128) : out0_8 (F := Ideal) x0 x1 x2 x3 x4 x5 x6 x7 (ix2 r ⟨128 + d.val, by omega⟩)
    = ropeN (fun x => dotQ x0 x1 r ⟨128 + x.val, by omega⟩) (fun d => x6 (ix2 0 d)) (fun d => x4 (ix2 r d)) (fun d => x5 (ix2 r d)) d := by
  refine (out_pay ..).trans ((pick1 _ _ _ _ _ _ _ _ _ _ _ _ _ _ _ _ _ _ _ _ _ _ _ _ _ r d _ rfl).trans ((col1_at ..).trans ?_))
  simp only [same8, same9, same10, proj_q]

theorem head2 (r : Fin 256) (d : Fin 128) : out0_8 (F := Ideal) x0 x1 x2 x3 x4 x5 x6 x7 (ix2 r ⟨256 + d.val, by omega⟩)
    = ropeN (fun x => dotQ x0 x1 r ⟨256 + x.val, by omega⟩) (fun d => x6 (ix2 0 d)) (fun d => x4 (ix2 r d)) (fun d => x5 (ix2 r d)) d := by
  refine (out_pay ..).trans ((pick2 _ _ _ _ _ _ _ _ _ _ _ _ _ _ _ _ _ _ _ _ _ _ _ _ _ r d _ rfl).trans ((col2_at ..).trans ?_))
  simp only [same8, same9, same10, proj_q]

theorem head3 (r : Fin 256) (d : Fin 128) : out0_8 (F := Ideal) x0 x1 x2 x3 x4 x5 x6 x7 (ix2 r ⟨384 + d.val, by omega⟩)
    = ropeN (fun x => dotQ x0 x1 r ⟨384 + x.val, by omega⟩) (fun d => x6 (ix2 0 d)) (fun d => x4 (ix2 r d)) (fun d => x5 (ix2 r d)) d := by
  refine (out_pay ..).trans ((pick3 _ _ _ _ _ _ _ _ _ _ _ _ _ _ _ _ _ _ _ _ _ _ _ _ _ r d _ rfl).trans ((col3_at ..).trans ?_))
  simp only [same8, same9, same10, proj_q]

theorem head4 (r : Fin 256) (d : Fin 128) : out0_8 (F := Ideal) x0 x1 x2 x3 x4 x5 x6 x7 (ix2 r ⟨512 + d.val, by omega⟩)
    = ropeN (fun x => dotQ x0 x1 r ⟨512 + x.val, by omega⟩) (fun d => x6 (ix2 0 d)) (fun d => x4 (ix2 r d)) (fun d => x5 (ix2 r d)) d := by
  refine (out_pay ..).trans ((pick4 _ _ _ _ _ _ _ _ _ _ _ _ _ _ _ _ _ _ _ _ _ _ _ _ _ r d _ rfl).trans ((col4_at ..).trans ?_))
  simp only [same8, same9, same10, proj_q]

theorem head5 (r : Fin 256) (d : Fin 128) : out0_8 (F := Ideal) x0 x1 x2 x3 x4 x5 x6 x7 (ix2 r ⟨640 + d.val, by omega⟩)
    = ropeN (fun x => dotQ x0 x1 r ⟨640 + x.val, by omega⟩) (fun d => x6 (ix2 0 d)) (fun d => x4 (ix2 r d)) (fun d => x5 (ix2 r d)) d := by
  refine (out_pay ..).trans ((pick5 _ _ _ _ _ _ _ _ _ _ _ _ _ _ _ _ _ _ _ _ _ _ _ _ _ r d _ rfl).trans ((col5_at ..).trans ?_))
  simp only [same8, same9, same10, proj_q]

theorem head6 (r : Fin 256) (d : Fin 128) : out0_8 (F := Ideal) x0 x1 x2 x3 x4 x5 x6 x7 (ix2 r ⟨768 + d.val, by omega⟩)
    = ropeN (fun x => dotQ x0 x1 r ⟨768 + x.val, by omega⟩) (fun d => x6 (ix2 0 d)) (fun d => x4 (ix2 r d)) (fun d => x5 (ix2 r d)) d := by
  refine (out_pay ..).trans ((pick6 _ _ _ _ _ _ _ _ _ _ _ _ _ _ _ _ _ _ _ _ _ _ _ _ _ r d _ rfl).trans ((col6_at ..).trans ?_))
  simp only [same8, same9, same10, proj_q]

theorem head7 (r : Fin 256) (d : Fin 128) : out0_8 (F := Ideal) x0 x1 x2 x3 x4 x5 x6 x7 (ix2 r ⟨896 + d.val, by omega⟩)
    = ropeN (fun x => dotQ x0 x1 r ⟨896 + x.val, by omega⟩) (fun d => x6 (ix2 0 d)) (fun d => x4 (ix2 r d)) (fun d => x5 (ix2 r d)) d := by
  refine (out_pay ..).trans ((pick7 _ _ _ _ _ _ _ _ _ _ _ _ _ _ _ _ _ _ _ _ _ _ _ _ _ r d _ rfl).trans ((col7_at ..).trans ?_))
  simp only [same8, same9, same10, proj_q]

theorem head8 (r : Fin 256) (d : Fin 128) : out0_8 (F := Ideal) x0 x1 x2 x3 x4 x5 x6 x7 (ix2 r ⟨1024 + d.val, by omega⟩)
    = ropeN (fun x => dotQ x0 x1 r ⟨1024 + x.val, by omega⟩) (fun d => x6 (ix2 0 d)) (fun d => x4 (ix2 r d)) (fun d => x5 (ix2 r d)) d := by
  refine (out_pay ..).trans ((pick8 _ _ _ _ _ _ _ _ _ _ _ _ _ _ _ _ _ _ _ _ _ _ _ _ _ r d _ rfl).trans ((col8_at ..).trans ?_))
  simp only [same8, same9, same10, proj_q]

theorem head9 (r : Fin 256) (d : Fin 128) : out0_8 (F := Ideal) x0 x1 x2 x3 x4 x5 x6 x7 (ix2 r ⟨1152 + d.val, by omega⟩)
    = ropeN (fun x => dotQ x0 x1 r ⟨1152 + x.val, by omega⟩) (fun d => x6 (ix2 0 d)) (fun d => x4 (ix2 r d)) (fun d => x5 (ix2 r d)) d := by
  refine (out_pay ..).trans ((pick9 _ _ _ _ _ _ _ _ _ _ _ _ _ _ _ _ _ _ _ _ _ _ _ _ _ r d _ rfl).trans ((col9_at ..).trans ?_))
  simp only [same8, same9, same10, proj_q]

theorem head10 (r : Fin 256) (d : Fin 128) : out0_8 (F := Ideal) x0 x1 x2 x3 x4 x5 x6 x7 (ix2 r ⟨1280 + d.val, by omega⟩)
    = ropeN (fun x => dotQ x0 x1 r ⟨1280 + x.val, by omega⟩) (fun d => x6 (ix2 0 d)) (fun d => x4 (ix2 r d)) (fun d => x5 (ix2 r d)) d := by
  refine (out_pay ..).trans ((pick10 _ _ _ _ _ _ _ _ _ _ _ _ _ _ _ _ _ _ _ _ _ _ _ _ _ r d _ rfl).trans ((col10_at ..).trans ?_))
  simp only [same8, same9, same10, proj_q]

theorem head11 (r : Fin 256) (d : Fin 128) : out0_8 (F := Ideal) x0 x1 x2 x3 x4 x5 x6 x7 (ix2 r ⟨1408 + d.val, by omega⟩)
    = ropeN (fun x => dotQ x0 x1 r ⟨1408 + x.val, by omega⟩) (fun d => x6 (ix2 0 d)) (fun d => x4 (ix2 r d)) (fun d => x5 (ix2 r d)) d := by
  refine (out_pay ..).trans ((pick11 _ _ _ _ _ _ _ _ _ _ _ _ _ _ _ _ _ _ _ _ _ _ _ _ _ r d _ rfl).trans ((col11_at ..).trans ?_))
  simp only [same8, same9, same10, proj_q]

theorem head12 (r : Fin 256) (d : Fin 128) : out0_8 (F := Ideal) x0 x1 x2 x3 x4 x5 x6 x7 (ix2 r ⟨1536 + d.val, by omega⟩)
    = ropeN (fun x => dotQ x0 x1 r ⟨1536 + x.val, by omega⟩) (fun d => x6 (ix2 0 d)) (fun d => x4 (ix2 r d)) (fun d => x5 (ix2 r d)) d := by
  refine (out_pay ..).trans ((pick12 _ _ _ _ _ _ _ _ _ _ _ _ _ _ _ _ _ _ _ _ _ _ _ _ _ r d _ rfl).trans ((col12_at ..).trans ?_))
  simp only [same8, same9, same10, proj_q]

theorem head13 (r : Fin 256) (d : Fin 128) : out0_8 (F := Ideal) x0 x1 x2 x3 x4 x5 x6 x7 (ix2 r ⟨1664 + d.val, by omega⟩)
    = ropeN (fun x => dotQ x0 x1 r ⟨1664 + x.val, by omega⟩) (fun d => x6 (ix2 0 d)) (fun d => x4 (ix2 r d)) (fun d => x5 (ix2 r d)) d := by
  refine (out_pay ..).trans ((pick13 _ _ _ _ _ _ _ _ _ _ _ _ _ _ _ _ _ _ _ _ _ _ _ _ _ r d _ rfl).trans ((col13_at ..).trans ?_))
  simp only [same8, same9, same10, proj_q]

theorem head14 (r : Fin 256) (d : Fin 128) : out0_8 (F := Ideal) x0 x1 x2 x3 x4 x5 x6 x7 (ix2 r ⟨1792 + d.val, by omega⟩)
    = ropeN (fun x => dotQ x0 x1 r ⟨1792 + x.val, by omega⟩) (fun d => x6 (ix2 0 d)) (fun d => x4 (ix2 r d)) (fun d => x5 (ix2 r d)) d := by
  refine (out_pay ..).trans ((pick14 _ _ _ _ _ _ _ _ _ _ _ _ _ _ _ _ _ _ _ _ _ _ _ _ _ r d _ rfl).trans ((col14_at ..).trans ?_))
  simp only [same8, same9, same10, proj_q]

theorem head15 (r : Fin 256) (d : Fin 128) : out0_8 (F := Ideal) x0 x1 x2 x3 x4 x5 x6 x7 (ix2 r ⟨1920 + d.val, by omega⟩)
    = ropeN (fun x => dotQ x0 x1 r ⟨1920 + x.val, by omega⟩) (fun d => x6 (ix2 0 d)) (fun d => x4 (ix2 r d)) (fun d => x5 (ix2 r d)) d := by
  refine (out_pay ..).trans ((pick15 _ _ _ _ _ _ _ _ _ _ _ _ _ _ _ _ _ _ _ _ _ _ _ _ _ r d _ rfl).trans ((col15_at ..).trans ?_))
  simp only [same8, same9, same10, proj_q]

theorem head16 (r : Fin 256) (d : Fin 128) : out0_8 (F := Ideal) x0 x1 x2 x3 x4 x5 x6 x7 (ix2 r ⟨2048 + d.val, by omega⟩)
    = ropeN (fun x => dotK x0 x2 r ⟨0 + x.val, by omega⟩) (fun d => x7 (ix2 0 d)) (fun d => x4 (ix2 r d)) (fun d => x5 (ix2 r d)) d := by
  refine (out_pay ..).trans ((pick16 _ _ _ _ _ _ _ _ _ _ _ _ _ _ _ _ _ _ _ _ _ _ _ _ _ r d _ rfl).trans ((col16_at ..).trans ?_))
  simp only [same8, same9, same11, proj_k]

theorem head17 (r : Fin 256) (d : Fin 128) : out0_8 (F := Ideal) x0 x1 x2 x3 x4 x5 x6 x7 (ix2 r ⟨2176 + d.val, by omega⟩)
    = ropeN (fun x => dotK x0 x2 r ⟨128 + x.val, by omega⟩) (fun d => x7 (ix2 0 d)) (fun d => x4 (ix2 r d)) (fun d => x5 (ix2 r d)) d := by
  refine (out_pay ..).trans ((pick17 _ _ _ _ _ _ _ _ _ _ _ _ _ _ _ _ _ _ _ _ _ _ _ _ _ r d _ rfl).trans ((col17_at ..).trans ?_))
  simp only [same8, same9, same11, proj_k]

theorem head18 (r : Fin 256) (d : Fin 128) : out0_8 (F := Ideal) x0 x1 x2 x3 x4 x5 x6 x7 (ix2 r ⟨2304 + d.val, by omega⟩)
    = ropeN (fun x => dotK x0 x2 r ⟨256 + x.val, by omega⟩) (fun d => x7 (ix2 0 d)) (fun d => x4 (ix2 r d)) (fun d => x5 (ix2 r d)) d := by
  refine (out_pay ..).trans ((pick18 _ _ _ _ _ _ _ _ _ _ _ _ _ _ _ _ _ _ _ _ _ _ _ _ _ r d _ rfl).trans ((col18_at ..).trans ?_))
  simp only [same8, same9, same11, proj_k]

theorem head19 (r : Fin 256) (d : Fin 128) : out0_8 (F := Ideal) x0 x1 x2 x3 x4 x5 x6 x7 (ix2 r ⟨2432 + d.val, by omega⟩)
    = ropeN (fun x => dotK x0 x2 r ⟨384 + x.val, by omega⟩) (fun d => x7 (ix2 0 d)) (fun d => x4 (ix2 r d)) (fun d => x5 (ix2 r d)) d := by
  refine (out_pay ..).trans ((pick19 _ _ _ _ _ _ _ _ _ _ _ _ _ _ _ _ _ _ _ _ _ _ _ _ _ r d _ rfl).trans ((col19_at ..).trans ?_))
  simp only [same8, same9, same11, proj_k]

theorem head20 (r : Fin 256) (d : Fin 128) : out0_8 (F := Ideal) x0 x1 x2 x3 x4 x5 x6 x7 (ix2 r ⟨2560 + d.val, by omega⟩)
    = ropeN (fun x => dotK x0 x2 r ⟨512 + x.val, by omega⟩) (fun d => x7 (ix2 0 d)) (fun d => x4 (ix2 r d)) (fun d => x5 (ix2 r d)) d := by
  refine (out_pay ..).trans ((pick20 _ _ _ _ _ _ _ _ _ _ _ _ _ _ _ _ _ _ _ _ _ _ _ _ _ r d _ rfl).trans ((col20_at ..).trans ?_))
  simp only [same8, same9, same11, proj_k]

theorem head21 (r : Fin 256) (d : Fin 128) : out0_8 (F := Ideal) x0 x1 x2 x3 x4 x5 x6 x7 (ix2 r ⟨2688 + d.val, by omega⟩)
    = ropeN (fun x => dotK x0 x2 r ⟨640 + x.val, by omega⟩) (fun d => x7 (ix2 0 d)) (fun d => x4 (ix2 r d)) (fun d => x5 (ix2 r d)) d := by
  refine (out_pay ..).trans ((pick21 _ _ _ _ _ _ _ _ _ _ _ _ _ _ _ _ _ _ _ _ _ _ _ _ _ r d _ rfl).trans ((col21_at ..).trans ?_))
  simp only [same8, same9, same11, proj_k]

theorem head22 (r : Fin 256) (d : Fin 128) : out0_8 (F := Ideal) x0 x1 x2 x3 x4 x5 x6 x7 (ix2 r ⟨2816 + d.val, by omega⟩)
    = ropeN (fun x => dotK x0 x2 r ⟨768 + x.val, by omega⟩) (fun d => x7 (ix2 0 d)) (fun d => x4 (ix2 r d)) (fun d => x5 (ix2 r d)) d := by
  refine (out_pay ..).trans ((pick22 _ _ _ _ _ _ _ _ _ _ _ _ _ _ _ _ _ _ _ _ _ _ _ _ _ r d _ rfl).trans ((col22_at ..).trans ?_))
  simp only [same8, same9, same11, proj_k]

theorem head23 (r : Fin 256) (d : Fin 128) : out0_8 (F := Ideal) x0 x1 x2 x3 x4 x5 x6 x7 (ix2 r ⟨2944 + d.val, by omega⟩)
    = ropeN (fun x => dotK x0 x2 r ⟨896 + x.val, by omega⟩) (fun d => x7 (ix2 0 d)) (fun d => x4 (ix2 r d)) (fun d => x5 (ix2 r d)) d := by
  refine (out_pay ..).trans ((pick23 _ _ _ _ _ _ _ _ _ _ _ _ _ _ _ _ _ _ _ _ _ _ _ _ _ r d _ rfl).trans ((col23_at ..).trans ?_))
  simp only [same8, same9, same11, proj_k]

theorem headv (r : Fin 256) (c : Fin 1024) : out0_8 (F := Ideal) x0 x1 x2 x3 x4 x5 x6 x7 (ix2 r ⟨3072 + c.val, by omega⟩) = dotK x0 x3 r c := by
  exact (out_pay ..).trans ((pickv _ _ _ _ _ _ _ _ _ _ _ _ _ _ _ _ _ _ _ _ _ _ _ _ _ r c _ rfl).trans (proj_v ..))

theorem heads_q (h : Fin 16) (r : Fin 256) (d : Fin 128) : out0_8 (F := Ideal) x0 x1 x2 x3 x4 x5 x6 x7 (ix2 r ⟨128 * h.val + d.val, by omega⟩)
    = ropeN (fun x => dotQ x0 x1 r ⟨128 * h.val + x.val, by omega⟩) (fun d => x6 (ix2 0 d)) (fun d => x4 (ix2 r d)) (fun d => x5 (ix2 r d)) d := by
  fin_cases h
  · exact head0 x0 x1 x2 x3 x4 x5 x6 x7 r d
  · exact head1 x0 x1 x2 x3 x4 x5 x6 x7 r d
  · exact head2 x0 x1 x2 x3 x4 x5 x6 x7 r d
  · exact head3 x0 x1 x2 x3 x4 x5 x6 x7 r d
  · exact head4 x0 x1 x2 x3 x4 x5 x6 x7 r d
  · exact head5 x0 x1 x2 x3 x4 x5 x6 x7 r d
  · exact head6 x0 x1 x2 x3 x4 x5 x6 x7 r d
  · exact head7 x0 x1 x2 x3 x4 x5 x6 x7 r d
  · exact head8 x0 x1 x2 x3 x4 x5 x6 x7 r d
  · exact head9 x0 x1 x2 x3 x4 x5 x6 x7 r d
  · exact head10 x0 x1 x2 x3 x4 x5 x6 x7 r d
  · exact head11 x0 x1 x2 x3 x4 x5 x6 x7 r d
  · exact head12 x0 x1 x2 x3 x4 x5 x6 x7 r d
  · exact head13 x0 x1 x2 x3 x4 x5 x6 x7 r d
  · exact head14 x0 x1 x2 x3 x4 x5 x6 x7 r d
  · exact head15 x0 x1 x2 x3 x4 x5 x6 x7 r d

theorem heads_k (h : Fin 8) (r : Fin 256) (d : Fin 128) : out0_8 (F := Ideal) x0 x1 x2 x3 x4 x5 x6 x7 (ix2 r ⟨2048 + 128 * h.val + d.val, by omega⟩)
    = ropeN (fun x => dotK x0 x2 r ⟨128 * h.val + x.val, by omega⟩) (fun d => x7 (ix2 0 d)) (fun d => x4 (ix2 r d)) (fun d => x5 (ix2 r d)) d := by
  fin_cases h
  · exact head16 x0 x1 x2 x3 x4 x5 x6 x7 r d
  · exact head17 x0 x1 x2 x3 x4 x5 x6 x7 r d
  · exact head18 x0 x1 x2 x3 x4 x5 x6 x7 r d
  · exact head19 x0 x1 x2 x3 x4 x5 x6 x7 r d
  · exact head20 x0 x1 x2 x3 x4 x5 x6 x7 r d
  · exact head21 x0 x1 x2 x3 x4 x5 x6 x7 r d
  · exact head22 x0 x1 x2 x3 x4 x5 x6 x7 r d
  · exact head23 x0 x1 x2 x3 x4 x5 x6 x7 r d

end Cert.KernelIdeal.Own
end
-- ==== Proof.V.Arr0.lean ====
/- The first call: the array of queries, keys and values it leaves, entry by entry. -/
module

public import proofs.«01_k».proof.Proof.V.KOut
public import proofs.«01_k».proof.Proof.V.QkvVal
public import proofs.«01_k».proof.Proof.KI.Run
public import proofs.«01_k».proof.Proof.V.Spec
public import Idealize.ShloMosaic.Lib.Pipeline.ValueKit

@[expose] public section

set_option maxRecDepth 16384

noncomputable section

namespace Cert.KernelIdeal.Own

open Cert.KernelIdeal Cert.KernelIdeal.Gen
open Cert.Attn
open Idealize.ShloMosaic.Pipeline (Dat)
open Idealize.ShloMosaic Idealize.ShloMosaic.TcCoe Idealize.SL.Sem

variable (V : (c : Dev nD) → (b : Ref sig .tc) → Buf (Elt Ideal) ((c : Thread nD τ).loc b)) (c : Dev nD)

theorem idx0 : ∀ t : Fin cfg0.N, (win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![0, 0] ∧ win0_7.index t = ![0, 0] ∧ win0_8.index t = ![t.val, 0]) ∧ t.val < 8 :=
  (by decide +kernel : ∀ t : Fin grid0.N, _)

/-- The projected, normalised and rotated queries and keys and the values, side by side. -/
def qkvF (X wq : FVec Ideal S2048x2048 .f32) (wk wv : FVec Ideal S2048x1024 .f32) (cs sn : FVec Ideal S2048x128 .f32)
    (qn kn : FVec Ideal S1x128 .f32) : FVec Ideal S2048x4096 .f32 := fun y =>
  if h : (y 1).val < 2048 then
    ropeN (fun x => ∑ e : Fin 2048, X (ix2 ⟨(y 0).val, (y 0).isLt⟩ e) * wq (ix2 e ⟨128 * ((y 1).val / 128) + x.val, by omega⟩)) (fun d => qn (ix2 0 d))
      (fun d => cs (ix2 ⟨(y 0).val, (y 0).isLt⟩ d)) (fun d => sn (ix2 ⟨(y 0).val, (y 0).isLt⟩ d)) ⟨(y 1).val % 128, by omega⟩
  else if h : (y 1).val < 3072 then
    ropeN (fun x => ∑ e : Fin 2048, X (ix2 ⟨(y 0).val, (y 0).isLt⟩ e) * wk (ix2 e ⟨128 * (((y 1).val - 2048) / 128) + x.val, by omega⟩)) (fun d => kn (ix2 0 d))
      (fun d => cs (ix2 ⟨(y 0).val, (y 0).isLt⟩ d)) (fun d => sn (ix2 ⟨(y 0).val, (y 0).isLt⟩ d)) ⟨(y 1).val % 128, by omega⟩
  else ∑ e : Fin 2048, X (ix2 ⟨(y 0).val, (y 0).isLt⟩ e) * wv (ix2 e ⟨(y 1).val - 3072, by have : (y 1).val < 4096 := (y 1).isLt; omega⟩)

section
variable (X wq : FVec Ideal S2048x2048 .f32) (wk wv : FVec Ideal S2048x1024 .f32) (cs sn : FVec Ideal S2048x128 .f32) (qn kn : FVec Ideal S1x128 .f32)

theorem qkvF_q (y : S2048x4096.Idx) (t : Fin 2048) (h : Fin 16) (d : Fin 128) (h0 : (y 0).val = t.val) (h1 : (y 1).val = 128 * h.val + d.val) :
    qkvF X wq wk wv cs sn qn kn y = ropeN (fun x => ∑ e : Fin 2048, X (ix2 t e) * wq (ix2 e ⟨128 * h.val + x.val, by omega⟩)) (fun d => qn (ix2 0 d))
      (fun d => cs (ix2 t d)) (fun d => sn (ix2 t d)) d := by
  unfold qkvF
  have e0 : (⟨(y 0).val, (y 0).isLt⟩ : Fin 2048) = t := Fin.ext h0
  have e1 : (y 1).val / 128 = h.val := by omega
  have e2 : ∀ hh, (⟨(y 1).val % 128, hh⟩ : Fin 128) = d := fun _ => Fin.ext (by simp only; omega)
  rw [dif_pos (by omega)]
  simp only [e0, e1, e2]

theorem qkvF_k (y : S2048x4096.Idx) (t : Fin 2048) (h : Fin 8) (d : Fin 128) (h0 : (y 0).val = t.val) (h1 : (y 1).val = 2048 + 128 * h.val + d.val) :
    qkvF X wq wk wv cs sn qn kn y = ropeN (fun x => ∑ e : Fin 2048, X (ix2 t e) * wk (ix2 e ⟨128 * h.val + x.val, by omega⟩)) (fun d => kn (ix2 0 d))
      (fun d => cs (ix2 t d)) (fun d => sn (ix2 t d)) d := by
  unfold qkvF
  have e0 : (⟨(y 0).val, (y 0).isLt⟩ : Fin 2048) = t := Fin.ext h0
  have e1 : ((y 1).val - 2048) / 128 = h.val := by omega
  have e2 : ∀ hh, (⟨(y 1).val % 128, hh⟩ : Fin 128) = d := fun _ => Fin.ext (by simp only; omega)
  rw [dif_neg (by omega), dif_pos (by omega)]
  simp only [e0, e1, e2]

theorem qkvF_v (y : S2048x4096.Idx) (t : Fin 2048) (d : Fin 1024) (h0 : (y 0).val = t.val) (h1 : (y 1).val = 3072 + d.val) :
    qkvF X wq wk wv cs sn qn kn y = ∑ e : Fin 2048, X (ix2 t e) * wv (ix2 e d) := by
  unfold qkvF
  have e0 : (⟨(y 0).val, (y 0).isLt⟩ : Fin 2048) = t := Fin.ext h0
  have e2 : ∀ hh, (⟨(y 1).val - 3072, hh⟩ : Fin 1024) = d := fun _ => Fin.ext (by simp only; omega)
  rw [dif_neg (by omega), dif_neg (by omega)]
  simp only [e0, e2]
end

theorem blk0_0 (t : Fin cfg0.N) (r : Fin 256) (e : Fin 2048) :
    iblk0 V c 0 t (ix2 r e) = V c main_v0 (ix2 ⟨256 * t.val + r.val, by have := (idx0 t).2; omega⟩ e) := by
  have hi := (idx0 t).1
  blk_ext [iblk0, hi]
theorem blk0_1 (t : Fin cfg0.N) : iblk0 V c 1 t = V c main_arg3 := by
  have hi := (idx0 t).1
  blk_ext! [iblk0, hi]
theorem blk0_2 (t : Fin cfg0.N) : iblk0 V c 2 t = V c main_arg4 := by
  have hi := (idx0 t).1
  blk_ext! [iblk0, hi]
theorem blk0_3 (t : Fin cfg0.N) : iblk0 V c 3 t = V c main_arg5 := by
  have hi := (idx0 t).1
  blk_ext! [iblk0, hi]
theorem blk0_4 (t : Fin cfg0.N) (r : Fin 256) (e : Fin 128) :
    iblk0 V c 4 t (ix2 r e) = V c main_v1 (ix2 ⟨256 * t.val + r.val, by have := (idx0 t).2; omega⟩ e) := by
  have hi := (idx0 t).1
  blk_ext [iblk0, hi]
theorem blk0_5 (t : Fin cfg0.N) (r : Fin 256) (e : Fin 128) :
    iblk0 V c 5 t (ix2 r e) = V c main_v2 (ix2 ⟨256 * t.val + r.val, by have := (idx0 t).2; omega⟩ e) := by
  have hi := (idx0 t).1
  blk_ext [iblk0, hi]
theorem blk0_6 (t : Fin cfg0.N) : iblk0 V c 6 t = V c main_v3 := by
  have hi := (idx0 t).1
  blk_ext! [iblk0, hi]
theorem blk0_7 (t : Fin cfg0.N) : iblk0 V c 7 t = V c main_v4 := by
  have hi := (idx0 t).1
  blk_ext! [iblk0, hi]

/-- What the projection call leaves. -/
theorem final0 : (dat0 V c).arrAt 8 cfg0.N = qkvF (V c main_v0) (V c main_arg3) (V c main_arg4) (V c main_arg5) (V c main_v1) (V c main_v2) (V c main_v3) (V c main_v4) := by
  refine (dat0 V c).arrAt_eq_of_covers 8 _ (by decide +kernel) fun t _ y => ?_
  blk_simp
  rw [after0_8]
  have hi := (idx0 t).1
  have ht := (idx0 t).2
  have hy0 : (y 0).val < 256 := (y 0).isLt
  have hy1 : (y 1).val < 4096 := (y 1).isLt
  have E0 : ((((cfg0.win 8).blk t).view.emb y) 0).val = 256 * t.val + (y 0).val := by blk_simp [hi]; omega
  have E1 : ((((cfg0.win 8).blk t).view.emb y) 1).val = (y 1).val := by blk_simp [hi]
  by_cases h1 : (y 1).val < 2048
  · have ey : y = ix2 (⟨(y 0).val, hy0⟩ : Fin 256) (⟨128 * (⟨(y 1).val / 128, by omega⟩ : Fin 16).val + (⟨(y 1).val % 128, by omega⟩ : Fin 128).val, by simp only; omega⟩ : Fin 4096) := by
      funext a
      match a with
      | ⟨0, _⟩ => rfl
      | ⟨1, _⟩ => exact Fin.ext (show (y 1).val = 128 * ((y 1).val / 128) + (y 1).val % 128 by omega)
    rw [ey, heads_q]
    refine Eq.trans ?_ (qkvF_q _ _ _ _ _ _ _ _ _ ⟨256 * t.val + (y 0).val, by omega⟩ ⟨(y 1).val / 128, by omega⟩ ⟨(y 1).val % 128, by omega⟩ (by rw [← ey]; exact E0) (by rw [← ey, E1]; simp only; omega)).symm
    simp only [dotQ, blk0_0, blk0_1, blk0_4, blk0_5, blk0_6]
  · by_cases h2 : (y 1).val < 3072
    · have ey : y = ix2 (⟨(y 0).val, hy0⟩ : Fin 256) (⟨2048 + 128 * (⟨((y 1).val - 2048) / 128, by omega⟩ : Fin 8).val + (⟨(y 1).val % 128, by omega⟩ : Fin 128).val, by simp only; omega⟩ : Fin 4096) := by
        funext a
        match a with
        | ⟨0, _⟩ => rfl
        | ⟨1, _⟩ => exact Fin.ext (show (y 1).val = 2048 + 128 * (((y 1).val - 2048) / 128) + (y 1).val % 128 by omega)
      rw [ey, heads_k]
      refine Eq.trans ?_ (qkvF_k _ _ _ _ _ _ _ _ _ ⟨256 * t.val + (y 0).val, by omega⟩ ⟨((y 1).val - 2048) / 128, by omega⟩ ⟨(y 1).val % 128, by omega⟩ (by rw [← ey]; exact E0) (by rw [← ey, E1]; simp only; omega)).symm
      simp only [dotK, blk0_0, blk0_2, blk0_4, blk0_5, blk0_7]
    · have ey : y = ix2 (⟨(y 0).val, hy0⟩ : Fin 256) (⟨3072 + (⟨(y 1).val - 3072, by omega⟩ : Fin 1024).val, by simp only; omega⟩ : Fin 4096) := by
        funext a
        match a with
        | ⟨0, _⟩ => rfl
        | ⟨1, _⟩ => exact Fin.ext (show (y 1).val = 3072 + ((y 1).val - 3072) by omega)
      rw [ey, headv]
      refine Eq.trans ?_ (qkvF_v _ _ _ _ _ _ _ _ _ ⟨256 * t.val + (y 0).val, by omega⟩ ⟨(y 1).val - 3072, by omega⟩ (by rw [← ey]; exact E0) (by rw [← ey, E1]; simp only; omega)).symm
      simp only [dotK, blk0_0, blk0_3]

end Cert.KernelIdeal.Own
end
-- ==== Proof.V.Arr1.lean ====
/- The second and the third call: the attention array and the output projection they leave. -/
module

public import proofs.«01_k».proof.Proof.V.KOut
public import proofs.«01_k».proof.Proof.V.QkvVal
public import proofs.«01_k».proof.Proof.KI.Run
public import proofs.«01_k».proof.Proof.V.Spec
public import Idealize.ShloMosaic.Lib.Pipeline.ValueKit

@[expose] public section

set_option maxRecDepth 16384

noncomputable section

namespace Cert.KernelIdeal.Own

open Cert.KernelIdeal Cert.KernelIdeal.Gen
open Cert.Attn
open Idealize.ShloMosaic.Pipeline (Dat)
open Idealize.ShloMosaic Idealize.ShloMosaic.TcCoe Idealize.SL.Sem

variable (V : (c : Dev nD) → (b : Ref sig .tc) → Buf (Elt Ideal) ((c : Thread nD τ).loc b)) (c : Dev nD)

theorem idx2 : ∀ t : Fin cfg2.N, (win2_0.index t = ![t.val, 0] ∧ win2_1.index t = ![0, 0] ∧ win2_2.index t = ![t.val, 0]) ∧ t.val < 4 :=
  (by decide +kernel : ∀ t : Fin grid2.N, _)

theorem idx1 : ∀ t : Fin cfg1.N, (win1_0.index t = ![(grid1.coords t 1).val, (grid1.coords t 0).val] ∧ win1_1.index t = ![0, 8 + (grid1.coords t 0).val] ∧ win1_2.index t = ![0, 12 + (grid1.coords t 0).val]
    ∧ win1_3.index t = ![(grid1.coords t 1).val, (grid1.coords t 0).val]) ∧ (grid1.coords t 0).val < 4 ∧ (grid1.coords t 1).val < 4 :=
  (by decide +kernel : ∀ t : Fin grid1.N, _)

theorem blk2_0 (t : Fin cfg2.N) (r : Fin 512) (e : Fin 2048) :
    iblk2 V c 0 t (ix2 r e) = V c main_v6 (ix2 ⟨512 * t.val + r.val, by have := (idx2 t).2; omega⟩ e) := by
  have hi := (idx2 t).1
  blk_ext [iblk2, hi]
theorem blk2_1 (t : Fin cfg2.N) : iblk2 V c 1 t = V c main_arg6 := by
  have hi := (idx2 t).1
  blk_ext! [iblk2, hi]

def mulF (A B : FVec Ideal S2048x2048 .f32) : FVec Ideal S2048x2048 .f32 := fun y =>
  ∑ e : Fin 2048, A (ix2 ⟨(y 0).val, (y 0).isLt⟩ e) * B (ix2 e ⟨(y 1).val, (y 1).isLt⟩)

theorem ldm0 (x : Vec Ideal S512x2048 .f32) : View.ld x r2_0 = x := View.ld_unit_lit' _ _ (by decide)
theorem ldm1 (x : Vec Ideal S2048x2048 .f32) : View.ld x r2_1 = x := View.ld_unit_lit' _ _ (by decide)
theorem canonm (x : Vec Ideal S512x2048 .f32) : View.canon (Val := Elt Ideal) [⟨r2_0, x⟩] = x := View.canon_cons_unit_lit' _ _ _ (by decide)

theorem out2_at (x0 : Vec Ideal S512x2048 .f32) (x1 : Vec Ideal S2048x2048 .f32) (r : Fin 512) (d : Fin 2048) :
    out2_2 (F := Ideal) x0 x1 (ix2 r d) = ∑ e : Fin 2048, x0 (ix2 r e) * x1 (ix2 e d) := by
  unfold out2_2
  simp only [canonm, ldm0, ldm1]
  pointwise [k2_pay1]

theorem final2 : (dat2 V c).arrAt 2 cfg2.N = mulF (V c main_v6) (V c main_arg6) := by
  refine (dat2 V c).arrAt_eq_of_covers 2 _ (by decide +kernel) fun t _ y => ?_
  blk_simp
  rw [after2_2]
  have hi := (idx2 t).1
  have ht := (idx2 t).2
  have hy0 : (y 0).val < 512 := (y 0).isLt
  have hy1 : (y 1).val < 2048 := (y 1).isLt
  have E0 : ((((cfg2.win 2).blk t).view.emb y) 0).val = 512 * t.val + (y 0).val := by blk_simp [hi]; omega
  have E1 : ((((cfg2.win 2).blk t).view.emb y) 1).val = (y 1).val := by blk_simp [hi]
  have ey : y = ix2 (⟨(y 0).val, hy0⟩ : Fin 512) (⟨(y 1).val, hy1⟩ : Fin 2048) := by
    funext a
    match a with
    | ⟨0, _⟩ => rfl
    | ⟨1, _⟩ => rfl
  rw [ey, out2_at, ← ey]
  unfold mulF
  simp only [blk2_0, blk2_1, E0, E1]

theorem blk1_0 (t : Fin cfg1.N) (r e : Fin 512) :
    iblk1 V c 0 t (ix2 r e) = V c main_v5 (ix2 ⟨512 * (grid1.coords t 1).val + r.val, by have := (idx1 t).2; omega⟩ ⟨512 * (grid1.coords t 0).val + e.val, by have := (idx1 t).2; omega⟩) := by
  have hi := (idx1 t).1
  blk_ext [iblk1, hi]
theorem blk1_1 (t : Fin cfg1.N) (r : Fin 2048) (e : Fin 256) :
    iblk1 V c 1 t (ix2 r e) = V c main_v5 (ix2 r ⟨2048 + 256 * (grid1.coords t 0).val + e.val, by have := (idx1 t).2; omega⟩) := by
  have hi := (idx1 t).1
  blk_ext [iblk1, hi]
theorem blk1_2 (t : Fin cfg1.N) (r : Fin 2048) (e : Fin 256) :
    iblk1 V c 2 t (ix2 r e) = V c main_v5 (ix2 r ⟨3072 + 256 * (grid1.coords t 0).val + e.val, by have := (idx1 t).2; omega⟩) := by
  have hi := (idx1 t).1
  blk_ext [iblk1, hi]

/-- The value column `d` of the joint array, by row number. -/
def vG (Q : FVec Ideal S2048x4096 .f32) (d : ℕ) (u : ℕ) : EReal :=
  if h : u < 2048 ∧ d < 1024 then Q (ix2 ⟨u, h.1⟩ ⟨3072 + d, by omega⟩) else 0

/-- Block-sparse attention over all heads: column `128 h + d` is head `h`. -/
def attF (Q : FVec Ideal S2048x4096 .f32) (Sc : ℕ → ℕ → ℕ → ℝ) : FVec Ideal S2048x2048 .f32 := fun y =>
  outN (Sc (2 * ((y 1).val / 256))) (Sc (2 * ((y 1).val / 256) + 1)) (Sc ((y 1).val / 128)) (vG Q (128 * ((y 1).val / 256) + (y 1).val % 128)) (y 0).val

/-- `Sc` holds the scaled scores of every head. -/
def HasScores (Q : FVec Ideal S2048x4096 .f32) (Sc : ℕ → ℕ → ℕ → ℝ) : Prop := ∀ (h : Fin 16) (t u : Fin 2048),
  (∑ d : Fin 128, Q (ix2 t ⟨128 * h.val + d.val, by omega⟩) * Q (ix2 u ⟨2048 + 128 * (h.val / 2) + d.val, by omega⟩)) * SCALE = (Sc h.val t.val u.val : EReal)

theorem scores_blk (Sc : ℕ → ℕ → ℕ → ℝ) (hS : HasScores (V c main_v5) Sc) (t : Fin cfg1.N) (a : ℕ) (ha : a < 4) (h1 : 128 * a ≤ 384) (h2 : 128 * (a / 2) ≤ 128) :
    Scores (grid1.coords t) (iblk1 V c 0 t) (iblk1 V c 1 t) (128 * a) (128 * (a / 2)) h1 h2 (Sc (4 * (grid1.coords t 0).val + a)) := by
  intro r u
  have hi := (idx1 t).2
  have := hS ⟨4 * (grid1.coords t 0).val + a, by omega⟩ ⟨512 * (grid1.coords t 1).val + r.val, by omega⟩ u
  rw [← this]
  refine congrArg (fun z : EReal => z * SCALE) (Finset.sum_congr rfl fun d _ => ?_)
  rw [blk1_0, blk1_1]
  congr 3 <;> apply Fin.ext <;> simp only <;> omega

theorem vcol_blk (t : Fin cfg1.N) (p : ℕ) (hp : p < 2) (d : Fin 128) :
    vcol (iblk1 V c 2 t) ⟨128 * p + d.val, by omega⟩ = vG (V c main_v5) (128 * (2 * (grid1.coords t 0).val + p) + d.val) := by
  have hi := (idx1 t).2
  funext u
  unfold vcol vG
  by_cases h : u < 2048
  · rw [dif_pos h, dif_pos ⟨h, by omega⟩, blk1_2]
    congr 2
    apply Fin.ext; simp only; omega
  · rw [dif_neg h, dif_neg (fun hh => h hh.1)]

theorem final1 (Sc : ℕ → ℕ → ℕ → ℝ) (hS : HasScores (V c main_v5) Sc) : (dat1 V c).arrAt 3 cfg1.N = attF (V c main_v5) Sc := by
  refine (dat1 V c).arrAt_eq_of_covers 3 _ (by decide +kernel) fun t _ y => ?_
  blk_simp
  rw [after1_3]
  have hi := (idx1 t).1
  have ht := (idx1 t).2
  have hy0 : (y 0).val < 512 := (y 0).isLt
  have hy1 : (y 1).val < 512 := (y 1).isLt
  have E0 : ((((cfg1.win 3).blk t).view.emb y) 0).val = 512 * (grid1.coords t 1).val + (y 0).val := by blk_simp [hi]; omega
  have E1 : ((((cfg1.win 3).blk t).view.emb y) 1).val = 512 * (grid1.coords t 0).val + (y 1).val := by blk_simp [hi]; omega
  have s0 := scores_blk V c Sc hS t 0 (by omega) (by omega) (by omega)
  have s1 := scores_blk V c Sc hS t 1 (by omega) (by omega) (by omega)
  have s2 := scores_blk V c Sc hS t 2 (by omega) (by omega) (by omega)
  have s3 := scores_blk V c Sc hS t 3 (by omega) (by omega) (by omega)
  have key := seerOut_is (grid1.coords t) (iblk1 V c 0 t) (iblk1 V c 1 t) (iblk1 V c 2 t) _ _ _ _ s0 s1 s2 s3 ⟨(y 0).val, hy0⟩ ⟨(y 1).val % 128, by omega⟩
  have v0 := vcol_blk V c t 0 (by omega) ⟨(y 1).val % 128, by omega⟩
  have v1 := vcol_blk V c t 1 (by omega) ⟨(y 1).val % 128, by omega⟩
  simp only [Nat.mul_zero, Nat.mul_one] at v0 v1
  simp only [v0, v1] at key
  unfold attF
  simp only [E0, E1]
  have ey : ∀ k (hk : (y 1).val = k) (hk' : k < 512), y = ix2 (⟨(y 0).val, hy0⟩ : Fin 512) (⟨k, hk'⟩ : Fin 512) := by
    intro k hk hk'
    funext a
    match a with
    | ⟨0, _⟩ => rfl
    | ⟨1, _⟩ => exact Fin.ext hk
  obtain ⟨k0, k1, k2, k3⟩ := key
  have em : (512 * (grid1.coords t 0).val + (y 1).val) % 128 = (y 1).val % 128 := by omega
  rw [em]
  rcases (by omega : (y 1).val / 128 = 0 ∨ (y 1).val / 128 = 1 ∨ (y 1).val / 128 = 2 ∨ (y 1).val / 128 = 3) with hq | hq | hq | hq
  · rw [show (512 * (grid1.coords t 0).val + (y 1).val) / 128 = 4 * (grid1.coords t 0).val + 0 by omega, show (512 * (grid1.coords t 0).val + (y 1).val) / 256 = 2 * (grid1.coords t 0).val + 0 by omega]
    rw [show 2 * (2 * (grid1.coords t 0).val + 0) = 4 * (grid1.coords t 0).val + 0 by omega]
    exact (congrArg _ (ey ((y 1).val % 128) (by omega) (by omega))).trans k0
  · rw [show (512 * (grid1.coords t 0).val + (y 1).val) / 128 = 4 * (grid1.coords t 0).val + 1 by omega, show (512 * (grid1.coords t 0).val + (y 1).val) / 256 = 2 * (grid1.coords t 0).val + 0 by omega]
    rw [show 2 * (2 * (grid1.coords t 0).val + 0) = 4 * (grid1.coords t 0).val + 0 by omega]
    exact (congrArg _ (ey (128 + (y 1).val % 128) (by omega) (by omega))).trans k1
  · rw [show (512 * (grid1.coords t 0).val + (y 1).val) / 128 = 4 * (grid1.coords t 0).val + 2 by omega, show (512 * (grid1.coords t 0).val + (y 1).val) / 256 = 2 * (grid1.coords t 0).val + 1 by omega]
    rw [show 2 * (2 * (grid1.coords t 0).val + 1) = 4 * (grid1.coords t 0).val + 2 by omega]
    exact (congrArg _ (ey (256 + (y 1).val % 128) (by omega) (by omega))).trans k2
  · rw [show (512 * (grid1.coords t 0).val + (y 1).val) / 128 = 4 * (grid1.coords t 0).val + 3 by omega, show (512 * (grid1.coords t 0).val + (y 1).val) / 256 = 2 * (grid1.coords t 0).val + 1 by omega]
    rw [show 2 * (2 * (grid1.coords t 0).val + 1) = 4 * (grid1.coords t 0).val + 2 by omega]
    exact (congrArg _ (ey (384 + (y 1).val % 128) (by omega) (by omega))).trans k3

end Cert.KernelIdeal.Own
end
-- ==== Proof.V.KFin.lean ====
/- The result of the whole kernel as a function of its arguments. -/
module

public import proofs.«01_k».proof.Proof.V.Arr0
public import proofs.«01_k».proof.Proof.V.Arr1
public import Idealize.ShloMosaic.Lib.Claim
public import proofs.«01_k».proof.Proof.KI.Run
public import proofs.«01_k».proof.Proof.V.Spec
public import Idealize.ShloMosaic.Lib.Pipeline.ValueKit

@[expose] public section

set_option maxRecDepth 16384

noncomputable section

namespace Cert.KernelIdeal.Own

open Cert.KernelIdeal Cert.KernelIdeal.Gen
open Cert.Attn
open Idealize.ShloMosaic Idealize.ShloMosaic.TcCoe Idealize.SL.Sem

variable (m : (ℓ : Loc nD τ sig) → Buf (Elt Ideal) ℓ) (ρ : Dev nD → PrngReg) (c : Dev nD)

def flatX (A : FVec Ideal S1x2048x2048 .f32) : FVec Ideal S2048x2048 .f32 := fun y => A (ix3 0 ⟨(y 0).val, (y 0).isLt⟩ ⟨(y 1).val, (y 1).isLt⟩)
def flatC (A : FVec Ideal S1x2048x128 .f32) : FVec Ideal S2048x128 .f32 := fun y => A (ix3 0 ⟨(y 0).val, (y 0).isLt⟩ ⟨(y 1).val, (y 1).isLt⟩)
def flatW (A : FVec Ideal S128 .f32) : FVec Ideal S1x128 .f32 := fun y => A (ix1 ⟨(y 1).val, (y 1).isLt⟩)

theorem flatX_eq (A : FVec Ideal S1x2048x2048 .f32) : shapeCast S2048x2048 A shapeCasts_S1x2048x2048_S2048x2048 = flatX A := by
  funext y
  pointwise [flatX]
theorem flatC_eq (A : FVec Ideal S1x2048x128 .f32) : shapeCast S2048x128 A shapeCasts_S1x2048x128_S2048x128 = flatC A := by
  funext y
  pointwise [flatC]
theorem flatW_eq (A : FVec Ideal S128 .f32) : shapeCast S1x128 A shapeCasts_S128_S1x128 = flatW A := by
  funext y
  pointwise [flatW]

/-- The joint array of queries, keys and values as a function of the arguments. -/
def qkvA (A0 : FVec Ideal S1x2048x2048 .f32) (A1 A2 : FVec Ideal S1x2048x128 .f32) (A3 : FVec Ideal S2048x2048 .f32) (A4 A5 : FVec Ideal S2048x1024 .f32)
    (A7 A8 : FVec Ideal S128 .f32) : FVec Ideal S2048x4096 .f32 :=
  qkvF (flatX A0) A3 A4 A5 (flatC A1) (flatC A2) (flatW A7) (flatW A8)

theorem V1_v0 : V1 m ρ c main_v0 = flatX (m ((c : Thread nD τ).loc main_arg0)) := by
  have : V1 m ρ c main_v0 = shapeCast _ (m ((c : Thread nD τ).loc main_arg0)) shapeCasts_S1x2048x2048_S2048x2048 := by
    show StableHlo.after hostOps0 _ _ = _
    after_results
    try rfl
  exact this.trans (flatX_eq _)
theorem V1_v1 : V1 m ρ c main_v1 = flatC (m ((c : Thread nD τ).loc main_arg1)) := by
  have : V1 m ρ c main_v1 = shapeCast _ (m ((c : Thread nD τ).loc main_arg1)) shapeCasts_S1x2048x128_S2048x128 := by
    show StableHlo.after hostOps0 _ _ = _
    after_results
    try rfl
  exact this.trans (flatC_eq _)
theorem V1_v2 : V1 m ρ c main_v2 = flatC (m ((c : Thread nD τ).loc main_arg2)) := by
  have : V1 m ρ c main_v2 = shapeCast _ (m ((c : Thread nD τ).loc main_arg2)) shapeCasts_S1x2048x128_S2048x128 := by
    show StableHlo.after hostOps0 _ _ = _
    after_results
    try rfl
  exact this.trans (flatC_eq _)
theorem V1_v3 : V1 m ρ c main_v3 = flatW (m ((c : Thread nD τ).loc main_arg7)) := by
  have : V1 m ρ c main_v3 = shapeCast _ (m ((c : Thread nD τ).loc main_arg7)) shapeCasts_S128_S1x128 := by
    show StableHlo.after hostOps0 _ _ = _
    after_results
    try rfl
  exact this.trans (flatW_eq _)
theorem V1_v4 : V1 m ρ c main_v4 = flatW (m ((c : Thread nD τ).loc main_arg8)) := by
  have : V1 m ρ c main_v4 = shapeCast _ (m ((c : Thread nD τ).loc main_arg8)) shapeCasts_S128_S1x128 := by
    show StableHlo.after hostOps0 _ _ = _
    after_results
    try rfl
  exact this.trans (flatW_eq _)

theorem V2_v5 : V2 m ρ c main_v5 = qkvA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg7)) (m ((c : Thread nD τ).loc main_arg8)) := by
  refine (W2_arr m ρ c 8).trans ((final0 (V1 m ρ) c).trans ?_)
  unfold qkvA
  rw [V1_v0, V1_v1, V1_v2, V1_v3, V1_v4]
  have e3 : V1 m ρ c main_arg3 = m ((c : Thread nD τ).loc main_arg3) := W1_args m ρ c main_arg3 (by decide)
  have e4 : V1 m ρ c main_arg4 = m ((c : Thread nD τ).loc main_arg4) := W1_args m ρ c main_arg4 (by decide)
  have e5 : V1 m ρ c main_arg5 = m ((c : Thread nD τ).loc main_arg5) := W1_args m ρ c main_arg5 (by decide)
  rw [e3, e4, e5]

/-- The kernel's result. -/
def kRes (Q : FVec Ideal S2048x4096 .f32) (Sc : ℕ → ℕ → ℕ → ℝ) (A6 : FVec Ideal S2048x2048 .f32) : FVec Ideal S1x2048x2048 .f32 := fun y =>
  mulF (attF Q Sc) A6 (ix2 ⟨(y 1).val, (y 1).isLt⟩ ⟨(y 2).val, (y 2).isLt⟩)

theorem W5_v8 (Sc : ℕ → ℕ → ℕ → ℝ) (hS : HasScores (V2 m ρ c main_v5) Sc) :
    W5 m ρ c (Proc.devRef .tc main_v8) = kRes (V2 m ρ c main_v5) Sc (m ((c : Thread nD τ).loc main_arg6)) := by
  have e6 : V3 m ρ c main_v6 = attF (V2 m ρ c main_v5) Sc := (W3_arr m ρ c 3).trans (final1 (V2 m ρ) c Sc hS)
  have ea : V3 m ρ c main_arg6 = m ((c : Thread nD τ).loc main_arg6) := W3_args m ρ c main_arg6 (by decide)
  have e7 : V4 m ρ c main_v7 = mulF (attF (V2 m ρ c main_v5) Sc) (m ((c : Thread nD τ).loc main_arg6)) := by
    refine (W4_arr m ρ c 2).trans ((final2 (V3 m ρ) c).trans ?_)
    rw [e6, ea]
  have : W5 m ρ c (Proc.devRef .tc main_v8) = broadcastInDim S1x2048x2048 ![1, 2] bcast_S2048x2048_S1x2048x2048_1_2 (V4 m ρ c main_v7) := by
    show StableHlo.after hostOps3 _ _ = _
    after_results
    try rfl
  rw [this, e7]
  unfold kRes
  generalize mulF _ _ = Z
  funext y
  pointwise []

end Cert.KernelIdeal.Own
end
-- ==== Proof.V.Ref1.lean ====
/- The reference: projections, norms, rotary embedding, scores; which of them are real. -/
module

public import proofs.«01_k».proof.Proof.V.KFin
public import proofs.«01_k».proof.Proof.Gen.ReferenceIdeal.Run
public import Idealize.ShloMosaic.Lib.Pointwise
public import Idealize.ShloMosaic.PureOps.Ideal

@[expose] public section

set_option Elab.async false

noncomputable section

namespace Cert.ReferenceIdeal.Own

open Cert.ReferenceIdeal Cert.ReferenceIdeal.Gen Cert.ReferenceIdeal.Value Idealize.ShloMosaic Idealize.ShloMosaic.TcCoe Idealize.SL.Sem Idealize.ShloMosaic.StableHlo
open Idealize.ShloMosaic (ix1 ix2 ix3 ix4)
open Cert.Attn

variable (V0 : Valuation τ sig (Elt Ideal))

abbrev a0 : FVec Ideal S1x2048x2048 .f32 := V0 (Proc.devRef .tc main_arg0)
abbrev a1 : FVec Ideal S1x2048x128 .f32 := V0 (Proc.devRef .tc main_arg1)
abbrev a2 : FVec Ideal S1x2048x128 .f32 := V0 (Proc.devRef .tc main_arg2)
abbrev a3 : FVec Ideal S2048x2048 .f32 := V0 (Proc.devRef .tc main_arg3)
abbrev a4 : FVec Ideal S2048x1024 .f32 := V0 (Proc.devRef .tc main_arg4)
abbrev a5 : FVec Ideal S2048x1024 .f32 := V0 (Proc.devRef .tc main_arg5)
abbrev a6 : FVec Ideal S2048x2048 .f32 := V0 (Proc.devRef .tc main_arg6)
abbrev a7 : FVec Ideal S128 .f32 := V0 (Proc.devRef .tc main_arg7)
abbrev a8 : FVec Ideal S128 .f32 := V0 (Proc.devRef .tc main_arg8)

def yq (t : Fin 2048) (h : Fin 16) (d : Fin 128) : EReal := ∑ e : Fin 2048, a0 V0 (ix3 0 t e) * a3 V0 (ix2 e ⟨128 * h.val + d.val, by omega⟩)
def yk (t : Fin 2048) (h : Fin 8) (d : Fin 128) : EReal := ∑ e : Fin 2048, a0 V0 (ix3 0 t e) * a4 V0 (ix2 e ⟨128 * h.val + d.val, by omega⟩)

theorem v1_at (t : Fin 2048) (h : Fin 16) (d : Fin 128) : res_main_v1 V0 (ix4 0 t h d) = yq V0 t h d := by
  unfold yq
  have e : (⟨h.val * 128 + d.val, by omega⟩ : Fin 2048) = ⟨128 * h.val + d.val, by omega⟩ := Fin.ext (by simp only; omega)
  pointwise [res_main_v1]
  simp only [e]
theorem v3_at (t : Fin 2048) (h : Fin 8) (d : Fin 128) : res_main_v3 V0 (ix4 0 t h d) = yk V0 t h d := by
  unfold yk
  have e : (⟨h.val * 128 + d.val, by omega⟩ : Fin 1024) = ⟨128 * h.val + d.val, by omega⟩ := Fin.ext (by simp only; omega)
  pointwise [res_main_v3]
  simp only [e]

theorem v18_at (t : Fin 2048) (h : Fin 16) (d : Fin 128) : res_main_v18 V0 (ix4 0 t h d) = Cert.KernelIdeal.Own.nrmN (yq V0 t h) (fun d => a7 V0 (ix1 d)) d := by
  unfold Cert.KernelIdeal.Own.nrmN Cert.KernelIdeal.Own.varN
  simp only [← v1_at]
  generalize hX : (res_main_v1 V0 : FVec Ideal S1x2048x16x128 .f32) = X
  pointwise [res_main_v18, hX]
  exact mul_comm (G := EReal) _ _
theorem v31_at (t : Fin 2048) (h : Fin 8) (d : Fin 128) : res_main_v31 V0 (ix4 0 t h d) = Cert.KernelIdeal.Own.nrmN (yk V0 t h) (fun d => a8 V0 (ix1 d)) d := by
  unfold Cert.KernelIdeal.Own.nrmN Cert.KernelIdeal.Own.varN
  simp only [← v3_at]
  generalize hX : (res_main_v3 V0 : FVec Ideal S1x2048x8x128 .f32) = X
  pointwise [res_main_v31, hX]
  exact mul_comm (G := EReal) _ _

def rq (t : Fin 2048) (h : Fin 16) (d : Fin 128) : EReal :=
  Cert.KernelIdeal.Own.ropeN (yq V0 t h) (fun d => a7 V0 (ix1 d)) (fun d => a1 V0 (ix3 0 t d)) (fun d => a2 V0 (ix3 0 t d)) d
def rk (t : Fin 2048) (h : Fin 8) (d : Fin 128) : EReal :=
  Cert.KernelIdeal.Own.ropeN (yk V0 t h) (fun d => a8 V0 (ix1 d)) (fun d => a1 V0 (ix3 0 t d)) (fun d => a2 V0 (ix3 0 t d)) d

theorem v61_at (h : Fin 16) (t u : Fin 2048) : res_main_v61 V0 (ix4 0 h t u) = (∑ d : Fin 128, rq V0 t h d * rk V0 u ⟨h.val / 2, by omega⟩ d) * Cert.KernelIdeal.Own.SCALE := by
  unfold rq rk Cert.KernelIdeal.Own.ropeN
  simp only [← v18_at, ← v31_at]
  generalize hX : (res_main_v18 V0 : FVec Ideal S1x2048x16x128 .f32) = X
  generalize hY : (res_main_v31 V0 : FVec Ideal S1x2048x8x128 .f32) = Y
  pointwise [res_main_v61, res_main_v32, res_main_v33, hX, hY]
  simp only [zero_sub]

/-- The joint array of queries, keys and values of these arguments. -/
abbrev Qj : FVec Ideal Cert.KernelIdeal.S2048x4096 .f32 := Cert.KernelIdeal.Own.qkvA (a0 V0) (a1 V0) (a2 V0) (a3 V0) (a4 V0) (a5 V0) (a7 V0) (a8 V0)

theorem Qj_q (t : Fin 2048) (h : Fin 16) (d : Fin 128) (c : Fin 4096) (hc : c.val = 128 * h.val + d.val) : Qj V0 (ix2 t c) = rq V0 t h d :=
  (Cert.KernelIdeal.Own.qkvF_q _ _ _ _ _ _ _ _ (ix2 t c) t h d rfl hc).trans rfl
theorem Qj_k (t : Fin 2048) (h : Fin 8) (d : Fin 128) (c : Fin 4096) (hc : c.val = 2048 + 128 * h.val + d.val) : Qj V0 (ix2 t c) = rk V0 t h d :=
  (Cert.KernelIdeal.Own.qkvF_k _ _ _ _ _ _ _ _ (ix2 t c) t h d rfl hc).trans rfl

/-- The value entries. -/
def rv (u : Fin 2048) (c : Fin 1024) : EReal := ∑ e : Fin 2048, a0 V0 (ix3 0 u e) * a5 V0 (ix2 e c)
theorem Qj_v (t : Fin 2048) (d : Fin 1024) (c : Fin 4096) (hc : c.val = 3072 + d.val) : Qj V0 (ix2 t c) = rv V0 t d :=
  (Cert.KernelIdeal.Own.qkvF_v _ _ _ _ _ _ _ _ (ix2 t c) t d rfl hc).trans rfl

/-! Which of these numbers are real. -/

def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg0 {x : EReal} (hx : IsR x) : IsR (0 - x) := by
  obtain ⟨a, rfl⟩ := hx; exact ⟨-a, by rw [zero_sub, EReal.coe_neg]⟩
theorem IsR.sum {n : ℕ} {f : Fin n → EReal} (h : ∀ i, IsR (f i)) : IsR (∑ i, f i) := by
  choose g hg using h
  exact ⟨∑ i, g i, by rw [← coe_sum]; exact Finset.sum_congr rfl fun i _ => hg i⟩

theorem ofBits_128 : Ideal.ofBits .f32 0x43000000#32 = ((128 : ℝ) : EReal) := by
  have hn : ((0x43000000#32 : BitVec 32).extractLsb' 31 1 == 1#1) = false := by decide
  have hx : ((0x43000000#32 : BitVec 32).extractLsb' 23 8).toNat = 134 := by decide
  have hf : ((0x43000000#32 : BitVec 32).extractLsb' 0 23).toNat = 0 := by decide
  simp only [Ideal.ofBits, Ideal.ieee, Nat.reduceAdd, hn, hx, hf]
  norm_num
theorem ofBits_eps : ∃ e : ℝ, 0 < e ∧ Ideal.ofBits .f32 0x358637BD#32 = (e : EReal) := by
  have hn : ((0x358637BD#32 : BitVec 32).extractLsb' 31 1 == 1#1) = false := by decide
  have hx : ((0x358637BD#32 : BitVec 32).extractLsb' 23 8).toNat = 107 := by decide
  have hf : ((0x358637BD#32 : BitVec 32).extractLsb' 0 23).toNat = 407485 := by decide
  simp only [Ideal.ofBits, Ideal.ieee, Nat.reduceAdd, hn, hx, hf]
  refine ⟨_, ?_, rfl⟩
  norm_num
theorem ofBits_scale : IsR Cert.KernelIdeal.Own.SCALE := by
  have hn : ((0x3DB504F3#32 : BitVec 32).extractLsb' 31 1 == 1#1) = false := by decide
  have hx : ((0x3DB504F3#32 : BitVec 32).extractLsb' 23 8).toNat = 123 := by decide
  have hf : ((0x3DB504F3#32 : BitVec 32).extractLsb' 0 23).toNat = 3474675 := by decide
  unfold Cert.KernelIdeal.Own.SCALE
  simp only [Ideal.ofBits, Ideal.ieee, Nat.reduceAdd, hn, hx, hf]
  exact ⟨_, rfl⟩

theorem rsqrt_real (Y : Fin 128 → EReal) (hY : ∀ d, IsR (Y d)) : IsR (Ideal.rsqrt (Cert.KernelIdeal.Own.varN Y)) := by
  choose g hg using hY
  obtain ⟨e, he, hee⟩ := ofBits_eps
  have hs : ∑ x, Y x * Y x = ((∑ x, g x * g x : ℝ) : EReal) := by
    rw [← coe_sum]; exact Finset.sum_congr rfl fun i _ => by rw [hg i, EReal.coe_mul]
  have hnn : 0 ≤ ∑ x, g x * g x := Finset.sum_nonneg fun i _ => mul_self_nonneg _
  unfold Cert.KernelIdeal.Own.varN
  rw [hs, ofBits_128, hee, div_real _ _ (by norm_num), ← EReal.coe_add]
  have hp : 0 < (∑ x, g x * g x) / 128 + e := by positivity
  refine ⟨(Real.sqrt ((∑ x, g x * g x) / 128 + e))⁻¹, ?_⟩
  show (if (∑ x, g x * g x) / 128 + e < 0 then (⊥ : EReal) else if (∑ x, g x * g x) / 128 + e = 0 then ⊤ else _) = _
  rw [if_neg (not_lt.2 hp.le), if_neg hp.ne']

theorem ropeN_real (Y w cs sn : Fin 128 → EReal) (hY : ∀ d, IsR (Y d)) (hw : ∀ d, IsR (w d)) (hc : ∀ d, IsR (cs d)) (hs : ∀ d, IsR (sn d)) (d : Fin 128) :
    IsR (Cert.KernelIdeal.Own.ropeN Y w cs sn d) := by
  have hn : ∀ d, IsR (Cert.KernelIdeal.Own.nrmN Y w d) := fun d => ((hY d).mul (rsqrt_real Y hY)).mul (hw d)
  unfold Cert.KernelIdeal.Own.ropeN
  refine ((hn d).mul (hc d)).add (IsR.mul ?_ (hs d))
  split
  · exact (hn _).neg0
  · exact hn _

/-- Every number the scores are made of is real. -/
structure AllReal : Prop where
  h0 : ∀ i, IsR (a0 V0 i)
  h1 : ∀ i, IsR (a1 V0 i)
  h2 : ∀ i, IsR (a2 V0 i)
  h3 : ∀ i, IsR (a3 V0 i)
  h4 : ∀ i, IsR (a4 V0 i)
  h7 : ∀ i, IsR (a7 V0 i)
  h8 : ∀ i, IsR (a8 V0 i)

variable (hR : AllReal V0)
include hR

theorem rq_real (t : Fin 2048) (h : Fin 16) (d : Fin 128) : IsR (rq V0 t h d) :=
  ropeN_real _ _ _ _ (fun _ => IsR.sum fun _ => (hR.h0 _).mul (hR.h3 _)) (fun _ => hR.h7 _) (fun _ => hR.h1 _) (fun _ => hR.h2 _) d
theorem rk_real (t : Fin 2048) (h : Fin 8) (d : Fin 128) : IsR (rk V0 t h d) :=
  ropeN_real _ _ _ _ (fun _ => IsR.sum fun _ => (hR.h0 _).mul (hR.h4 _)) (fun _ => hR.h8 _) (fun _ => hR.h1 _) (fun _ => hR.h2 _) d
theorem v61_real (h : Fin 16) (t u : Fin 2048) : IsR (res_main_v61 V0 (ix4 0 h t u)) := by
  rw [v61_at]
  exact (IsR.sum fun d => (rq_real V0 hR t h d).mul (rk_real V0 hR u _ d)).mul ofBits_scale
omit hR

/-- The scaled score of query `t` against key `u` for query head `h`. -/
def Sr (h t u : ℕ) : ℝ := if hh : h < 16 ∧ t < 2048 ∧ u < 2048 then (res_main_v61 V0 (ix4 0 ⟨h, hh.1⟩ ⟨t, hh.2.1⟩ ⟨u, hh.2.2⟩) : EReal).toReal else 0
include hR

theorem v61_Sr (h : Fin 16) (t u : Fin 2048) : res_main_v61 V0 (ix4 0 h t u) = (Sr V0 h.val t.val u.val : EReal) := by
  unfold Sr
  rw [dif_pos ⟨h.isLt, t.isLt, u.isLt⟩]
  obtain ⟨r, hr⟩ := v61_real V0 hR h t u
  rw [hr, EReal.toReal_coe]

theorem hasScores : Cert.KernelIdeal.Own.HasScores (Qj V0) (Sr V0) := by
  intro h t u
  rw [← v61_Sr V0 hR h t u, v61_at]
  refine congrArg (fun z : EReal => z * Cert.KernelIdeal.Own.SCALE) (Finset.sum_congr rfl fun d _ => ?_)
  rw [Qj_q V0 t h d _ rfl, Qj_k V0 u ⟨h.val / 2, by omega⟩ d _ rfl]

end Cert.ReferenceIdeal.Own
end
-- ==== Proof.V.Pre.lean ====
/- What the precondition says: the seven arguments the scores are made of hold real numbers. -/
module

public import proofs.«01_k».proof.Defs
public import proofs.«01_k».proof.Proof.V.Frames
public import proofs.«01_k».proof.Proof.V.Ref1

@[expose] public section

set_option maxRecDepth 16384

noncomputable section

namespace Cert.Own

open Idealize.ShloMosaic Idealize.SL.Sem
open Cert.ReferenceIdeal.Own (IsR)
open Cert.Pre_finite_scores (S_)

theorem bit_and_eq : ∀ c d : BitVec 1, IntOp.andi c d = 1#1 ↔ c = 1#1 ∧ d = 1#1 := by decide

theorem fold_and {ι : Type} (s : Finset ι) (f : ι → BitVec 1) (h : s.fold IntOp.andi 1#1 f = 1#1) (i : ι) (hi : i ∈ s) : f i = 1#1 := by
  classical
  induction s using Finset.induction_on with
  | empty => exact absurd hi (Finset.notMem_empty i)
  | insert a s ha ih =>
    rw [Finset.fold_insert ha, bit_and_eq] at h
    rcases Finset.mem_insert.1 hi with rfl | hi
    · exact h.1
    · exact ih h.2 hi

theorem ofBits_inf : Ideal.ofBits .f32 0x7F800000#32 = (⊤ : EReal) := by
  have hn : ((0x7F800000#32 : BitVec 32).extractLsb' 31 1 == 1#1) = false := by decide
  have hx : ((0x7F800000#32 : BitVec 32).extractLsb' 23 8).toNat = 255 := by decide
  have hf : ((0x7F800000#32 : BitVec 32).extractLsb' 0 23).toNat = 0 := by decide
  simp only [Ideal.ofBits, Ideal.ieee, Nat.reduceAdd, hn, hx, hf]
  rfl

/-- A number whose absolute value is below infinity is real. -/
theorem real_of_abs (x : EReal) (h : BitVec.ofBool (decide (max x (-x) < Ideal.ofBits .f32 0x7F800000#32)) = 1#1) : IsR x := by
  rw [ofBits_inf] at h
  have h' : max x (-x) < ⊤ := by
    by_contra hc
    rw [decide_eq_false hc] at h
    exact absurd h (by decide)
  have h1 : x ≠ ⊤ := ((le_max_left _ _).trans_lt h').ne
  have h2 : x ≠ ⊥ := by
    rintro rfl
    exact absurd (((le_max_right _ _).trans_lt h').ne) (by simp)
  exact ⟨_, (EReal.coe_toReal h1 h2).symm⟩

theorem all_real {s : Shape} {axes : List (Fin s.rank)} (A : FVec Ideal s .f32) (hb : S_.BroadcastsInDim s (![] : Fin 0 → Fin s.rank)) (h : s.ReducesTo axes S_) (hu : 0 < S_.numel)
    (e : Host.reduce IntOp.andi (cmpf .olt (Host.absf A) (broadcastInDim s ![] hb (constant (F := Ideal) S_ .f32 0x7F800000#32))) (constantI S_ 1 1#1) h hu ix0 = 1#1) (i : s.Idx) : IsR (A i) := by
  rw [Host.reduce_eq_fold] at e
  have hi : i ∈ Finset.univ.filter fun i => h.drop i = ix0 := Finset.mem_filter.2 ⟨Finset.mem_univ _, funext fun a => a.elim0⟩
  exact real_of_abs _ (fold_and _ _ e i hi)

attribute [local instance] preFacts

theorem pre_real (A0 : FVec Ideal Cert.Pre_finite_scores.S1x2048x2048 .f32) (A1 A2 : FVec Ideal Cert.Pre_finite_scores.S1x2048x128 .f32) (A3 : FVec Ideal Cert.Pre_finite_scores.S2048x2048 .f32)
    (A4 A5 : FVec Ideal Cert.Pre_finite_scores.S2048x1024 .f32) (A6 : FVec Ideal Cert.Pre_finite_scores.S2048x2048 .f32) (A7 A8 : FVec Ideal Cert.Pre_finite_scores.S128 .f32)
    (e : Cert.Pre_finite_scores.fn (F := Ideal) A0 A1 A2 A3 A4 A5 A6 A7 A8 = fun _ => 1#1) :
    (∀ i, IsR (A0 i)) ∧ (∀ i, IsR (A1 i)) ∧ (∀ i, IsR (A2 i)) ∧ (∀ i, IsR (A3 i)) ∧ (∀ i, IsR (A4 i)) ∧ (∀ i, IsR (A7 i)) ∧ (∀ i, IsR (A8 i)) := by
  have e0 := congrFun e ix0
  unfold Cert.Pre_finite_scores.fn Cert.Pre_finite_scores.fn_part1 at e0
  obtain ⟨e0, r8⟩ := (bit_and_eq _ _).1 e0
  obtain ⟨e0, r7⟩ := (bit_and_eq _ _).1 e0
  obtain ⟨e0, r4⟩ := (bit_and_eq _ _).1 e0
  obtain ⟨e0, r3⟩ := (bit_and_eq _ _).1 e0
  obtain ⟨e0, r2⟩ := (bit_and_eq _ _).1 e0
  obtain ⟨r0, r1⟩ := (bit_and_eq _ _).1 e0
  exact ⟨all_real A0 _ _ _ r0, all_real A1 _ _ _ r1, all_real A2 _ _ _ r2, all_real A3 _ _ _ r3, all_real A4 _ _ _ r4, all_real A7 _ _ _ r7, all_real A8 _ _ _ r8⟩

end Cert.Own
end
-- ==== Proof.V.Top.lean ====
/- A block is among the first sixteen of a stable descending sort exactly when its rank is below sixteen. -/
module

public import proofs.«01_k».proof.Proof.V.Spec
public import Idealize.ShloMosaic.Lib.SortFacts

@[expose] public section

noncomputable section

namespace Cert.Attn

open Idealize.ShloMosaic

/-! Which positions a stable sort by decreasing value puts first. -/

section
variable {n : ℕ} (p : Fin n → EReal)

/-- Position `c` stands before position `b`: a larger value, or the same value and a lower position. -/
def prec (c b : Fin n) : Bool := decide (p b < p c ∨ (p c = p b ∧ c < b))

theorem prec_false (a b : Fin n) : prec p a b = false ↔ p a ≤ p b ∧ (p a = p b → b ≤ a) := by
  unfold prec
  rw [decide_eq_false_iff_not, not_or, not_lt, not_and, not_lt]

theorem prec_true (a b : Fin n) : prec p a b = true ↔ p b < p a ∨ (p a = p b ∧ a < b) := by
  unfold prec
  rw [decide_eq_true_iff]

theorem prec_asymm (a b : Fin n) (h : prec p a b = true) : prec p b a = false := by
  rw [prec_true] at h
  rw [prec_false]
  rcases h with h | ⟨h, h'⟩
  · exact ⟨h.le, fun e => absurd e h.ne⟩
  · exact ⟨h.ge, fun _ => h'.le⟩

theorem prec_negtrans (a b c : Fin n) (h : prec p a b = false) (h' : prec p b c = false) : prec p a c = false := by
  rw [prec_false] at *
  refine ⟨h.1.trans h'.1, fun e => ?_⟩
  have e1 : p b = p c := le_antisymm h'.1 (e ▸ h.1)
  have e2 : p a = p b := e.trans e1.symm
  exact (h'.2 e1).trans (h.2 e2)

theorem prec_total (a b : Fin n) (hne : a ≠ b) (h : prec p b a = false) : prec p a b = true := by
  rw [prec_false] at h
  rw [prec_true]
  rcases h.1.lt_or_eq with h1 | h1
  · exact Or.inl h1
  · exact Or.inr ⟨h1.symm, lt_of_le_of_ne (h.2 h1) hne⟩

theorem prec_irrefl (a : Fin n) : prec p a a = false := (prec_false p a a).2 ⟨le_rfl, fun _ => le_rfl⟩

/-- On a list of increasing positions the stable sort by value is the sort by value and position. -/
theorem stableSort_prec (R : Fin n → Fin n → Bool) (hR : ∀ k k', R k k' = decide (p k' < p k)) (l : List (Fin n)) (hl : l.Pairwise (· < ·)) :
    stableSort R l = stableSort (prec p) l := by
  induction l with
  | nil => rfl
  | cons a l ih =>
    rw [List.pairwise_cons] at hl
    unfold stableSort
    rw [ih hl.2]
    refine insertBefore_congr R (prec p) a _ fun b hb => ?_
    have hb' : b ∈ l := (perm_stableSort (prec p) l).mem_iff.mp hb
    have hab := hl.1 b hb'
    rw [hR]
    unfold prec
    refine decide_eq_decide.2 ⟨Or.inl, ?_⟩
    rintro (h | ⟨_, h⟩)
    · exact h
    · exact absurd h (not_lt.2 hab.le)

theorem sortedFrom_prec (R : Fin n → Fin n → Bool) (hR : ∀ k k', R k k' = decide (p k' < p k)) : sortedFrom R = sortedFrom (prec p) := by
  have h : sortPositions n R = sortPositions n (prec p) := stableSort_prec p R hR _ (List.pairwise_lt_finRange n)
  funext k
  unfold sortedFrom
  rw [List.get_of_eq h]
  rfl

/-- A position is among the first `m` exactly when fewer than `m` stand before it. -/
theorem first_iff (R : Fin n → Fin n → Bool) (hR : ∀ k k', R k k' = decide (p k' < p k)) (m : ℕ) (b : Fin n) :
    (∃ j : Fin n, j.val < m ∧ sortedFrom R j = b) ↔ (Finset.univ.filter fun c => prec p c b = true).card < m := by
  rw [sortedFrom_prec p R hR]
  obtain ⟨i, hi⟩ := sortedFrom_surjective (prec p) b
  have inj := sortedFrom_injective (prec p)
  have key : ∀ j, prec p (sortedFrom (prec p) j) b = true ↔ j < i := by
    intro j
    have no := fun x y h => sortedFrom_noInversion (prec p) (prec p) (prec_asymm p) (fun _ _ h => h) (prec_negtrans p) x y h
    constructor
    · intro h
      by_contra hc
      rcases (not_lt.1 hc).lt_or_eq with h1 | h1
      · have := no i j h1
        rw [hi, h] at this
        cases this
      · rw [← h1, hi, prec_irrefl] at h
        cases h
    · intro h
      refine prec_total p _ _ (fun e => h.ne (inj (e.trans hi.symm))) ?_
      rw [← hi]
      exact no j i h
  have hc : (Finset.univ.filter fun c => prec p c b = true).card = i.val := by
    have : (Finset.univ.filter fun c => prec p c b = true) = (Finset.univ.filter fun j : Fin n => j < i).image (sortedFrom (prec p)) := by
      ext c
      obtain ⟨j, rfl⟩ := sortedFrom_surjective (prec p) c
      simp only [Finset.mem_filter, Finset.mem_univ, true_and, Finset.mem_image, key]
      constructor
      · intro h; exact ⟨j, h, rfl⟩
      · rintro ⟨k, hk, e⟩
        rw [← inj e]; exact hk
    rw [this, Finset.card_image_of_injective _ inj]
    have : (Finset.univ.filter fun j : Fin n => j < i) = Finset.Iio i := by ext; simp
    rw [this, Fin.card_Iio]
  rw [hc]
  constructor
  · rintro ⟨j, hj, e⟩
    rw [← inj (e.trans hi.symm)]; exact hj
  · intro h; exact ⟨i, h, hi⟩
end

/-- Among causal blocks the sixteen first of the sort are those of rank below sixteen. -/
theorem top_iff (P : ℕ → ℝ) (a b : Fin 32) (hb : b.val ≤ a.val) (p : Fin 32 → EReal) (hp : ∀ c : Fin 32, p c = if c.val ≤ a.val then (P c.val : EReal) else ⊥)
    (R : Fin 32 → Fin 32 → Bool) (hR : ∀ k k', R k k' = decide (p k' < p k)) :
    (∃ j : Fin 32, j.val < 16 ∧ sortedFrom R j = b) ↔ rankN P a.val b.val < 16 := by
  rw [first_iff p R hR]
  have : (Finset.univ.filter fun c => prec p c b = true).card = rankN P a.val b.val := by
    unfold rankN
    rw [← Finset.card_map Fin.valEmbedding]
    congr 1
    ext c
    simp only [Finset.mem_map, Finset.mem_filter, Finset.mem_univ, true_and, Fin.valEmbedding_apply, Finset.mem_range, prec_true]
    have hpb : p b = (P b.val : EReal) := by rw [hp, if_pos hb]
    constructor
    · rintro ⟨c, h, rfl⟩
      refine ⟨c.isLt, ?_⟩
      rw [hpb, hp c] at h
      by_cases hc : c.val ≤ a.val
      · rw [if_pos hc] at h
        simp only [EReal.coe_lt_coe_iff, EReal.coe_eq_coe_iff] at h
        exact ⟨hc, h⟩
      · rw [if_neg hc] at h
        rcases h with h | ⟨h, _⟩
        · exact absurd h not_lt_bot
        · exact absurd h.symm (EReal.coe_ne_bot _)
    · rintro ⟨h32, hc, h⟩
      refine ⟨⟨c, h32⟩, ?_, rfl⟩
      rw [hpb, hp, if_pos hc]
      simp only [EReal.coe_lt_coe_iff, EReal.coe_eq_coe_iff]
      exact h
  rw [this]

end Cert.Attn
end
-- ==== Proof.V.Scat.lean ====
/- The reference: the sixteen largest by a sort, and the scatter of ones at their places. -/
module

public import proofs.«01_k».proof.Proof.V.Ref1
public import proofs.«01_k».proof.Proof.V.Top
public import Idealize.ShloMosaic.Lib.Routing.OpsSet
public import proofs.«01_k».proof.Proof.Gen.ReferenceIdeal.Run
public import Idealize.ShloMosaic.Lib.Pointwise
public import Idealize.ShloMosaic.PureOps.Ideal

@[expose] public section

set_option Elab.async false

noncomputable section

namespace Cert.ReferenceIdeal.Own

open Cert.ReferenceIdeal Cert.ReferenceIdeal.Gen Cert.ReferenceIdeal.Value Idealize.ShloMosaic Idealize.ShloMosaic.TcCoe Idealize.SL.Sem Idealize.ShloMosaic.StableHlo
open Idealize.ShloMosaic (ix1 ix2 ix3 ix4)
open Cert.Attn

variable (V0 : Valuation τ sig (Elt Ideal))

/-- The order the sort of one row of pooled weights goes by. -/
def gtB (X : FVec Ideal S1x8x32x32 .f32) (kv : Fin 8) (a : Fin 32) (k k' : Fin 32) : Bool :=
  (FloatOps.cmpfTotal (F := Ideal) .gt (X (ix4 0 kv a k)) (X (ix4 0 kv a k')) : BitVec 1) == 1#1

theorem iota_along (i : S1x8x32x32.Idx) (f : Fin (S1x8x32x32.size (⟨3, by decide⟩ : Fin 4))) : iotaInDim S1x8x32x32 32 (⟨3, by decide⟩ : Fin 4) (i.along (⟨3, by decide⟩ : Fin 4) f) = BitVec.ofNat 32 f.val := by
  show BitVec.ofNat 32 _ = _
  rfl

theorem topK_at (X : FVec Ideal S1x8x32x32 .f32) (kv : Fin 8) (a : Fin 32) (j : Fin 16) :
    (Host.topK S1x8x32x16 3 (FloatOps.cmpfTotal (F := Ideal) (φ := .f32) .gt) X sliceFits_S1x8x32x32_S1x8x32x16).2 (ix4 0 kv a j)
      = BitVec.ofNat 32 (sortedFrom (gtB X kv a) ⟨j.val, by omega⟩).val := by
  have al : ∀ (i : S1x8x32x32.Idx) (k : Fin 32), i = ix4 0 kv a ⟨j.val, by omega⟩ → i.along (3 : Fin 4) k = ix4 0 kv a k := by
    rintro i k rfl
    funext x
    match x with
    | ⟨0, _⟩ => rfl
    | ⟨1, _⟩ => rfl
    | ⟨2, _⟩ => rfl
    | ⟨3, _⟩ => rfl
  have e : (Host.topK S1x8x32x16 3 (FloatOps.cmpfTotal (F := Ideal) (φ := .f32) .gt) X sliceFits_S1x8x32x32_S1x8x32x16).2 (ix4 0 kv a j)
    = (Host.sort2 S1x8x32x32 3 (fun l r => FloatOps.cmpfTotal (F := Ideal) (φ := .f32) .gt l.1 r.1) X (fun i => if hd : 3 < S1x8x32x32.rank then iotaInDim S1x8x32x32 32 ⟨3, hd⟩ i else 0#32)).2 (ix4 0 kv a ⟨j.val, by omega⟩) := by
    unfold Host.topK
    pointwise []
  rw [e]
  unfold Host.sort2
  rw [dif_pos (by decide : 3 < S1x8x32x32.rank)]
  dsimp only
  rw [dif_pos (by decide : 3 < S1x8x32x32.rank)]
  have hB : (fun k k' : Fin 32 => (FloatOps.cmpfTotal (F := Ideal) (φ := .f32) .gt (X ((ix4 0 kv a ⟨j.val, by omega⟩ : S1x8x32x32.Idx).along (3 : Fin 4) k))
      (X ((ix4 0 kv a ⟨j.val, by omega⟩ : S1x8x32x32.Idx).along (3 : Fin 4) k')) : BitVec 1) == 1#1) = gtB X kv a := by
    funext k k'
    rw [al _ k rfl, al _ k' rfl]
    rfl
  rw [iota_along]
  refine congrArg (BitVec.ofNat 32) (congrArg Fin.val ?_)
  exact congrArg₂ (sortedFrom (n := 32)) hB rfl

theorem gtB_eq (X : FVec Ideal S1x8x32x32 .f32) (kv : Fin 8) (a : Fin 32) (k k' : Fin 32) :
    gtB X kv a k k' = decide ((X (ix4 0 kv a k') : EReal) < X (ix4 0 kv a k)) := by
  show (BitVec.ofBool (decide ((X (ix4 0 kv a k') : EReal) < X (ix4 0 kv a k))) == 1#1) = _
  cases decide ((X (ix4 0 kv a k') : EReal) < X (ix4 0 kv a k)) <;> rfl

open Idealize.ShloMosaic.Routing (resultIdx?_eq_some scatter_set_hit scatter_set_miss)

abbrev sd : ScatterDims S1x8x32x32 S1x8x32x16x4 S1x8x32x16 := scatter_S1x8x32x32_S1x8x32x16x4_S1x8x32x16_n_0123_0123_4

theorem sd_window (i : S1x8x32x16.Idx) (q : Fin 4) : sd.window i q = 0 := by
  unfold ScatterDims.window
  rw [dif_neg (by revert q; decide)]

theorem sd_start (i : S1x8x32x16.Idx) (idx : IVec S1x8x32x16x4 32) (q : Fin 4) :
    sd.start i idx q = (idx (ix5 ⟨(i 0).val, (i 0).isLt⟩ ⟨(i 1).val, (i 1).isLt⟩ ⟨(i 2).val, (i 2).isLt⟩ ⟨(i 3).val, (i 3).isLt⟩ q)).toInt := by
  unfold ScatterDims.start
  rw [dif_pos (by revert q; decide)]
  congr 2
  funext b
  match b with
  | ⟨0, _⟩ => rfl
  | ⟨1, _⟩ => rfl
  | ⟨2, _⟩ => rfl
  | ⟨3, _⟩ => rfl
  | ⟨4, _⟩ => fin_cases q <;> rfl

theorem sd_lands (idx : IVec S1x8x32x16x4 32) (i : S1x8x32x16.Idx) (kv : Fin 8) (a b : Fin 32) :
    sd.resultIdx? i idx = some (ix4 0 kv a b) ↔
      (idx (ix5 ⟨(i 0).val, (i 0).isLt⟩ ⟨(i 1).val, (i 1).isLt⟩ ⟨(i 2).val, (i 2).isLt⟩ ⟨(i 3).val, (i 3).isLt⟩ 0)).toInt = 0
      ∧ (idx (ix5 ⟨(i 0).val, (i 0).isLt⟩ ⟨(i 1).val, (i 1).isLt⟩ ⟨(i 2).val, (i 2).isLt⟩ ⟨(i 3).val, (i 3).isLt⟩ 1)).toInt = kv.val
      ∧ (idx (ix5 ⟨(i 0).val, (i 0).isLt⟩ ⟨(i 1).val, (i 1).isLt⟩ ⟨(i 2).val, (i 2).isLt⟩ ⟨(i 3).val, (i 3).isLt⟩ 2)).toInt = a.val
      ∧ (idx (ix5 ⟨(i 0).val, (i 0).isLt⟩ ⟨(i 1).val, (i 1).isLt⟩ ⟨(i 2).val, (i 2).isLt⟩ ⟨(i 3).val, (i 3).isLt⟩ 3)).toInt = b.val := by
  rw [resultIdx?_eq_some]
  simp only [sd_window, sd_start, Nat.cast_zero, add_zero]
  constructor
  · intro h; exact ⟨h 0, h 1, h 2, h 3⟩
  · rintro ⟨h0, h1, h2, h3⟩ q
    match q with
    | ⟨0, _⟩ => exact h0
    | ⟨1, _⟩ => exact h1
    | ⟨2, _⟩ => exact h2
    | ⟨3, _⟩ => exact h3

/-- A scatter of ones at `(0, k, a, J k a j)` for all `k`, `a` and `j`. -/
theorem scatter_ones (idx : IVec S1x8x32x16x4 32) (J : Fin 8 → Fin 32 → Fin 16 → Fin 32)
    (h0 : ∀ k a j, idx (ix5 0 k a j 0) = 0#32) (h1 : ∀ (k : Fin 8) a j, idx (ix5 0 k a j 1) = BitVec.ofNat 32 k.val)
    (h2 : ∀ k (a : Fin 32) j, idx (ix5 0 k a j 2) = BitVec.ofNat 32 a.val) (h3 : ∀ k a j, idx (ix5 0 k a j 3) = BitVec.ofNat 32 (J k a j).val)
    (x0 : IVec S1x8x32x32 1) (hx : ∀ i, x0 i = 0#1) (upd : IVec S1x8x32x16 1) (hu : ∀ i, upd i = 1#1) (kv : Fin 8) (a b : Fin 32) :
    Host.scatter sd (fun _ b => b) x0 idx upd (ix4 0 kv a b) = BitVec.ofBool (decide (∃ j, J kv a j = b)) := by
  have ti : ∀ n : ℕ, n < 32 → (BitVec.ofNat 32 n).toInt = n := by
    intro n hn
    have : ∀ n : Fin 32, (BitVec.ofNat 32 n.val).toInt = n.val := by decide +kernel
    exact this ⟨n, hn⟩
  by_cases h : ∃ j, J kv a j = b
  · obtain ⟨j, hj⟩ := h
    rw [decide_eq_true ⟨j, hj⟩]
    refine (scatter_set_hit sd x0 idx upd (ix4 0 kv a b) 1#1 (fun k _ => hu k) (ix4 0 kv a j) ?_)
    rw [sd_lands]
    refine ⟨?_, ?_, ?_, ?_⟩
    · exact (congrArg BitVec.toInt (h0 kv a j)).trans rfl
    · exact (congrArg BitVec.toInt (h1 kv a j)).trans (ti _ (by omega))
    · exact (congrArg BitVec.toInt (h2 kv a j)).trans (ti _ (by omega))
    · exact (congrArg BitVec.toInt (h3 kv a j)).trans ((ti _ (by omega)).trans (by rw [hj]))
  · rw [decide_eq_false h]
    refine (scatter_set_miss sd x0 idx upd (ix4 0 kv a b) fun i hi => h ?_).trans (hx _)
    rw [sd_lands] at hi
    obtain ⟨_, q1, q2, q3⟩ := hi
    have e0 : (⟨(i 0).val, (i 0).isLt⟩ : Fin 1) = 0 := Subsingleton.elim _ _
    rw [e0] at q1 q2 q3
    have b1 : (i 1).val < 8 := (i 1).isLt
    have r1 : (i 1).val = kv.val := by
      have := (congrArg BitVec.toInt (h1 ⟨(i 1).val, (i 1).isLt⟩ ⟨(i 2).val, (i 2).isLt⟩ ⟨(i 3).val, (i 3).isLt⟩)).symm.trans q1
      rw [ti _ (by simp only; omega)] at this
      exact_mod_cast this
    have r2 : (i 2).val = a.val := by
      have := (congrArg BitVec.toInt (h2 ⟨(i 1).val, (i 1).isLt⟩ ⟨(i 2).val, (i 2).isLt⟩ ⟨(i 3).val, (i 3).isLt⟩)).symm.trans q2
      rw [ti _ (i 2).isLt] at this
      exact_mod_cast this
    have r3 : (J ⟨(i 1).val, (i 1).isLt⟩ ⟨(i 2).val, (i 2).isLt⟩ ⟨(i 3).val, (i 3).isLt⟩).val = b.val := by
      have := (congrArg BitVec.toInt (h3 ⟨(i 1).val, (i 1).isLt⟩ ⟨(i 2).val, (i 2).isLt⟩ ⟨(i 3).val, (i 3).isLt⟩)).symm.trans q3
      rw [ti _ (by omega)] at this
      exact_mod_cast this
    have c1 : (⟨(i 1).val, (i 1).isLt⟩ : Fin 8) = kv := Fin.ext r1
    have c2 : (⟨(i 2).val, (i 2).isLt⟩ : Fin 32) = a := Fin.ext r2
    rw [c1, c2] at r3
    exact ⟨⟨(i 3).val, (i 3).isLt⟩, Fin.ext r3⟩

end Cert.ReferenceIdeal.Own
end
-- ==== Proof.V.Ref2.lean ====
/- The reference: the first softmax and the pooled weights. -/
module

public import proofs.«01_k».proof.Proof.V.Ref1
public import proofs.«01_k».proof.Proof.V.Top
public import proofs.«01_k».proof.Proof.V.Scat
public import Idealize.ShloMosaic.Lib.IdealHost
public import proofs.«01_k».proof.Proof.Gen.ReferenceIdeal.Run
public import Idealize.ShloMosaic.Lib.Pointwise
public import Idealize.ShloMosaic.PureOps.Ideal

@[expose] public section

set_option Elab.async false

noncomputable section

namespace Cert.ReferenceIdeal.Own

open Cert.ReferenceIdeal Cert.ReferenceIdeal.Gen Cert.ReferenceIdeal.Value Idealize.ShloMosaic Idealize.ShloMosaic.TcCoe Idealize.SL.Sem Idealize.ShloMosaic.StableHlo
open Idealize.ShloMosaic (ix1 ix2 ix3 ix4)
open Cert.Attn

variable (V0 : Valuation τ sig (Elt Ideal))
variable (V0 : Valuation τ sig (Elt Ideal))

theorem ti (n : ℕ) (hn : n < 2147483648) : (BitVec.ofNat 32 n).toInt = n := by
  rw [BitVec.toInt_eq_toNat_of_lt (by rw [BitVec.toNat_ofNat]; omega), BitVec.toNat_ofNat]
  exact_mod_cast Nat.mod_eq_of_lt (by omega)

theorem sge_bit (x y : ℕ) (hx : x < 2147483648) (hy : y < 2147483648) :
    IntOp.cmpi .sge (BitVec.ofNat 32 x) (BitVec.ofNat 32 y) = BitVec.ofBool (decide (y ≤ x)) := by
  show BitVec.ofBool (decide ((BitVec.ofNat 32 y).toInt ≤ (BitVec.ofNat 32 x).toInt)) = _
  rw [ti _ hx, ti _ hy]
  simp only [Nat.cast_le]

theorem sge_bit' (x y : ℕ) (hx : x < 2147483648) (hy : y < 2147483648) :
    Scalar.select (IntOp.cmpi .sge (IntOp.addi (BitVec.ofNat 32 x) 0#32) (BitVec.ofNat 32 y)) 1#1 0#1 = BitVec.ofBool (decide (y ≤ x)) := by
  have e : IntOp.addi (BitVec.ofNat 32 x) 0#32 = BitVec.ofNat 32 x := BitVec.add_zero _
  rw [e, sge_bit x y hx hy]
  cases decide (y ≤ x) <;> rfl

theorem v63_at (t u : Fin 2048) : res_main_v63 V0 (ix2 t u) = BitVec.ofBool (decide (u.val ≤ t.val)) := by
  pointwise [res_main_v63]
  exact sge_bit' _ _ (by omega) (by omega)

theorem v81_at (a b : Fin 32) : res_main_v81 V0 (ix2 a b) = BitVec.ofBool (decide (b.val ≤ a.val)) := by
  pointwise [res_main_v81]
  exact sge_bit' _ _ (by omega) (by omega)

theorem ofBits_ninf : Ideal.ofBits .f32 0xFF800000#32 = (⊥ : EReal) := by
  have hn : ((0xFF800000#32 : BitVec 32).extractLsb' 31 1 == 1#1) = true := by decide
  have hx : ((0xFF800000#32 : BitVec 32).extractLsb' 23 8).toNat = 255 := by decide
  have hf : ((0xFF800000#32 : BitVec 32).extractLsb' 0 23).toNat = 0 := by decide
  simp only [Ideal.ofBits, Ideal.ieee, Nat.reduceAdd, hn, hx, hf]
  rfl

theorem v64_at (h : Fin 16) (t u : Fin 2048) : res_main_v64 V0 (ix4 0 h t u) = if u.val ≤ t.val then res_main_v61 V0 (ix4 0 h t u) else (⊥ : EReal) := by
  have := v63_at V0 t u
  generalize hX : (res_main_v61 V0 : FVec Ideal S1x16x2048x2048 .f32) = X at *
  generalize hY : (res_main_v63 V0 : IVec S2048x2048 1) = Y at *
  pointwise [res_main_v64, hX, hY, this]
  exact congrArg (fun z : EReal => if u.val ≤ t.val then (X (ix4 0 h t u) : EReal) else z) ofBits_ninf

def nrowmax (X : FVec Ideal S1x16x2048x2048 .f32) : FVec Ideal S1x16x2048 .f32 :=
  Host.reduce FloatOps.maximumf X (constant (F := Ideal) S_ .f32 0xFF800000#32) reducesTo_S1x16x2048x2048_S1x16x2048_d3 h_S_

theorem nrowmax_at (X : FVec Ideal S1x16x2048x2048 .f32) (h : Fin 16) (t : Fin 2048) : (nrowmax X (ix3 0 h t) : EReal) = (Finset.univ : Finset (Fin 2048)).fold max ⊥ (fun u => (X (ix4 0 h t u) : EReal)) := by
  pointwise [nrowmax]
  rw [ofBits_ninf]

/-- The largest entry of a row of reals and minus infinities that is not empty is real. -/
theorem fold_real (p : Fin 2048 → Prop) [DecidablePred p] (s : Fin 2048 → ℝ) (f : Fin 2048 → EReal) (hf : ∀ u, f u = if p u then (s u : EReal) else ⊥) (u0 : Fin 2048) (h0 : p u0) :
    ∃ M : ℝ, (Finset.univ : Finset (Fin 2048)).fold max ⊥ f = (M : EReal) := by
  have hlt : (Finset.univ : Finset (Fin 2048)).fold max ⊥ f < ⊤ := by
    rw [Finset.fold_max_lt]
    refine ⟨bot_lt_top, fun u _ => ?_⟩
    rw [hf]; split
    · exact EReal.coe_lt_top _
    · exact bot_lt_top
  have hgt : ⊥ < (Finset.univ : Finset (Fin 2048)).fold max ⊥ f := by
    rw [Finset.lt_fold_max]
    refine Or.inr ⟨u0, Finset.mem_univ _, ?_⟩
    rw [hf, if_pos h0]; exact EReal.bot_lt_coe _
  exact ⟨_, (EReal.coe_toReal hlt.ne hgt.ne').symm⟩

def softM (X : FVec Ideal S1x16x2048x2048 .f32) (M : FVec Ideal S1x16x2048 .f32) : FVec Ideal S1x16x2048x2048 .f32 :=
  Host.exp (subf X (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant (F := Ideal) S_ .f32 0xFF800000#32)) M))))

theorem softM_at (X : FVec Ideal S1x16x2048x2048 .f32) (M : FVec Ideal S1x16x2048 .f32) (h : Fin 16) (t u : Fin 2048) :
    softM X M (ix4 0 h t u) = Ideal.exp ((X (ix4 0 h t u) : EReal) - max ⊥ (M (ix3 0 h t) : EReal)) := by
  pointwise [softM]
  rw [ofBits_ninf]

abbrev softE (X : FVec Ideal S1x16x2048x2048 .f32) : FVec Ideal S1x16x2048x2048 .f32 := softM X (nrowmax X)

theorem exp_bot : Ideal.exp ⊥ = 0 := rfl

theorem exp_shift (p : Prop) [Decidable p] (x M : ℝ) :
    Ideal.exp ((if p then (x : EReal) else ⊥) - (M : EReal)) = (((if p then Real.exp x else 0) * Real.exp (-M) : ℝ) : EReal) := by
  by_cases h : p
  · rw [if_pos h, if_pos h, ← EReal.coe_sub, exp_real, sub_eq_add_neg, Real.exp_add]
  · rw [if_neg h, if_neg h, zero_mul, EReal.coe_zero, EReal.bot_sub, exp_bot]

/-- The shifted exponentials of a masked row: the exponentials, all scaled by one positive real. -/
theorem softE_row (X : FVec Ideal S1x16x2048x2048 .f32) (h : Fin 16) (t : Fin 2048) (p : Fin 2048 → Prop) [DecidablePred p] (s : Fin 2048 → ℝ)
    (hf : ∀ u, (X (ix4 0 h t u) : EReal) = if p u then (s u : EReal) else ⊥) (u0 : Fin 2048) (h0 : p u0) :
    ∃ c : ℝ, 0 < c ∧ ∀ u, (softE X (ix4 0 h t u) : EReal) = (((if p u then Real.exp (s u) else 0) * c : ℝ) : EReal) := by
  obtain ⟨M, hM⟩ := fold_real p s _ hf u0 h0
  have hmx : max ⊥ (nrowmax X (ix3 0 h t) : EReal) = (M : EReal) := (max_eq_right bot_le).trans ((nrowmax_at X h t).trans hM)
  refine ⟨Real.exp (-M), Real.exp_pos _, fun u => (softM_at X (nrowmax X) h t u).trans ?_⟩
  rw [hmx, hf u, exp_shift]

def normD (X : FVec Ideal S1x16x2048x2048 .f32) : FVec Ideal S1x16x2048x2048 .f32 :=
  Host.divf X (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd X (constant (F := Ideal) S_ .f32 0x00000000#32) reducesTo_S1x16x2048x2048_S1x16x2048_d3 h_S_)))

theorem normD_at (X : FVec Ideal S1x16x2048x2048 .f32) (h : Fin 16) (t u : Fin 2048) :
    normD X (ix4 0 h t u) = Ideal.div (X (ix4 0 h t u)) (∑ w : Fin 2048, (X (ix4 0 h t w) : EReal)) := by
  pointwise [normD]

/-- The softmax of a masked row. -/
theorem soft_row (X : FVec Ideal S1x16x2048x2048 .f32) (h : Fin 16) (t : Fin 2048) (p : Fin 2048 → Prop) [DecidablePred p] (s : Fin 2048 → ℝ)
    (hf : ∀ u, (X (ix4 0 h t u) : EReal) = if p u then (s u : EReal) else ⊥) (u0 : Fin 2048) (h0 : p u0) (u : Fin 2048) :
    (normD (softE X) (ix4 0 h t u) : EReal) = (((if p u then Real.exp (s u) else 0) / (∑ w : Fin 2048, if p w then Real.exp (s w) else 0) : ℝ) : EReal) := by
  obtain ⟨c, hc, hE⟩ := softE_row X h t p s hf u0 h0
  have hpos : 0 < ∑ w : Fin 2048, if p w then Real.exp (s w) else 0 := by
    refine Finset.sum_pos' (fun w _ => ?_) ⟨u0, Finset.mem_univ _, ?_⟩
    · split
      · exact (Real.exp_pos _).le
      · exact le_rfl
    · rw [if_pos h0]; exact Real.exp_pos _
  rw [normD_at, Finset.sum_congr rfl fun w _ => hE w, hE u, coe_sum, ← Finset.sum_mul, div_real _ _ (mul_pos hpos hc).ne', mul_div_mul_right _ _ hc.ne']

def sumD (X : FVec Ideal S1x16x2048x2048 .f32) : FVec Ideal S1x16x32x32 .f32 :=
  Host.reduceAdd (shapeCast S1x16x32x64x32x64 X shapeCasts_S1x16x2048x2048_S1x16x32x64x32x64) (constant (F := Ideal) S_ .f32 0x00000000#32) reducesTo_S1x16x32x64x32x64_S1x16x32x32_d3_5 h_S_

abbrev jx (h : Fin 16) (a b : Fin 32) (r c : Fin 64) : S1x16x32x64x32x64.Idx := ix6 0 h a r b c

theorem cast6_at (X : FVec Ideal S1x16x2048x2048 .f32) (h : Fin 16) (a b : Fin 32) (r c : Fin 64) :
    shapeCast S1x16x32x64x32x64 X shapeCasts_S1x16x2048x2048_S1x16x32x64x32x64 (ix6 0 h a r b c) = X (ix4 0 h ⟨64 * a.val + r.val, by omega⟩ ⟨64 * b.val + c.val, by omega⟩) := by
  pointwise []
  have e1 : (⟨a.val * 64 + r.val, by omega⟩ : Fin 2048) = ⟨64 * a.val + r.val, by omega⟩ := Fin.ext (by simp only; omega)
  have e2 : (⟨b.val * 64 + c.val, by omega⟩ : Fin 2048) = ⟨64 * b.val + c.val, by omega⟩ := Fin.ext (by simp only; omega)
  rw [e1, e2]

theorem drop6 (i : S1x16x32x64x32x64.Idx) (h : Fin 16) (a b : Fin 32) :
    reducesTo_S1x16x32x64x32x64_S1x16x32x32_d3_5.drop i = ix4 0 h a b ↔ (i 1).val = h.val ∧ (i 2).val = a.val ∧ (i 4).val = b.val := by
  constructor
  · intro e
    exact ⟨congrArg (fun y : S1x16x32x32.Idx => (y 1).val) e, congrArg (fun y : S1x16x32x32.Idx => (y 2).val) e, congrArg (fun y : S1x16x32x32.Idx => (y 3).val) e⟩
  · rintro ⟨h1, h2, h3⟩
    funext q
    match q with
    | ⟨0, _⟩ => exact Subsingleton.elim (α := Fin 1) _ _
    | ⟨1, _⟩ => exact Fin.ext h1
    | ⟨2, _⟩ => exact Fin.ext h2
    | ⟨3, _⟩ => exact Fin.ext h3

theorem sumD_at (X : FVec Ideal S1x16x2048x2048 .f32) (h : Fin 16) (a b : Fin 32) : (sumD X (ix4 0 h a b) : EReal) = ∑ r : Fin 64, ∑ c : Fin 64, (X (ix4 0 h ⟨64 * a.val + r.val, by omega⟩ ⟨64 * b.val + c.val, by omega⟩) : EReal) := by
  simp only [← cast6_at]
  unfold sumD
  generalize shapeCast S1x16x32x64x32x64 X shapeCasts_S1x16x2048x2048_S1x16x32x64x32x64 = Y
  pointwise []
  unfold Ideal.hostReduceAdd
  rw [zero_add, ← Fintype.sum_prod_type']
  refine Finset.sum_bij' (fun i _ => ((⟨(i 3).val, (i 3).isLt⟩ : Fin 64), (⟨(i 5).val, (i 5).isLt⟩ : Fin 64))) (fun rc _ => (ix6 0 h a rc.1 b rc.2 : S1x16x32x64x32x64.Idx)) ?_ ?_ ?_ ?_ ?_
  · intro i _; exact Finset.mem_univ _
  · intro rc _
    rw [Finset.mem_filter, drop6]
    exact ⟨Finset.mem_univ _, rfl, rfl, rfl⟩
  · intro i hi
    rw [Finset.mem_filter, drop6] at hi
    obtain ⟨_, h1, h2, h3⟩ := hi
    funext q
    match q with
    | ⟨0, _⟩ => exact Subsingleton.elim (α := Fin 1) _ _
    | ⟨1, _⟩ => exact Fin.ext h1.symm
    | ⟨2, _⟩ => exact Fin.ext h2.symm
    | ⟨3, _⟩ => rfl
    | ⟨4, _⟩ => exact Fin.ext h3.symm
    | ⟨5, _⟩ => rfl
  · intro rc _; rfl
  · intro i hi
    rw [Finset.mem_filter, drop6] at hi
    obtain ⟨_, h1, h2, h3⟩ := hi
    refine congrArg Y ?_
    funext q
    match q with
    | ⟨0, _⟩ => exact Subsingleton.elim (α := Fin 1) _ _
    | ⟨1, _⟩ => exact Fin.ext h1
    | ⟨2, _⟩ => exact Fin.ext h2
    | ⟨3, _⟩ => rfl
    | ⟨4, _⟩ => exact Fin.ext h3
    | ⟨5, _⟩ => rfl

theorem v71_eq : res_main_v71 V0 = softE (res_main_v64 V0) := rfl

def hmax (Y : FVec Ideal S1x16x32x32 .f32) : FVec Ideal S1x8x32x32 .f32 :=
  Host.reduce FloatOps.maximumf (shapeCast S1x8x2x32x32 Y shapeCasts_S1x16x32x32_S1x8x2x32x32) (constant (F := Ideal) S_ .f32 0xFF800000#32) reducesTo_S1x8x2x32x32_S1x8x32x32_d2 h_S_

theorem fold2 (f : Fin 2 → EReal) : (Finset.univ : Finset (Fin 2)).fold max ⊥ f = max (f 0) (f 1) := by
  rw [show (Finset.univ : Finset (Fin 2)) = {0, 1} from rfl, Finset.fold_insert (by decide), Finset.fold_singleton, max_bot_right]

theorem hmax_at (Y : FVec Ideal S1x16x32x32 .f32) (kv : Fin 8) (a b : Fin 32) :
    (hmax Y (ix4 0 kv a b) : EReal) = max (Y (ix4 0 ⟨2 * kv.val, by omega⟩ a b)) (Y (ix4 0 ⟨2 * kv.val + 1, by omega⟩ a b)) := by
  pointwise [hmax]
  rw [ofBits_ninf, fold2]
  have e1 : (⟨kv.val * 2 + (0 : Fin 2).val, by omega⟩ : Fin 16) = ⟨2 * kv.val, by omega⟩ := Fin.ext (by simp only [Fin.val_zero]; omega)
  have e2 : (⟨kv.val * 2 + (1 : Fin 2).val, by omega⟩ : Fin 16) = ⟨2 * kv.val + 1, by omega⟩ := Fin.ext (by simp only [Fin.val_one]; omega)
  rw [e1, e2]

theorem v82_eq : res_main_v82 V0 = select (broadcastInDim S1x8x32x32 ![2, 3] bcast_S32x32_S1x8x32x32_2_3 (res_main_v81 V0)) (hmax (sumD (normD (res_main_v71 V0))))
    (broadcastInDim S1x8x32x32 ![] bcast_S_S1x8x32x32 (id (constant S_ .f32 0xFF800000#32))) := rfl

variable (hR : AllReal V0)
include hR

theorem v64_real (h : Fin 16) (t u : Fin 2048) : (res_main_v64 V0 (ix4 0 h t u) : EReal) = if u.val ≤ t.val then (Sr V0 h.val t.val u.val : EReal) else ⊥ := by
  rw [v64_at, v61_Sr V0 hR]

theorem soft1_at (h : Fin 16) (t u : Fin 2048) :
    (normD (res_main_v71 V0) (ix4 0 h t u) : EReal) = ((En (Sr V0 h.val) t.val u.val / rowL (Sr V0 h.val) t.val : ℝ) : EReal) := by
  rw [v71_eq, rowL_eq]
  exact soft_row (res_main_v64 V0) h t (fun u => u.val ≤ t.val) (fun u => Sr V0 h.val t.val u.val) (v64_real V0 hR h t) t le_rfl u

theorem pool_at (h : Fin 16) (a b : Fin 32) : (sumD (normD (res_main_v71 V0)) (ix4 0 h a b) : EReal) = ((poolS (Sr V0 h.val) a.val b.val : ℝ) : EReal) := by
  rw [sumD_at]
  unfold poolS rowB
  rw [← coe_sum]
  refine Finset.sum_congr rfl fun r _ => ?_
  rw [Finset.sum_div, ← coe_sum]
  exact Finset.sum_congr rfl fun c _ => soft1_at V0 hR h _ _

theorem v82_at (kv : Fin 8) (a b : Fin 32) :
    (res_main_v82 V0 (ix4 0 kv a b) : EReal) = if b ≤ a then ((poolM (Sr V0 (2 * kv.val)) (Sr V0 (2 * kv.val + 1)) a.val b.val : ℝ) : EReal) else ⊥ := by
  have hm := hmax_at (sumD (normD (res_main_v71 V0))) kv a b
  rw [pool_at V0 hR, pool_at V0 hR, coe_max] at hm
  have h81 := v81_at V0 a b
  rw [v82_eq]
  generalize hX : hmax (sumD (normD (res_main_v71 V0))) = X at *
  generalize hY : (res_main_v81 V0 : IVec S32x32 1) = Y at *
  pointwise [h81]
  refine (congrArg (fun z : EReal => if b.val ≤ a.val then (X (ix4 0 kv a b) : EReal) else z) ofBits_ninf).trans ?_
  rw [hm]
  rfl

end Cert.ReferenceIdeal.Own
end
-- ==== Proof.V.Ref3.lean ====
/- The reference: the kept blocks, the second softmax and the result. -/
module

public import proofs.«01_k».proof.Proof.V.Ref1
public import proofs.«01_k».proof.Proof.V.Top
public import proofs.«01_k».proof.Proof.V.Ref2
public import Idealize.ShloMosaic.Lib.IdealHost
public import proofs.«01_k».proof.Proof.Gen.ReferenceIdeal.Run
public import Idealize.ShloMosaic.Lib.Pointwise
public import Idealize.ShloMosaic.PureOps.Ideal

@[expose] public section

set_option Elab.async false

noncomputable section

namespace Cert.ReferenceIdeal.Own

open Cert.ReferenceIdeal Cert.ReferenceIdeal.Gen Cert.ReferenceIdeal.Value Idealize.ShloMosaic Idealize.ShloMosaic.TcCoe Idealize.SL.Sem Idealize.ShloMosaic.StableHlo
open Idealize.ShloMosaic (ix1 ix2 ix3 ix4)
open Cert.Attn

variable (V0 : Valuation τ sig (Elt Ideal))
variable (V0 : Valuation τ sig (Elt Ideal))

/-- The places the ones are scattered to. -/
def idxA (I : IVec S1x8x32x16 32) : IVec S1x8x32x16x4 32 := (concatenate S1x8x32x16x4 4 [⟨S1x8x32x16x1, ((broadcastInDim S1x8x32x16x1 ![0, 1, 2, 3] bcast_S1x8x32x16_S1x8x32x16x1_0_1_2_3 (broadcastInDim S1x8x32x16 ![0, 1, 2, 3] bcast_S1x1x1x1_S1x8x32x16_0_1_2_3 (select (cmpi .slt (res_main_v85 V0) (broadcastInDim S1x1x1x1 ![] bcast_S_S1x1x1x1 (constantI S_ 32 0#32))) (addi (res_main_v85 V0) (broadcastInDim S1x1x1x1 ![] bcast_S_S1x1x1x1 (constantI S_ 32 1#32))) (res_main_v85 V0)))) : (⟨S1x8x32x16x1, .i32⟩ : BufTy).Contents (Elt Ideal))⟩, ⟨S1x8x32x16x1, ((broadcastInDim S1x8x32x16x1 ![0, 1, 2, 3] bcast_S1x8x32x16_S1x8x32x16x1_0_1_2_3 (broadcastInDim S1x8x32x16 ![0, 1, 2, 3] bcast_S1x8x1x1_S1x8x32x16_0_1_2_3 (select (cmpi .slt (res_main_v87 V0) (broadcastInDim S1x8x1x1 ![] bcast_S_S1x8x1x1 (constantI S_ 32 0#32))) (addi (res_main_v87 V0) (broadcastInDim S1x8x1x1 ![] bcast_S_S1x8x1x1 (constantI S_ 32 8#32))) (res_main_v87 V0)))) : (⟨S1x8x32x16x1, .i32⟩ : BufTy).Contents (Elt Ideal))⟩, ⟨S1x8x32x16x1, ((broadcastInDim S1x8x32x16x1 ![0, 1, 2, 3] bcast_S1x8x32x16_S1x8x32x16x1_0_1_2_3 (broadcastInDim S1x8x32x16 ![0, 1, 2, 3] bcast_S1x1x32x1_S1x8x32x16_0_1_2_3 (select (cmpi .slt (res_main_v89 V0) (broadcastInDim S1x1x32x1 ![] bcast_S_S1x1x32x1 (constantI S_ 32 0#32))) (addi (res_main_v89 V0) (broadcastInDim S1x1x32x1 ![] bcast_S_S1x1x32x1 (constantI S_ 32 32#32))) (res_main_v89 V0)))) : (⟨S1x8x32x16x1, .i32⟩ : BufTy).Contents (Elt Ideal))⟩, ⟨S1x8x32x16x1, ((broadcastInDim S1x8x32x16x1 ![0, 1, 2, 3] bcast_S1x8x32x16_S1x8x32x16x1_0_1_2_3 (select (cmpi .slt (I) (broadcastInDim S1x8x32x16 ![] bcast_S_S1x8x32x16 (constantI S_ 32 0#32))) (addi (I) (broadcastInDim S1x8x32x16 ![] bcast_S_S1x8x32x16 (constantI S_ 32 32#32))) (I))) : (⟨S1x8x32x16x1, .i32⟩ : BufTy).Contents (Elt Ideal))⟩] concatenates_S1x8x32x16x1_S1x8x32x16x1_S1x8x32x16x1_S1x8x32x16x1_S1x8x32x16x4_d4 : (⟨S1x8x32x16x4, .i32⟩ : BufTy).Contents (Elt Ideal))

def scatA (I : IVec S1x8x32x16 32) : IVec S1x8x32x32 1 := Host.scatter scatter_S1x8x32x32_S1x8x32x16x4_S1x8x32x16_n_0123_0123_4 (fun _ b => b) (broadcastInDim S1x8x32x32 ![] bcast_S_S1x8x32x32 (constantI S_ 1 0#1)) (idxA V0 I) (broadcastInDim S1x8x32x16 ![] bcast_S_S1x8x32x16 (constantI S_ 1 1#1))

def nearA : IVec S1x8x32x32 1 := broadcastInDim S1x8x32x32 ![0, 1, 2, 3] bcast_S1x1x32x32_S1x8x32x32_0_1_2_3 (broadcastInDim S1x1x32x32 ![2, 3] bcast_S32x32_S1x1x32x32_2_3 (ori (andi (cmpi .slt (subi (broadcastInDim S32x32 ![0, 1] bcast_S32x1_S32x32_0_1 (res_main_v121 V0)) (broadcastInDim S32x32 ![0, 1] bcast_S1x32_S32x32_0_1 (res_main_v123 V0))) (broadcastInDim S32x32 ![] bcast_S_S32x32 (constantI S_ 32 4#32))) (cmpi .sge (broadcastInDim S32x32 ![0, 1] bcast_S32x1_S32x32_0_1 (res_main_v121 V0)) (broadcastInDim S32x32 ![0, 1] bcast_S1x32_S32x32_0_1 (res_main_v123 V0)))) (broadcastInDim S32x32 ![0, 1] bcast_S1x32_S32x32_0_1 (cmpi .eq (res_main_v123 V0) (broadcastInDim S1x32 ![] bcast_S_S1x32 (constantI S_ 32 0#32))))))

def bitsA (I : IVec S1x8x32x16 32) : IVec S1x8x32x32 1 := andi (ori (scatA V0 I) (nearA V0)) (broadcastInDim S1x8x32x32 ![0, 1, 2, 3] bcast_S1x1x32x32_S1x8x32x32_0_1_2_3 (broadcastInDim S1x1x32x32 ![2, 3] bcast_S32x32_S1x1x32x32_2_3 (res_main_v81 V0)))

def wideA (B : IVec S1x8x32x32 1) : IVec S1x16x2048x2048 1 := shapeCast _ (broadcastInDim S1x16x2048x32x64 ![0, 1, 2, 3] bcast_S1x16x2048x32_S1x16x2048x32x64_0_1_2_3 (shapeCast _ (broadcastInDim S1x16x32x64x32 ![0, 1, 2, 4] bcast_S1x16x32x32_S1x16x32x64x32_0_1_2_4 (shapeCast _ (broadcastInDim S1x8x2x32x32 ![0, 1, 3, 4] bcast_S1x8x32x32_S1x8x2x32x32_0_1_3_4 B) shapeCasts_S1x8x2x32x32_S1x16x32x32)) shapeCasts_S1x16x32x64x32_S1x16x2048x32)) shapeCasts_S1x16x2048x32x64_S1x16x2048x2048

theorem v152_eq : res_main_v152 V0 = select (andi (wideA (bitsA V0 (res_main_indices V0))) (broadcastInDim S1x16x2048x2048 ![0, 1, 2, 3] bcast_S1x1x2048x2048_S1x16x2048x2048_0_1_2_3 (broadcastInDim S1x1x2048x2048 ![2, 3] bcast_S2048x2048_S1x1x2048x2048_2_3 (res_main_v63 V0)))) (res_main_v61 V0) (broadcastInDim S1x16x2048x2048 ![] bcast_S_S1x16x2048x2048 (id (constant (F := Ideal) S_ .f32 0xFF800000#32))) := rfl

theorem wrap0 (n c : ℕ) (hn : n < 2147483648) : Scalar.select (IntOp.cmpi .slt (BitVec.ofNat 32 n) 0#32) (IntOp.addi (BitVec.ofNat 32 n) (BitVec.ofNat 32 c)) (BitVec.ofNat 32 n) = BitVec.ofNat 32 n :=
  Idealize.ShloMosaic.Routing.wrap_of_lt _ _ (by rw [BitVec.toNat_ofNat]; omega)

theorem idxA_0 (I : IVec S1x8x32x16 32) (kv : Fin 8) (a : Fin 32) (j : Fin 16) : idxA V0 I (ix5 0 kv a j 0) = 0#32 := by
  pointwise [idxA, res_main_v85]
  rfl
theorem idxA_1 (I : IVec S1x8x32x16 32) (kv : Fin 8) (a : Fin 32) (j : Fin 16) : idxA V0 I (ix5 0 kv a j 1) = BitVec.ofNat 32 kv.val := by
  pointwise [idxA, res_main_v87]
  exact wrap0 _ _ (by omega)
theorem idxA_2 (I : IVec S1x8x32x16 32) (kv : Fin 8) (a : Fin 32) (j : Fin 16) : idxA V0 I (ix5 0 kv a j 2) = BitVec.ofNat 32 a.val := by
  pointwise [idxA, res_main_v89]
  exact wrap0 _ _ (by omega)
theorem idxA_3 (I : IVec S1x8x32x16 32) (kv : Fin 8) (a : Fin 32) (j : Fin 16) (n : ℕ) (hn : n < 32) (hI : I (ix4 0 kv a j) = BitVec.ofNat 32 n) : idxA V0 I (ix5 0 kv a j 3) = BitVec.ofNat 32 n := by
  pointwise [idxA, hI]
  exact wrap0 _ _ (by omega)

theorem near_bits : ∀ a b : Fin 32, IntOp.ori (IntOp.andi (IntOp.cmpi .slt (IntOp.subi (BitVec.ofNat 32 a.val) (BitVec.ofNat 32 b.val)) 4#32) (IntOp.cmpi .sge (BitVec.ofNat 32 a.val) (BitVec.ofNat 32 b.val))) (IntOp.cmpi .eq (BitVec.ofNat 32 b.val) 0#32)
    = BitVec.ofBool (decide ((a.val < b.val + 4 ∧ b.val ≤ a.val) ∨ b.val = 0)) := by decide +kernel

theorem nearA_at (kv : Fin 8) (a b : Fin 32) : nearA V0 (ix4 0 kv a b) = BitVec.ofBool (decide ((a.val < b.val + 4 ∧ b.val ≤ a.val) ∨ b.val = 0)) := by
  rw [← near_bits]
  pointwise [nearA, res_main_v121, res_main_v123]

theorem wideA_at (B : IVec S1x8x32x32 1) (h : Fin 16) (t u : Fin 2048) : wideA B (ix4 0 h t u) = B (ix4 0 ⟨h.val / 2, by omega⟩ ⟨t.val / 64, by omega⟩ ⟨u.val / 64, by omega⟩) := by
  pointwise [wideA]

theorem ind_at (kv : Fin 8) (a : Fin 32) (j : Fin 16) : (res_main_indices V0 : IVec S1x8x32x16 32) (ix4 0 kv a j) = BitVec.ofNat 32 (sortedFrom (gtB (res_main_v82 V0) kv a) ⟨j.val, by omega⟩).val :=
  topK_at (res_main_v82 V0) kv a j

theorem scatA_at (kv : Fin 8) (a b : Fin 32) : scatA V0 (res_main_indices V0) (ix4 0 kv a b) = BitVec.ofBool (decide (∃ j : Fin 16, sortedFrom (gtB (res_main_v82 V0) kv a) ⟨j.val, by omega⟩ = b)) := by
  unfold scatA
  refine scatter_ones _ (fun kv a j => sortedFrom (gtB (res_main_v82 V0) kv a) ⟨j.val, by omega⟩) (idxA_0 V0 _) (idxA_1 V0 _) (idxA_2 V0 _) ?_ _ ?_ _ ?_ kv a b
  · intro kv a j
    exact idxA_3 V0 _ kv a j _ (Fin.isLt _) (ind_at V0 kv a j)
  · intro i; rfl
  · intro i; rfl

theorem bits_or_and (p q r : Bool) : IntOp.andi (IntOp.ori (BitVec.ofBool p) (BitVec.ofBool q)) (BitVec.ofBool r) = BitVec.ofBool ((p || q) && r) := by
  cases p <;> cases q <;> cases r <;> rfl
theorem bits_and (p q : Bool) : IntOp.andi (BitVec.ofBool p) (BitVec.ofBool q) = BitVec.ofBool (p && q) := by
  cases p <;> cases q <;> rfl

theorem bitsA_at0 (I : IVec S1x8x32x16 32) (kv : Fin 8) (a b : Fin 32) : bitsA V0 I (ix4 0 kv a b) = IntOp.andi (IntOp.ori (scatA V0 I (ix4 0 kv a b)) (nearA V0 (ix4 0 kv a b))) (res_main_v81 V0 (ix2 a b)) := by
  unfold bitsA
  generalize scatA V0 I = X
  generalize nearA V0 = Y
  generalize (res_main_v81 V0 : IVec S32x32 1) = Z
  pointwise []

variable (hR : AllReal V0)
include hR

omit hR
theorem keep_yes (E R N Z L : Prop) (hL : L) (h : E ↔ R) : ((E ∨ ((N ∧ L) ∨ Z)) ∧ L) ↔ (L ∧ (R ∨ N ∨ Z)) := by tauto
theorem keep_no (E R N Z L : Prop) (hL : ¬ L) : ((E ∨ ((N ∧ L) ∨ Z)) ∧ L) ↔ (L ∧ (R ∨ N ∨ Z)) := by tauto
include hR

/-- The blocks the reference keeps are the ones of the specification. -/
theorem bitsA_at (kv : Fin 8) (a b : Fin 32) : bitsA V0 (res_main_indices V0) (ix4 0 kv a b)
    = BitVec.ofBool (decide (keepN (poolM (Sr V0 (2 * kv.val)) (Sr V0 (2 * kv.val + 1)) a.val) a.val b.val)) := by
  rw [bitsA_at0, scatA_at, nearA_at, v81_at, bits_or_and]
  refine congrArg BitVec.ofBool ?_
  rw [Bool.eq_iff_iff]
  simp only [Bool.and_eq_true, Bool.or_eq_true, decide_eq_true_eq]
  unfold keepN
  by_cases hb : b.val ≤ a.val
  · have ht := top_iff (poolM (Sr V0 (2 * kv.val)) (Sr V0 (2 * kv.val + 1)) a.val) a b hb (fun c => (res_main_v82 V0 (ix4 0 kv a c) : EReal))
      (fun c => v82_at V0 hR kv a c) (gtB (res_main_v82 V0) kv a) (fun k k' => gtB_eq _ kv a k k')
    have he : (∃ j : Fin 16, sortedFrom (gtB (res_main_v82 V0) kv a) ⟨j.val, by omega⟩ = b) ↔ (∃ j : Fin 32, j.val < 16 ∧ sortedFrom (gtB (res_main_v82 V0) kv a) j = b) :=
      ⟨fun ⟨j, hj⟩ => ⟨⟨j.val, by omega⟩, j.isLt, hj⟩, fun ⟨j, hl, hj⟩ => ⟨⟨j.val, hl⟩, hj⟩⟩
    exact keep_yes _ _ _ _ _ hb (he.trans ht)
  · exact keep_no _ _ _ _ _ hb

omit hR
theorem sel_and (p q : Prop) [Decidable p] [Decidable q] (x y : EReal) :
    Scalar.select (IntOp.andi (BitVec.ofBool (decide p)) (BitVec.ofBool (decide q))) x y = if p ∧ q then x else y := by
  by_cases hp : p <;> by_cases hq : q
  · rw [if_pos ⟨hp, hq⟩, decide_eq_true hp, decide_eq_true hq]; rfl
  · rw [if_neg fun h => hq h.2, decide_eq_true hp, decide_eq_false hq]; rfl
  · rw [if_neg fun h => hp h.1, decide_eq_false hp, decide_eq_true hq]; rfl
  · rw [if_neg fun h => hp h.1, decide_eq_false hp, decide_eq_false hq]; rfl
include hR

theorem v152_at (h : Fin 16) (t u : Fin 2048) : (res_main_v152 V0 (ix4 0 h t u) : EReal)
    = if keepN (poolM (Sr V0 (2 * (h.val / 2))) (Sr V0 (2 * (h.val / 2) + 1)) (t.val / 64)) (t.val / 64) (u.val / 64) ∧ u.val ≤ t.val then (Sr V0 h.val t.val u.val : EReal) else ⊥ := by
  have hb := bitsA_at V0 hR ⟨h.val / 2, by omega⟩ ⟨t.val / 64, by omega⟩ ⟨u.val / 64, by omega⟩
  have hw := (wideA_at (bitsA V0 (res_main_indices V0)) h t u).trans hb
  have h63 := v63_at V0 t u
  have h61 := v61_Sr V0 hR h t u
  rw [v152_eq]
  generalize wideA (bitsA V0 (res_main_indices V0)) = W at *
  generalize hY : (res_main_v63 V0 : IVec S2048x2048 1) = Y at *
  generalize hX : (res_main_v61 V0 : FVec Ideal S1x16x2048x2048 .f32) = X at *
  simp only at hw
  pointwise [hw, h63, h61]
  exact (sel_and _ _ _ _).trans (congrArg (fun z : EReal => if keepN (poolM (Sr V0 (2 * (h.val / 2))) (Sr V0 (2 * (h.val / 2) + 1)) (t.val / 64)) (t.val / 64) (u.val / 64) ∧ u.val ≤ t.val then (Sr V0 h.val t.val u.val : EReal) else z) ofBits_ninf)

omit hR
theorem v159_eq : res_main_v159 V0 = softE (res_main_v152 V0) := rfl

include hR
theorem soft2_at (h : Fin 16) (t u : Fin 2048) : (normD (res_main_v159 V0) (ix4 0 h t u) : EReal)
    = ((Wn (Sr V0 (2 * (h.val / 2))) (Sr V0 (2 * (h.val / 2) + 1)) (Sr V0 h.val) t.val u.val / rowD (Sr V0 (2 * (h.val / 2))) (Sr V0 (2 * (h.val / 2) + 1)) (Sr V0 h.val) t.val : ℝ) : EReal) := by
  have hW : ∀ u : Fin 2048, (if keepN (poolM (Sr V0 (2 * (h.val / 2))) (Sr V0 (2 * (h.val / 2) + 1)) (t.val / 64)) (t.val / 64) (u.val / 64) ∧ u.val ≤ t.val then Real.exp (Sr V0 h.val t.val u.val) else 0)
      = Wn (Sr V0 (2 * (h.val / 2))) (Sr V0 (2 * (h.val / 2) + 1)) (Sr V0 h.val) t.val u.val := by
    intro u
    unfold Wn En
    rw [ite_and]
  have := soft_row (res_main_v152 V0) h t (fun u => keepN (poolM (Sr V0 (2 * (h.val / 2))) (Sr V0 (2 * (h.val / 2) + 1)) (t.val / 64)) (t.val / 64) (u.val / 64) ∧ u.val ≤ t.val)
    (fun u => Sr V0 h.val t.val u.val) (v152_at V0 hR h t) ⟨0, by omega⟩ ⟨keepN_zero _ _, Nat.zero_le _⟩ u
  rw [v159_eq, this]
  unfold rowD
  simp only [hW]
omit hR

def ctxA (Y : FVec Ideal S1x16x2048x2048 .f32) (A0 : FVec Ideal S1x2048x2048 .f32) (A5 : FVec Ideal S2048x1024 .f32) : FVec Ideal S1x2048x2048 .f32 :=
  shapeCast S1x2048x2048 (transpose S1x2048x16x128 [0, 2, 1, 3] (Host.dotGeneral (F := Ideal) dot_S1x16x2048x2048_S1x16x2048x128_S1x16x2048x128_3_2_2_3_01_01 none Y (shapeCast S1x16x2048x128 (broadcastInDim S1x8x2x2048x128 ![0, 1, 3, 4] bcast_S1x8x2048x128_S1x8x2x2048x128_0_1_3_4 (transpose S1x8x2048x128 [0, 2, 1, 3] (shapeCast S1x2048x8x128 (Host.dotGeneral dot_S1x2048x2048_S2048x1024_S1x2048x1024_2_0_01_1_n_n none A0 A5 : FVec Ideal S1x2048x1024 .f32) shapeCasts_S1x2048x1024_S1x2048x8x128) transposes_S1x2048x8x128_S1x8x2048x128_0_2_1_3)) shapeCasts_S1x8x2x2048x128_S1x16x2048x128)) transposes_S1x16x2048x128_S1x2048x16x128_0_2_1_3) shapeCasts_S1x2048x16x128_S1x2048x2048

theorem ctxA_at (Y : FVec Ideal S1x16x2048x2048 .f32) (A0 : FVec Ideal S1x2048x2048 .f32) (A5 : FVec Ideal S2048x1024 .f32) (t e : Fin 2048) :
    (ctxA Y A0 A5 (ix3 0 t e) : EReal) = ∑ u : Fin 2048, (Y (ix4 0 ⟨e.val / 128, by omega⟩ t u) : EReal) * ∑ x : Fin 2048, (A0 (ix3 0 u x) : EReal) * A5 (ix2 x ⟨128 * (e.val / 256) + e.val % 128, by omega⟩) := by
  have e1 : (⟨e.val / 128 / 2 * 128 + e.val % 128, by omega⟩ : Fin 1024) = ⟨128 * (e.val / 256) + e.val % 128, by omega⟩ := Fin.ext (by simp only; omega)
  rw [← e1]
  pointwise [ctxA]

theorem mul6_at (X : FVec Ideal S1x2048x2048 .f32) (A6 : FVec Ideal S2048x2048 .f32) (t c : Fin 2048) :
    ((Host.dotGeneral dot_S1x2048x2048_S2048x2048_S1x2048x2048_2_0_01_1_n_n none X A6 : FVec Ideal S1x2048x2048 .f32) (ix3 0 t c) : EReal) = ∑ e : Fin 2048, (X (ix3 0 t e) : EReal) * A6 (ix2 e c) := by
  pointwise []

/-- A row of weights over their sum times a column is the quotient of the weighted sum. -/
theorem weights_div (w : Fin 2048 → ℝ) (D : ℝ) (hD : 0 < D) (v : Fin 2048 → EReal) :
    ∑ u, ((w u / D : ℝ) : EReal) * v u = Ideal.div (∑ u, (w u : EReal) * v u) (D : EReal) := by
  have h0 : (D : EReal) ≠ 0 := by exact_mod_cast hD.ne'
  unfold Ideal.div
  rw [if_neg h0, ← EReal.coe_inv, sum_mul_real _ _ _ (inv_pos.2 hD).le]
  refine Finset.sum_congr rfl fun u _ => ?_
  rw [div_eq_mul_inv, EReal.coe_mul, mul_right_comm (G := EReal)]

theorem ctx_eq (hR : AllReal V0) (t e : Fin 2048) :
    (ctxA (normD (res_main_v159 V0)) (a0 V0) (a5 V0) (ix3 0 t e) : EReal) = Cert.KernelIdeal.Own.attF (Qj V0) (Sr V0) (ix2 t e) := by
  rw [ctxA_at]
  have hh : e.val / 128 / 2 = e.val / 256 := by omega
  have hs : ∀ u : Fin 2048, (normD (res_main_v159 V0) (ix4 0 ⟨e.val / 128, by omega⟩ t u) : EReal) = ((Wn (Sr V0 (2 * (e.val / 256))) (Sr V0 (2 * (e.val / 256) + 1)) (Sr V0 (e.val / 128)) t.val u.val / rowD (Sr V0 (2 * (e.val / 256))) (Sr V0 (2 * (e.val / 256) + 1)) (Sr V0 (e.val / 128)) t.val : ℝ) : EReal) := by
    intro u
    have := soft2_at V0 hR ⟨e.val / 128, by omega⟩ t u
    simp only [hh] at this
    exact this
  have hv : ∀ u : Fin 2048, (∑ x : Fin 2048, (a0 V0 (ix3 0 u x) : EReal) * a5 V0 (ix2 x ⟨128 * (e.val / 256) + e.val % 128, by omega⟩)) = Cert.KernelIdeal.Own.vG (Qj V0) (128 * (e.val / 256) + e.val % 128) u.val := by
    intro u
    unfold Cert.KernelIdeal.Own.vG
    rw [dif_pos ⟨u.isLt, by omega⟩]
    exact (Qj_v V0 u ⟨128 * (e.val / 256) + e.val % 128, by omega⟩ _ rfl).symm
  simp only [hs, hv]
  exact weights_div _ _ (rowD_pos _ _ _ _) _

/-- The reference's result is the kernel's. -/
theorem res_eq (hR : AllReal V0) :
    (Host.dotGeneral dot_S1x2048x2048_S2048x2048_S1x2048x2048_2_0_01_1_n_n none (ctxA (normD (res_main_v159 V0)) (a0 V0) (a5 V0)) (a6 V0) : FVec Ideal S1x2048x2048 .f32)
      = Cert.KernelIdeal.Own.kRes (Qj V0) (Sr V0) (a6 V0) := by
  funext y
  have hy : y = ix3 0 ⟨(y 1).val, (y 1).isLt⟩ ⟨(y 2).val, (y 2).isLt⟩ := by
    funext q
    match q with
    | ⟨0, _⟩ => exact Subsingleton.elim (α := Fin 1) _ _
    | ⟨1, _⟩ => rfl
    | ⟨2, _⟩ => rfl
  refine (congrArg _ hy).trans ((mul6_at _ _ _ _).trans ?_)
  unfold Cert.KernelIdeal.Own.kRes Cert.KernelIdeal.Own.mulF
  refine Finset.sum_congr rfl fun e _ => ?_
  exact congrArg (fun z : EReal => z * a6 V0 (ix2 e ⟨(y 2).val, (y 2).isLt⟩)) (ctx_eq V0 hR ⟨(y 1).val, (y 1).isLt⟩ e)

end Cert.ReferenceIdeal.Own
end
-- ==== Proof.V.Final.lean ====
/- The kernel and the reference, from memories that agree on the arguments, end with the same result. -/
module

public import proofs.«01_k».proof.Defs
public import proofs.«01_k».proof.Proof.V.Frames
public import proofs.«01_k».proof.Proof.V.Pre
public import proofs.«01_k».proof.Proof.V.Ref3

@[expose] public section

set_option maxRecDepth 16384

noncomputable section

namespace Cert.Own

open Idealize.ShloMosaic Idealize.SL.Sem Idealize.ShloMosaic.StableHlo
open Cert.ReferenceIdeal.Own Cert.ReferenceIdeal.Value

attribute [local instance] preFacts Cert.Kernel.Gen.facts Cert.KernelIdeal.Gen.facts Cert.ReferenceIdeal.Gen.facts

/-- The result as a function of the reference's starting contents. -/
def out (m' : (ℓ : Loc Cert.ReferenceIdeal.nD Cert.ReferenceIdeal.τ Cert.ReferenceIdeal.sig) → Buf (Elt Ideal) ℓ) (c : Dev Cert.ReferenceIdeal.nD) : FVec Ideal Cert.KernelIdeal.S1x2048x2048 .f32 :=
  Cert.KernelIdeal.Own.kRes (Qj (launchContents m' c)) (Sr (launchContents m' c)) (a6 (launchContents m' c))

theorem same : Cert.algebraic_KernelIdeal_ReferenceIdeal_pre_finite_scores := by
  intro m g m' g' hpre hag
  have hR : ∀ c, AllReal (launchContents m' c) := by
    intro c
    obtain ⟨q0, q1, q2, q3, q4, q7, q8⟩ := pre_real _ _ _ _ _ _ _ _ _ (hpre c)
    obtain ⟨g0, g1, g2, g3, g4, g5, g6, g7, g8⟩ := hag c
    exact ⟨fun i => (congrArg IsR (congrFun g0 i)).mpr (q0 i), fun i => (congrArg IsR (congrFun g1 i)).mpr (q1 i), fun i => (congrArg IsR (congrFun g2 i)).mpr (q2 i),
      fun i => (congrArg IsR (congrFun g3 i)).mpr (q3 i), fun i => (congrArg IsR (congrFun g4 i)).mpr (q4 i), fun i => (congrArg IsR (congrFun g7 i)).mpr (q7 i), fun i => (congrArg IsR (congrFun g8 i)).mpr (q8 i)⟩
  have hQ : ∀ c, Cert.KernelIdeal.Own.V2 m g c Cert.KernelIdeal.main_v5 = Qj (launchContents m' c) := by
    intro c
    obtain ⟨g0, g1, g2, g3, g4, g5, g6, g7, g8⟩ := hag c
    refine (Cert.KernelIdeal.Own.V2_v5 m g c).trans ?_
    rw [← g0, ← g1, ← g2, ← g3, ← g4, ← g5, ← g7, ← g8]
  refine ⟨fun c => out m' c, ?_, ?_⟩
  · refine (θ_run _ _ _).mono (fun r h c => ⟨((h.1 c).1).trans ?_, (h.1 c).2⟩) (Cert.KernelIdeal.Own.run m g)
    refine (Cert.KernelIdeal.Own.W5_v8 m g c (Sr (launchContents m' c)) ?_).trans ?_
    · rw [hQ c]; exact hasScores _ (hR c)
    · rw [hQ c, ← (hag c).2.2.2.2.2.2.1]
      rfl
  · exact (θ_run _ _ _).mono (fun r h c => ⟨((h c).1).trans (res_eq (launchContents m' c) (hR c)), (h c).2⟩) (Cert.ReferenceIdeal.Value.run m' g')

end Cert.Own
end
-- ==== Proof.lean ====
/- The proof of the certificate's claim: the frames, the ledger and the equality with the reference, assembled. -/
module

public import proofs.«01_k».proof.Defs
public import proofs.«01_k».proof.Proof.V.Frames
public import proofs.«01_k».proof.Proof.V.Final

@[expose] public section

noncomputable section

namespace Cert.Proof

theorem claim : Cert.Claim := ⟨Cert.Kernel.Gen.facts, Cert.KernelIdeal.Gen.facts, Cert.ReferenceIdeal.Gen.facts, Cert.Own.preFacts,
  Cert.Own.frame_kernel, Cert.Own.frame_ideal, Cert.Own.frame_ideal_pre, Cert.Own.frame_reference, Cert.Own.frame_reference_pre, Cert.Own.ledger, Cert.Own.same⟩

end Cert.Proof

end
